-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite [hPre_finite : Cert.Pre_finite.Facts] (m : (ℓ : Loc Cert.MlaIdeal.nD Cert.MlaIdeal.τ Cert.MlaIdeal.sig) → Buf (Elt Ideal) ℓ) : Prop :=
  ∀ c : Dev Cert.MlaIdeal.nD,
    (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite [hPre_finite : Cert.Pre_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_Experts [hPre_ranges : Cert.Pre_ranges.Facts] (m : (ℓ : Loc Cert.Experts.nD Cert.Experts.τ Cert.Experts.sig) → Buf (Elt Bits) ℓ) : Prop :=
  ∀ c : Dev Cert.Experts.nD,
    (Cert.Pre_ranges.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_ranges : Cert.Pre_ranges.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_ranges.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal [hPre_ranges : Cert.Pre_ranges.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_ranges.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaIdeal_pre_finite [hMlaIdeal : Cert.MlaIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_MlaRefIdeal_pre_finite [hMlaRefIdeal : Cert.MlaRefIdeal.Facts] [hPre_finite : Cert.Pre_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1)
      ∧ r.2.mem ((c.tc : Thread Cert.QUpRefIdeal.nD Cert.QUpRefIdeal.τ).loc Cert.QUpRefIdeal.main_arg2) = m ((c.tc : Thread Cert.QUpRefIdeal.nD Cert.QUpRefIdeal.τ).loc Cert.QUpRefIdeal.main_arg2))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1)
      ∧ r.2.mem ((c.tc : Thread Cert.KvUpRefIdeal.nD Cert.KvUpRefIdeal.τ).loc Cert.KvUpRefIdeal.main_arg2) = m ((c.tc : Thread Cert.KvUpRefIdeal.nD Cert.KvUpRefIdeal.τ).loc Cert.KvUpRefIdeal.main_arg2))
      ∧ r.2.sem = fun _ => 0)

def quiescent_Experts [hExperts : Cert.Experts.Facts] [hPre_ranges : Cert.Pre_ranges.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_ranges : Cert.Pre_ranges.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] [hPre_ranges : Cert.Pre_ranges.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def preserves_Mla_MlaIdeal : Prop :=
  IdealRules.named_const.Statement Cert.MlaIdeal.κ "qscale" .f32 0x3DD53B95#32 (((Real.sqrt 192)⁻¹ * (Real.log 2)⁻¹ : ℝ) : EReal)
  ∧ IdealRules.named_const.Statement Cert.MlaIdeal.κ "mask" .f32 0xF149F2CA#32 ⊥

def algebraic_MlaIdeal_MlaRefIdeal_pre_finite [hMlaIdeal : Cert.MlaIdeal.Facts] [hMlaRefIdeal : Cert.MlaRefIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)) →
    ∃ (v0 : (c : Dev Cert.MlaIdeal.nD) → Buf (Elt Ideal) ((c.tc : Thread Cert.MlaIdeal.nD Cert.MlaIdeal.τ).loc Cert.MlaIdeal.main_v7)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v7) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v58) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v82) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v10) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v16) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)
      ∧ m' ((c.tc : Thread Cert.QUpRefIdeal.nD Cert.QUpRefIdeal.τ).loc Cert.QUpRefIdeal.main_arg2) = m ((c.tc : Thread Cert.QUpIdeal.nD Cert.QUpIdeal.τ).loc Cert.QUpIdeal.main_arg2)) →
    ∃ (v0 : (c : Dev Cert.QUpIdeal.nD) → Buf (Elt Ideal) ((c.tc : Thread Cert.QUpIdeal.nD Cert.QUpIdeal.τ).loc Cert.QUpIdeal.main_v14)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v14) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v9) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1)
          ∧ r.2.mem ((c.tc : Thread Cert.QUpRefIdeal.nD Cert.QUpRefIdeal.τ).loc Cert.QUpRefIdeal.main_arg2) = m' ((c.tc : Thread Cert.QUpRefIdeal.nD Cert.QUpRefIdeal.τ).loc Cert.QUpRefIdeal.main_arg2))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)
      ∧ m' ((c.tc : Thread Cert.KvUpRefIdeal.nD Cert.KvUpRefIdeal.τ).loc Cert.KvUpRefIdeal.main_arg2) = m ((c.tc : Thread Cert.KvUpIdeal.nD Cert.KvUpIdeal.τ).loc Cert.KvUpIdeal.main_arg2)) →
    ∃ (v0 : (c : Dev Cert.KvUpIdeal.nD) → Buf (Elt Ideal) ((c.tc : Thread Cert.KvUpIdeal.nD Cert.KvUpIdeal.τ).loc Cert.KvUpIdeal.main_v14)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v14) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v10) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1)
          ∧ r.2.mem ((c.tc : Thread Cert.KvUpRefIdeal.nD Cert.KvUpRefIdeal.τ).loc Cert.KvUpRefIdeal.main_arg2) = m' ((c.tc : Thread Cert.KvUpRefIdeal.nD Cert.KvUpRefIdeal.τ).loc Cert.KvUpRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_ranges : Cert.Pre_ranges.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v15)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v15) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v88) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def Claim : Prop :=
  ∃ (hMla : Cert.Mla.Facts) (hMlaIdeal : Cert.MlaIdeal.Facts) (hMlaRefIdeal : Cert.MlaRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hQUp : Cert.QUp.Facts) (hQUpIdeal : Cert.QUpIdeal.Facts) (hQUpRefIdeal : Cert.QUpRefIdeal.Facts) (hKvUp : Cert.KvUp.Facts) (hKvUpIdeal : Cert.KvUpIdeal.Facts) (hKvUpRefIdeal : Cert.KvUpRefIdeal.Facts) (hExperts : Cert.Experts.Facts) (hExpertsIdeal : Cert.ExpertsIdeal.Facts) (hExpertsRefIdeal : Cert.ExpertsRefIdeal.Facts) (hPre_finite : Cert.Pre_finite.Facts) (hPre_ranges : Cert.Pre_ranges.Facts),
    quiescent_Mla (hMla := hMla)
    ∧ quiescent_MlaIdeal (hMlaIdeal := hMlaIdeal)
    ∧ quiescent_MlaIdeal_pre_finite (hMlaIdeal := hMlaIdeal) (hPre_finite := hPre_finite)
    ∧ quiescent_MlaRefIdeal (hMlaRefIdeal := hMlaRefIdeal)
    ∧ quiescent_MlaRefIdeal_pre_finite (hMlaRefIdeal := hMlaRefIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_QUp (hQUp := hQUp)
    ∧ quiescent_QUpIdeal (hQUpIdeal := hQUpIdeal)
    ∧ quiescent_QUpRefIdeal (hQUpRefIdeal := hQUpRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_Experts (hExperts := hExperts) (hPre_ranges := hPre_ranges)
    ∧ quiescent_ExpertsIdeal (hExpertsIdeal := hExpertsIdeal) (hPre_ranges := hPre_ranges)
    ∧ quiescent_ExpertsRefIdeal (hExpertsRefIdeal := hExpertsRefIdeal) (hPre_ranges := hPre_ranges)
    ∧ preserves_Mla_MlaIdeal
    ∧ algebraic_MlaIdeal_MlaRefIdeal_pre_finite (hMlaIdeal := hMlaIdeal) (hMlaRefIdeal := hMlaRefIdeal) (hPre_finite := hPre_finite)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_QUp_QUpIdeal
    ∧ algebraic_QUpIdeal_QUpRefIdeal (hQUpIdeal := hQUpIdeal) (hQUpRefIdeal := hQUpRefIdeal)
    ∧ preserves_KvUp_KvUpIdeal
    ∧ algebraic_KvUpIdeal_KvUpRefIdeal (hKvUpIdeal := hKvUpIdeal) (hKvUpRefIdeal := hKvUpRefIdeal)
    ∧ preserves_Experts_ExpertsIdeal
    ∧ algebraic_ExpertsIdeal_ExpertsRefIdeal (hExpertsIdeal := hExpertsIdeal) (hExpertsRefIdeal := hExpertsRefIdeal) (hPre_ranges := hPre_ranges)
-- ==== Pre_finite.lean ====
abbrev S8192x1536 : Shape := ⟨2, ![8192, 1536]⟩
abbrev S8192x2048 : Shape := ⟨2, ![8192, 2048]⟩
abbrev S8192x64 : Shape := ⟨2, ![8192, 64]⟩
abbrev S4096x32 : Shape := ⟨2, ![4096, 32]⟩
abbrev S_ : Shape := ⟨0, ![]⟩
abbrev S8192x1024 : Shape := ⟨2, ![8192, 1024]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  slices_S8192x2048_S8192x1024_0_0 : S8192x2048.Slices ![0, 0] S8192x1024
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  bcast_S_S8192x64 : S_.BroadcastsInDim S8192x64 (![] : Fin 0 → Fin S8192x64.rank)
  reducesTo_S8192x64_S_d0_1 : S8192x64.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x32 .f32) (main_v16 : IVec S_ 1) (main_v17 : FVec F S4096x32 .f32) : IVec S_ 1 :=
  let main_cst_4 : FVec F S_ .f32 := constant S_ .f32 0x7F800000#32
  let main_v18 : FVec F S4096x32 .f32 := broadcastInDim S4096x32 ![] bcast_S_S4096x32 main_cst_4
  let main_v19 : IVec S4096x32 1 := cmpf .olt main_v17 main_v18
  let main_c_5 : IVec S_ 1 := constantI S_ 1 1#1
  let main_v20 : IVec S_ 1 := (fun x v => Host.reduce IntOp.andi x v reducesTo_S4096x32_S_d0_1 h_S_) main_v19 main_c_5
  let main_v21 : IVec S_ 1 := andi main_v16 main_v20
  let main_v22 : FVec F S4096x32 .f32 := Host.absf main_arg4
  let main_cst_6 : FVec F S_ .f32 := constant S_ .f32 0x7F800000#32
  let main_v23 : FVec F S4096x32 .f32 := broadcastInDim S4096x32 ![] bcast_S_S4096x32 main_cst_6
  let main_v24 : IVec S4096x32 1 := cmpf .olt main_v22 main_v23
  let main_c_7 : IVec S_ 1 := constantI S_ 1 1#1
  let main_v25 : IVec S_ 1 := (fun x v => Host.reduce IntOp.andi x v reducesTo_S4096x32_S_d0_1 h_S_) main_v24 main_c_7
  let main_v26 : IVec S_ 1 := andi main_v21 main_v25
  main_v26

def fn {F : FTy → Type} [FloatOps F] (main_arg0 : FVec F S8192x1536 .f32) (main_arg1 : FVec F S8192x2048 .bf16) (main_arg2 : FVec F S8192x64 .bf16) (main_arg3 : FVec F S4096x32 .f32) (main_arg4 : FVec F S4096x32 .f32) : IVec S_ 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_v4 : FVec F S8192x1024 .bf16 := (extractStridedSlice S8192x1024 ![0, 0] · slices_S8192x2048_S8192x1024_0_0) main_arg1
  let main_v5 : FVec F S8192x1024 .f32 := (extf .f32 · bitsLt_bf16_f32) main_v4
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v3 main_v9
  let main_v11 : FVec F S8192x64 .f32 := (extf .f32 · bitsLt_bf16_f32) main_arg2
  let main_v12 : FVec F S8192x64 .f32 := Host.absf main_v11
  let main_cst_2 : FVec F S_ .f32 := constant S_ .f32 0x7F800000#32
  let main_v13 : FVec F S8192x64 .f32 := broadcastInDim S8192x64 ![] bcast_S_S8192x64 main_cst_2
  let main_v14 : IVec S8192x64 1 := cmpf .olt main_v12 main_v13
  let main_c_3 : IVec S_ 1 := constantI S_ 1 1#1
  let main_v15 : IVec S_ 1 := (fun x v => Host.reduce IntOp.andi x v reducesTo_S8192x64_S_d0_1 h_S_) main_v14 main_c_3
  let main_v16 : IVec S_ 1 := andi main_v10 main_v15
  let main_v17 : FVec F S4096x32 .f32 := Host.absf main_arg3
  fn_part1 (F := F) main_arg4 main_v16 main_v17
-- ==== Pre_ranges.lean ====
abbrev S96 : Shape := ⟨1, ![96]⟩
abbrev S1 : Shape := ⟨1, ![1]⟩
abbrev S24576 : Shape := ⟨1, ![24576]⟩
abbrev S8192x4096 : Shape := ⟨2, ![8192, 4096]⟩
abbrev S2x4x8x4096x512 : Shape := ⟨5, ![2, 4, 8, 4096, 512]⟩
abbrev S2x4x8x512x4096 : Shape := ⟨5, ![2, 4, 8, 512, 4096]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel
  bcast_S_S1 : S_.BroadcastsInDim S1 (![] : Fin 0 → Fin S1.rank)
  reducesTo_S1_S_d0 : S1.ReducesTo [0] S_
  bcast_S_S24576 : S_.BroadcastsInDim S24576 (![] : Fin 0 → Fin S24576.rank)
  reducesTo_S24576_S_d0 : S24576.ReducesTo [0] S_

variable [Facts]

def fn_part1 {F : FTy → Type} [FloatOps F] (main_arg2 : IVec S24576 32) (main_v12 : IVec S_ 1) (main_v14 : IVec S24576 1) (main_v15 : IVec S24576 32) : IVec S_ 1 :=
  let main_v16 : IVec S24576 1 := cmpi .slt main_arg2 main_v15
  let main_v17 : IVec S24576 1 := andi main_v14 main_v16
  let main_c_7 : IVec S_ 1 := constantI S_ 1 1#1
  let main_v18 : IVec S_ 1 := (fun x v => Host.reduce IntOp.andi x v reducesTo_S24576_S_d0 h_S_) main_v17 main_c_7
  let main_v19 : IVec S_ 1 := andi main_v12 main_v18
  main_v19

def fn {F : FTy → Type} [FloatOps F] (main_arg0 : IVec S96 32) (main_arg1 : IVec S1 32) (main_arg2 : IVec S24576 32) (main_arg3 : FVec F S8192x4096 .f32) (main_arg4 : FVec F S2x4x8x4096x512 .f32) (main_arg5 : FVec F S2x4x8x4096x512 .f32) (main_arg6 : FVec F S2x4x8x512x4096 .f32) : IVec S_ 1 :=
  let main_c : IVec S_ 32 := constantI S_ 32 0#32
  let main_v0 : IVec S96 32 := broadcastInDim S96 ![] bcast_S_S96 main_c
  let main_v1 : IVec S96 1 := cmpi .sge main_arg0 main_v0
  let main_c_0 : IVec S_ 32 := constantI S_ 32 32#32
  let main_v2 : IVec S96 32 := broadcastInDim S96 ![] bcast_S_S96 main_c_0
  let main_v3 : IVec S96 1 := cmpi .slt main_arg0 main_v2
  let main_v4 : IVec S96 1 := andi main_v1 main_v3
  let main_c_1 : IVec S_ 1 := constantI S_ 1 1#1
  let main_v5 : IVec S_ 1 := (fun x v => Host.reduce IntOp.andi x v reducesTo_S96_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 97#32
  let main_v8 : IVec S1 32 := broadcastInDim S1 ![] bcast_S_S1 main_c_3
  let main_v9 : IVec S1 1 := cmpi .slt main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  let main_c_5 : IVec S_ 32 := constantI S_ 32 0#32
  let main_v13 : IVec S24576 32 := broadcastInDim S24576 ![] bcast_S_S24576 main_c_5
  let main_v14 : IVec S24576 1 := cmpi .sge main_arg2 main_v13
  let main_c_6 : IVec S_ 32 := constantI S_ 32 8192#32
  let main_v15 : IVec S24576 32 := broadcastInDim S24576 ![] bcast_S_S24576 main_c_6
  fn_part1 (F := F) main_arg2 main_v12 main_v14 main_v15
-- ==== Mla.lean ====
abbrev S8192x1536 : Shape := ⟨2, ![8192, 1536]⟩
abbrev S8192x2048 : Shape := ⟨2, ![8192, 2048]⟩
abbrev S8192x64 : Shape := ⟨2, ![8192, 64]⟩
abbrev S4096x32 : Shape := ⟨2, ![4096, 32]⟩
abbrev S_ : Shape := ⟨0, ![]⟩
abbrev S4096x128 : Shape := ⟨2, ![4096, 128]⟩
abbrev S8192x128 : Shape := ⟨2, ![8192, 128]⟩
abbrev S8192x1024 : Shape := ⟨2, ![8192, 1024]⟩
abbrev S512x128 : Shape := ⟨2, ![512, 128]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S1024x128 : Shape := ⟨2, ![1024, 128]⟩
abbrev S1024x256 : Shape := ⟨2, ![1024, 256]⟩
abbrev S512x1024 : Shape := ⟨2, ![512, 1024]⟩

abbrev nBuf : Space → Nat
  | .hbm => 14
  | .vmem => 21
  | .smem => 0
  | _ => 0

abbrev bufTy : (tb : Table) → Fin (tcTables nBuf tb) → BufTy
  | .hbm, ⟨0, _⟩ => ⟨S8192x1536, .f32⟩
  | .hbm, ⟨1, _⟩ => ⟨S8192x2048, .bf16⟩
  | .hbm, ⟨2, _⟩ => ⟨S8192x64, .bf16⟩
  | .hbm, ⟨3, _⟩ => ⟨S4096x32, .f32⟩
  | .hbm, ⟨4, _⟩ => ⟨S4096x32, .f32⟩
  | .hbm, ⟨5, _⟩ => ⟨S_, .f32⟩
  | .hbm, ⟨6, _⟩ => ⟨S4096x32, .f32⟩
  | .hbm, ⟨7, _⟩ => ⟨S4096x128, .f32⟩
  | .hbm, ⟨8, _⟩ => ⟨S4096x32, .f32⟩
  | .hbm, ⟨9, _⟩ => ⟨S4096x32, .f32⟩
  | .hbm, ⟨10, _⟩ => ⟨S4096x128, .f32⟩
  | .hbm, ⟨11, _⟩ => ⟨S4096x128, .f32⟩
  | .hbm, ⟨12, _⟩ => ⟨S8192x128, .bf16⟩
  | .hbm, ⟨13, _⟩ => ⟨S8192x1024, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S512x256, .bf16⟩
  | .local _ .vmem, ⟨19, _⟩ => ⟨S512x128, .f32⟩
  | .local _ .vmem, ⟨20, _⟩ => ⟨S512x256, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c512_i32 : BitVec 32 := 512#32
  let v66 : BitVec 32 := Scalar.muli arg2 c512_i32
  v66
def k0_off1 (i : grid0.Coords) : Fin 2 → Nat :=
  let arg2 : BitVec 32 := BitVec.ofNat 32 (i 2).val
  let c512_i32 : BitVec 32 := 512#32
  let v66 : BitVec 32 := Scalar.muli arg2 c512_i32
  let v67 : BitVec 32 := v66
  let v68 : Index := Scalar.indexCast v67
  let c0_23 : Index := 0#32
  ![v68.toNat, 0]
@[reducible] def k0_t1_loop (i : grid0.Coords) : Scf.Loop 32 :=
  let c0_i32_45 : BitVec 32 := 0#32
  let arg2 : BitVec 32 := BitVec.ofNat 32 (i 2).val
  let c0_i32_38 : BitVec 32 := 0#32
  let v101 : BitVec 1 := Scalar.cmpi .sgt arg2 c0_i32_38
  let v102 : BitVec 32 := Scalar.extui v101
  let c0_i32_39 : BitVec 32 := 0#32
  let v103 : BitVec 1 := Scalar.cmpi .slt arg2 c0_i32_39
  let v104 : BitVec 32 := Scalar.extui v103
  let v105 : BitVec 32 := Scalar.subi v102 v104
  let c2_i32_37 : BitVec 32 := 2#32
  let c0_i32_40 : BitVec 32 := 0#32
  let v106 : BitVec 1 := Scalar.cmpi .sgt c2_i32_37 c0_i32_40
  let v107 : BitVec 32 := Scalar.extui v106
  let c0_i32_41 : BitVec 32 := 0#32
  let v108 : BitVec 1 := Scalar.cmpi .slt c2_i32_37 c0_i32_41
  let v109 : BitVec 32 := Scalar.extui v108
  let v110 : BitVec 32 := Scalar.subi v107 v109
  let v111 : BitVec 1 := Scalar.cmpi .ne v105 v110
  let v112 : BitVec 32 := Scalar.remsi arg2 c2_i32_37
  let c0_i32_42 : BitVec 32 := 0#32
  let v113 : BitVec 1 := Scalar.cmpi .ne v112 c0_i32_42
  let v114 : BitVec 1 := Scalar.andi v111 v113
  let v100 : BitVec 32 := Scalar.divsi arg2 c2_i32_37
  let c1_i32_43 : BitVec 32 := 1#32
  let v115 : BitVec 32 := Scalar.subi v100 c1_i32_43
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let c1_i32_47 : BitVec 32 := 1#32
  ⟨c0_i32_45, v121, c1_i32_47⟩
def k0_mult2 (i : grid0.Coords) (k0_t1 : Fin (k0_t1_loop i).trips) : BitVec 32 :=
  let c2_i32_63 : BitVec 32 := 2#32
  let c0_i32_45 : BitVec 32 := 0#32
  let c1_i32_47 : BitVec 32 := 1#32
  let arg15 : BitVec 32 := Scf.iv c0_i32_45 c1_i32_47 k0_t1
  let v140 : BitVec 32 := Scalar.muli c2_i32_63 arg15
  let c512_i32_64 : BitVec 32 := 512#32
  let v141 : BitVec 32 := Scalar.muli v140 c512_i32_64
  v141
def k0_off2 (i : grid0.Coords) (k0_t1 : Fin (k0_t1_loop i).trips) : Fin 2 → Nat :=
  let c2_i32_63 : BitVec 32 := 2#32
  let c0_i32_45 : BitVec 32 := 0#32
  let c1_i32_47 : BitVec 32 := 1#32
  let arg15 : BitVec 32 := Scf.iv c0_i32_45 c1_i32_47 k0_t1
  let v140 : BitVec 32 := Scalar.muli c2_i32_63 arg15
  let c512_i32_64 : BitVec 32 := 512#32
  let v141 : BitVec 32 := Scalar.muli v140 c512_i32_64
  let v142 : BitVec 32 := v141
  let v143 : Index := Scalar.indexCast v142
  let c0_65 : Index := 0#32
  ![v143.toNat, 0]
@[reducible] def k0_t2_loop (i : grid0.Coords) : Scf.Loop 32 :=
  let c0_i32_45 : BitVec 32 := 0#32
  let arg2 : BitVec 32 := BitVec.ofNat 32 (i 2).val
  let c0_i32_38 : BitVec 32 := 0#32
  let v101 : BitVec 1 := Scalar.cmpi .sgt arg2 c0_i32_38
  let v102 : BitVec 32 := Scalar.extui v101
  let c0_i32_39 : BitVec 32 := 0#32
  let v103 : BitVec 1 := Scalar.cmpi .slt arg2 c0_i32_39
  let v104 : BitVec 32 := Scalar.extui v103
  let v105 : BitVec 32 := Scalar.subi v102 v104
  let c2_i32_37 : BitVec 32 := 2#32
  let c0_i32_40 : BitVec 32 := 0#32
  let v106 : BitVec 1 := Scalar.cmpi .sgt c2_i32_37 c0_i32_40
  let v107 : BitVec 32 := Scalar.extui v106
  let c0_i32_41 : BitVec 32 := 0#32
  let v108 : BitVec 1 := Scalar.cmpi .slt c2_i32_37 c0_i32_41
  let v109 : BitVec 32 := Scalar.extui v108
  let v110 : BitVec 32 := Scalar.subi v107 v109
  let v111 : BitVec 1 := Scalar.cmpi .ne v105 v110
  let v112 : BitVec 32 := Scalar.remsi arg2 c2_i32_37
  let c0_i32_42 : BitVec 32 := 0#32
  let v113 : BitVec 1 := Scalar.cmpi .ne v112 c0_i32_42
  let v114 : BitVec 1 := Scalar.andi v111 v113
  let v100 : BitVec 32 := Scalar.divsi arg2 c2_i32_37
  let c1_i32_43 : BitVec 32 := 1#32
  let v115 : BitVec 32 := Scalar.subi v100 c1_i32_43
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let v118 : BitVec 32 := Scalar.addi c0_i32_45 v117
  let c1_i32_48 : BitVec 32 := 1#32
  ⟨v121, v118, c1_i32_48⟩
def k0_mult3 (i : grid0.Coords) (k0_t2 : Fin (k0_t2_loop i).trips) : BitVec 32 :=
  let c2_i32_63 : BitVec 32 := 2#32
  let c0_i32_45 : BitVec 32 := 0#32
  let arg2 : BitVec 32 := BitVec.ofNat 32 (i 2).val
  let c0_i32_38 : BitVec 32 := 0#32
  let v101 : BitVec 1 := Scalar.cmpi .sgt arg2 c0_i32_38
  let v102 : BitVec 32 := Scalar.extui v101
  let c0_i32_39 : BitVec 32 := 0#32
  let v103 : BitVec 1 := Scalar.cmpi .slt arg2 c0_i32_39
  let v104 : BitVec 32 := Scalar.extui v103
  let v105 : BitVec 32 := Scalar.subi v102 v104
  let c2_i32_37 : BitVec 32 := 2#32
  let c0_i32_40 : BitVec 32 := 0#32
  let v106 : BitVec 1 := Scalar.cmpi .sgt c2_i32_37 c0_i32_40
  let v107 : BitVec 32 := Scalar.extui v106
  let c0_i32_41 : BitVec 32 := 0#32
  let v108 : BitVec 1 := Scalar.cmpi .slt c2_i32_37 c0_i32_41
  let v109 : BitVec 32 := Scalar.extui v108
  let v110 : BitVec 32 := Scalar.subi v107 v109
  let v111 : BitVec 1 := Scalar.cmpi .ne v105 v110
  let v112 : BitVec 32 := Scalar.remsi arg2 c2_i32_37
  let c0_i32_42 : BitVec 32 := 0#32
  let v113 : BitVec 1 := Scalar.cmpi .ne v112 c0_i32_42
  let v114 : BitVec 1 := Scalar.andi v111 v113
  let v100 : BitVec 32 := Scalar.divsi arg2 c2_i32_37
  let c1_i32_43 : BitVec 32 := 1#32
  let v115 : BitVec 32 := Scalar.subi v100 c1_i32_43
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let c1_i32_48 : BitVec 32 := 1#32
  let arg15 : BitVec 32 := Scf.iv v121 c1_i32_48 k0_t2
  let v140 : BitVec 32 := Scalar.muli c2_i32_63 arg15
  let c512_i32_64 : BitVec 32 := 512#32
  let v141 : BitVec 32 := Scalar.muli v140 c512_i32_64
  v141
def k0_off3 (i : grid0.Coords) (k0_t2 : Fin (k0_t2_loop i).trips) : Fin 2 → Nat :=
  let c2_i32_63 : BitVec 32 := 2#32
  let c0_i32_45 : BitVec 32 := 0#32
  let arg2 : BitVec 32 := BitVec.ofNat 32 (i 2).val
  let c0_i32_38 : BitVec 32 := 0#32
  let v101 : BitVec 1 := Scalar.cmpi .sgt arg2 c0_i32_38
  let v102 : BitVec 32 := Scalar.extui v101
  let c0_i32_39 : BitVec 32 := 0#32
  let v103 : BitVec 1 := Scalar.cmpi .slt arg2 c0_i32_39
  let v104 : BitVec 32 := Scalar.extui v103
  let v105 : BitVec 32 := Scalar.subi v102 v104
  let c2_i32_37 : BitVec 32 := 2#32
  let c0_i32_40 : BitVec 32 := 0#32
  let v106 : BitVec 1 := Scalar.cmpi .sgt c2_i32_37 c0_i32_40
  let v107 : BitVec 32 := Scalar.extui v106
  let c0_i32_41 : BitVec 32 := 0#32
  let v108 : BitVec 1 := Scalar.cmpi .slt c2_i32_37 c0_i32_41
  let v109 : BitVec 32 := Scalar.extui v108
  let v110 : BitVec 32 := Scalar.subi v107 v109
  let v111 : BitVec 1 := Scalar.cmpi .ne v105 v110
  let v112 : BitVec 32 := Scalar.remsi arg2 c2_i32_37
  let c0_i32_42 : BitVec 32 := 0#32
  let v113 : BitVec 1 := Scalar.cmpi .ne v112 c0_i32_42
  let v114 : BitVec 1 := Scalar.andi v111 v113
  let v100 : BitVec 32 := Scalar.divsi arg2 c2_i32_37
  let c1_i32_43 : BitVec 32 := 1#32
  let v115 : BitVec 32 := Scalar.subi v100 c1_i32_43
  let v116 : BitVec 32 := Scalar.select v114 v115 v100
  let v117 : BitVec 32 := Scalar.subi v116 c0_i32_45
  let c1_i32_46 : BitVec 32 := 1#32
  let v119 : BitVec 32 := Scalar.divsi v117 c1_i32_46
  let v120 : BitVec 32 := Scalar.muli v119 c1_i32_46
  let v121 : BitVec 32 := Scalar.addi c0_i32_45 v120
  let c1_i32_48 : BitVec 32 := 1#32
  let arg15 : BitVec 32 := Scf.iv v121 c1_i32_48 k0_t2
  let v140 : BitVec 32 := Scalar.muli c2_i32_63 arg15
  let c512_i32_64 : BitVec 32 := 512#32
  let v141 : BitVec 32 := Scalar.muli v140 c512_i32_64
  let v142 : BitVec 32 := v141
  let v143 : Index := Scalar.indexCast v142
  let c0_65 : Index := 0#32
  ![v143.toNat, 0]
def k0_cond1 (i : grid0.Coords) : BitVec 1 :=
  let arg2 : BitVec 32 := BitVec.ofNat 32 (i 2).val
  let c2_i32_49 : BitVec 32 := 2#32
  let c0_i32_50 : BitVec 32 := 0#32
  let v122 : BitVec 1 := Scalar.cmpi .eq c2_i32_49 c0_i32_50
  let c1_i32_51 : BitVec 32 := 1#32
  let v123 : BitVec 32 := Scalar.select v122 c1_i32_51 c2_i32_49
  let v124 : BitVec 32 := Scalar.remsi arg2 v123
  let c0_i32_53 : BitVec 32 := 0#32
  let v126 : BitVec 1 := Scalar.cmpi .slt v124 c0_i32_53
  let c0_i32_54 : BitVec 32 := 0#32
  let v127 : BitVec 1 := Scalar.cmpi .slt v123 c0_i32_54
  let v128 : BitVec 1 := Scalar.xori v126 v127
  let c0_i32_52 : BitVec 32 := 0#32
  let v125 : BitVec 1 := Scalar.cmpi .ne v124 c0_i32_52
  let v129 : BitVec 1 := Scalar.andi v128 v125
  let v130 : BitVec 32 := Scalar.addi v124 v123
  let v131 : BitVec 32 := Scalar.select v129 v130 v124
  let c1_i32_55 : BitVec 32 := 1#32
  let v132 : BitVec 1 := Scalar.cmpi .eq v131 c1_i32_55
  let v133 : BitVec 32 := Scalar.extui v132
  let c0_i32_56 : BitVec 32 := 0#32
  let v134 : BitVec 1 := Scalar.cmpi .ne v133 c0_i32_56
  v134

def k0_mult4 (i : grid0.Coords) : BitVec 32 :=
  let arg2 : BitVec 32 := BitVec.ofNat 32 (i 2).val
  let c1_i32_63 : BitVec 32 := 1#32
  let v140 : BitVec 32 := Scalar.subi arg2 c1_i32_63
  let c512_i32_64 : BitVec 32 := 512#32
  let v141 : BitVec 32 := Scalar.muli v140 c512_i32_64
  v141
def k0_off4 (i : grid0.Coords) : Fin 2 → Nat :=
  let arg2 : BitVec 32 := BitVec.ofNat 32 (i 2).val
  let c1_i32_63 : BitVec 32 := 1#32
  let v140 : BitVec 32 := Scalar.subi arg2 c1_i32_63
  let c512_i32_64 : BitVec 32 := 512#32
  let v141 : BitVec 32 := Scalar.muli v140 c512_i32_64
  let v142 : BitVec 32 := v141
  let v143 : Index := Scalar.indexCast v142
  let c0_65 : Index := 0#32
  ![v143.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.divsi arg1 c2_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let v19 : BitVec 32 := Scalar.addi c8_i32_4 v18
  let c0_i32_5 : BitVec 32 := 0#32
  ![v1.toNat, v19.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== MlaIdeal.lean ====
variable {F : FTy → Type} [FloatOps F] [Named F]
def κ : String → Option EReal := fun
  | "mask" => some ⊥
  | "qscale" => some (((Real.sqrt 192)⁻¹ * (Real.log 2)⁻¹ : ℝ) : EReal)
  | _ => none
-- ==== MlaRefIdeal.lean ====
abbrev S8192x1536 : Shape := ⟨2, ![8192, 1536]⟩
abbrev S8192x2048 : Shape := ⟨2, ![8192, 2048]⟩
abbrev S8192x64 : Shape := ⟨2, ![8192, 64]⟩
abbrev S4096x32 : Shape := ⟨2, ![4096, 32]⟩
abbrev S8192x1024 : Shape := ⟨2, ![8192, 1024]⟩
abbrev S2x4096x8x128 : Shape := ⟨4, ![2, 4096, 8, 128]⟩
abbrev S8192x512 : Shape := ⟨2, ![8192, 512]⟩
abbrev S2x4096x8x64 : Shape := ⟨4, ![2, 4096, 8, 64]⟩
abbrev S2x4096x8x32 : Shape := ⟨4, ![2, 4096, 8, 32]⟩
abbrev S4096x1x32 : Shape := ⟨3, ![4096, 1, 32]⟩
abbrev S1x4096x1x32 : Shape := ⟨4, ![1, 4096, 1, 32]⟩
abbrev S2x4096x1x64 : Shape := ⟨4, ![2, 4096, 1, 64]⟩
abbrev S2x4096x8x192 : Shape := ⟨4, ![2, 4096, 8, 192]⟩
abbrev S_ : Shape := ⟨0, ![]⟩
abbrev S2x8x4096x4096 : Shape := ⟨4, ![2, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x2048, .bf16⟩
  | .hbm, ⟨2, _⟩ => ⟨S8192x64, .bf16⟩
  | .hbm, ⟨3, _⟩ => ⟨S4096x32, .f32⟩
  | .hbm, ⟨4, _⟩ => ⟨S4096x32, .f32⟩
  | .hbm, ⟨5, _⟩ => ⟨S8192x2048, .f32⟩
  | .hbm, ⟨6, _⟩ => ⟨S8192x1024, .f32⟩
  | .hbm, ⟨7, _⟩ => ⟨S2x4096x8x128, .f32⟩
  | .hbm, ⟨8, _⟩ => ⟨S8192x512, .f32⟩
  | .hbm, ⟨9, _⟩ => ⟨S2x4096x8x64, .f32⟩
  | .hbm, ⟨10, _⟩ => ⟨S8192x1024, .f32⟩
  | .hbm, ⟨11, _⟩ => ⟨S2x4096x8x128, .f32⟩
  | .hbm, ⟨12, _⟩ => ⟨S8192x1024, .f32⟩
  | .hbm, ⟨13, _⟩ => ⟨S2x4096x8x128, .f32⟩
  | .hbm, ⟨14, _⟩ => ⟨S2x4096x8x32, .f32⟩
  | .hbm, ⟨15, _⟩ => ⟨S2x4096x8x32, .f32⟩
  | .hbm, ⟨16, _⟩ => ⟨S4096x1x32, .f32⟩
  | .hbm, ⟨17, _⟩ => ⟨S4096x1x32, .f32⟩
  | .hbm, ⟨18, _⟩ => ⟨S1x4096x1x32, .f32⟩
  | .hbm, ⟨19, _⟩ => ⟨S2x4096x8x32, .f32⟩
  | .hbm, ⟨20, _⟩ => ⟨S2x4096x8x32, .f32⟩
  | .hbm, ⟨21, _⟩ => ⟨S1x4096x1x32, .f32⟩
  | .hbm, ⟨22, _⟩ => ⟨S2x4096x8x32, .f32⟩
  | .hbm, ⟨23, _⟩ => ⟨S2x4096x8x32, .f32⟩
  | .hbm, ⟨24, _⟩ => ⟨S2x4096x8x32, .f32⟩
  | .hbm, ⟨25, _⟩ => ⟨S1x4096x1x32, .f32⟩
  | .hbm, ⟨26, _⟩ => ⟨S2x4096x8x32, .f32⟩
  | .hbm, ⟨27, _⟩ => ⟨S2x4096x8x32, .f32⟩
  | .hbm, ⟨28, _⟩ => ⟨S1x4096x1x32, .f32⟩
  | .hbm, ⟨29, _⟩ => ⟨S2x4096x8x32, .f32⟩
  | .hbm, ⟨30, _⟩ => ⟨S2x4096x8x32, .f32⟩
  | .hbm, ⟨31, _⟩ => ⟨S2x4096x8x32, .f32⟩
  | .hbm, ⟨32, _⟩ => ⟨S2x4096x8x64, .f32⟩
  | .hbm, ⟨33, _⟩ => ⟨S8192x64, .f32⟩
  | .hbm, ⟨34, _⟩ => ⟨S2x4096x1x64, .f32⟩
  | .hbm, ⟨35, _⟩ => ⟨S2x4096x8x64, .f32⟩
  | .hbm, ⟨36, _⟩ => ⟨S2x4096x8x192, .f32⟩
  | .hbm, ⟨37, _⟩ => ⟨S2x4096x8x192, .f32⟩
  | .hbm, ⟨38, _⟩ => ⟨S_, .f32⟩
  | .hbm, ⟨39, _⟩ => ⟨S_, .f32⟩
  | .hbm, ⟨40, _⟩ => ⟨S2x8x4096x4096, .f32⟩
  | .hbm, ⟨41, _⟩ => ⟨S2x8x4096x4096, .f32⟩
  | .hbm, ⟨42, _⟩ => ⟨S2x8x4096x4096, .f32⟩
  | .hbm, ⟨43, _⟩ => ⟨S4096, .i32⟩
  | .hbm, ⟨44, _⟩ => ⟨S1x4096, .i32⟩
  | .hbm, ⟨45, _⟩ => ⟨S4096x1, .i32⟩
  | .hbm, ⟨46, _⟩ => ⟨S4096x4096, .i32⟩
  | .hbm, ⟨47, _⟩ => ⟨S4096x4096, .i32⟩
  | .hbm, ⟨48, _⟩ => ⟨S4096x4096, .i1⟩
  | .hbm, ⟨49, _⟩ => ⟨S_, .f32⟩
  | .hbm, ⟨50, _⟩ => ⟨S_, .f32⟩
  | .hbm, ⟨51, _⟩ => ⟨S2x8x4096x4096, .i1⟩
  | .hbm, ⟨52, _⟩ => ⟨S2x8x4096x4096, .f32⟩
  | .hbm, ⟨53, _⟩ => ⟨S2x8x4096x4096, .f32⟩
  | .hbm, ⟨54, _⟩ => ⟨S_, .f32⟩
  | .hbm, ⟨55, _⟩ => ⟨S2x8x4096, .f32⟩
  | .hbm, ⟨56, _⟩ => ⟨S_, .f32⟩
  | .hbm, ⟨57, _⟩ => ⟨S2x8x4096, .f32⟩
  | .hbm, ⟨58, _⟩ => ⟨S2x8x4096, .f32⟩
  | .hbm, ⟨59, _⟩ => ⟨S2x8x4096x1, .f32⟩
  | .hbm, ⟨60, _⟩ => ⟨S2x8x4096x4096, .f32⟩
  | .hbm, ⟨61, _⟩ => ⟨S2x8x4096x4096, .f32⟩
  | .hbm, ⟨62, _⟩ => ⟨S2x8x4096x4096, .f32⟩
  | .hbm, ⟨63, _⟩ => ⟨S_, .f32⟩
  | .hbm, ⟨64, _⟩ => ⟨S2x8x4096, .f32⟩
  | .hbm, ⟨65, _⟩ => ⟨S2x8x4096x1, .f32⟩
  | .hbm, ⟨66, _⟩ => ⟨S2x8x4096x4096, .f32⟩
  | .hbm, ⟨67, _⟩ => ⟨S2x8x4096x4096, .f32⟩
  | .hbm, ⟨68, _⟩ => ⟨S2x8x128x4096, .f32⟩
  | .hbm, ⟨69, _⟩ => ⟨S2x4096x8x128, .f32⟩
  | .hbm, ⟨70, _⟩ => ⟨S8192x1024, .f32⟩
  | .hbm, ⟨71, _⟩ => ⟨S8192x1024, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_0 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v43 : Ref sig .tc := ⟨.hbm, 53, rfl⟩
abbrev main_cst_1 : Ref sig .tc := ⟨.hbm, 54, rfl⟩
abbrev main_v44 : Ref sig .tc := ⟨.hbm, 55, rfl⟩
abbrev main_cst_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Merge.lean ====
abbrev S8192x4096 : Shape := ⟨2, ![8192, 4096]⟩
abbrev S8192x1024 : Shape := ⟨2, ![8192, 1024]⟩
abbrev S2x4x4096x4096 : Shape := ⟨4, ![2, 4, 4096, 4096]⟩
abbrev S2x4x4096 : Shape := ⟨3, ![2, 4, 4096]⟩
abbrev S2x4x1024x4096 : Shape := ⟨4, ![2, 4, 1024, 4096]⟩
abbrev S8x4096x4096 : Shape := ⟨3, ![8, 4096, 4096]⟩
abbrev S8x1024x4096 : Shape := ⟨3, ![8, 1024, 4096]⟩
abbrev S8x1x4096 : Shape := ⟨3, ![8, 1, 4096]⟩
abbrev S1x8192x1024 : Shape := ⟨3, ![1, 8192, 1024]⟩
abbrev S4x8192x1024 : Shape := ⟨3, ![4, 8192, 1024]⟩
abbrev S1024x4096 : Shape := ⟨2, ![1024, 4096]⟩
abbrev S1x1024x1024 : Shape := ⟨3, ![1, 1024, 1024]⟩
abbrev S1x4096x512 : Shape := ⟨3, ![1, 4096, 512]⟩
abbrev S1x1x512 : Shape := ⟨3, ![1, 1, 512]⟩
abbrev S1x1024x512 : Shape := ⟨3, ![1, 1024, 512]⟩
abbrev S1024x512 : Shape := ⟨2, ![1024, 512]⟩
abbrev S4096x512 : Shape := ⟨2, ![4096, 512]⟩
abbrev S1x512 : Shape := ⟨2, ![1, 512]⟩
abbrev S1024x1024 : Shape := ⟨2, ![1024, 1024]⟩

abbrev nBuf : Space → Nat
  | .hbm => 19
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S2x4x4096x4096, .f32⟩
  | .hbm, ⟨6, _⟩ => ⟨S2x4x4096, .f32⟩
  | .hbm, ⟨7, _⟩ => ⟨S2x4x1024x4096, .f32⟩
  | .hbm, ⟨8, _⟩ => ⟨S2x4x4096x4096, .bf16⟩
  | .hbm, ⟨9, _⟩ => ⟨S8x4096x4096, .bf16⟩
  | .hbm, ⟨10, _⟩ => ⟨S2x4x1024x4096, .bf16⟩
  | .hbm, ⟨11, _⟩ => ⟨S8x1024x4096, .bf16⟩
  | .hbm, ⟨12, _⟩ => ⟨S8x1x4096, .f32⟩
  | .hbm, ⟨13, _⟩ => ⟨S1x8192x1024, .bf16⟩
  | .hbm, ⟨14, _⟩ => ⟨S1x8192x1024, .bf16⟩
  | .hbm, ⟨15, _⟩ => ⟨S1x8192x1024, .bf16⟩
  | .hbm, ⟨16, _⟩ => ⟨S1x8192x1024, .bf16⟩
  | .hbm, ⟨17, _⟩ => ⟨S4x8192x1024, .bf16⟩
  | .hbm, ⟨18, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1x512, .f32⟩
  | .local _ .vmem, ⟨7, _⟩ => ⟨S1x1x512, .f32⟩
  | .local _ .vmem, ⟨8, _⟩ => ⟨S1x1024x512, .bf16⟩
  | .local _ .vmem, ⟨9, _⟩ => ⟨S1x1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 4], ![false, false, false]⟩

def k0_cond3 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_20 : BitVec 32 := 0#32
  let v29 : BitVec 1 := Scalar.cmpi .ne v28 c0_i32_20
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MergeRefIdeal.lean ====
abbrev S8192x4096 : Shape := ⟨2, ![8192, 4096]⟩
abbrev S8192x1024 : Shape := ⟨2, ![8192, 1024]⟩
abbrev S2x4x4096x4096 : Shape := ⟨4, ![2, 4, 4096, 4096]⟩
abbrev S2x4x4096 : Shape := ⟨3, ![2, 4, 4096]⟩
abbrev S2x4x1024x4096 : Shape := ⟨4, ![2, 4, 1024, 4096]⟩
abbrev S_ : Shape := ⟨0, ![]⟩
abbrev S1x1x4096x4096 : Shape := ⟨4, ![1, 1, 4096, 4096]⟩
abbrev S4096x4096 : Shape := ⟨2, ![4096, 4096]⟩
abbrev S1x1x4096 : Shape := ⟨3, ![1, 1, 4096]⟩
abbrev S4096 : Shape := ⟨1, ![4096]⟩
abbrev S1x4096 : Shape := ⟨2, ![1, 4096]⟩
abbrev S1x1x1024x4096 : Shape := ⟨4, ![1, 1, 1024, 4096]⟩
abbrev S1024x4096 : Shape := ⟨2, ![1024, 4096]⟩

abbrev nBuf : Space → Nat
  | .hbm => 100
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S2x4x4096x4096, .f32⟩
  | .hbm, ⟨6, _⟩ => ⟨S2x4x4096, .f32⟩
  | .hbm, ⟨7, _⟩ => ⟨S2x4x1024x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S1x1x4096x4096, .f32⟩
  | .hbm, ⟨12, _⟩ => ⟨S4096x4096, .f32⟩
  | .hbm, ⟨13, _⟩ => ⟨S8192x4096, .f32⟩
  | .hbm, ⟨14, _⟩ => ⟨S1x1x4096, .f32⟩
  | .hbm, ⟨15, _⟩ => ⟨S4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x1024, .f32⟩
  | .hbm, ⟨28, _⟩ => ⟨S1x1x1024x4096, .f32⟩
  | .hbm, ⟨29, _⟩ => ⟨S1024x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S1x1x4096x4096, .f32⟩
  | .hbm, ⟨34, _⟩ => ⟨S4096x4096, .f32⟩
  | .hbm, ⟨35, _⟩ => ⟨S8192x4096, .f32⟩
  | .hbm, ⟨36, _⟩ => ⟨S1x1x4096, .f32⟩
  | .hbm, ⟨37, _⟩ => ⟨S4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x1024, .f32⟩
  | .hbm, ⟨50, _⟩ => ⟨S1x1x1024x4096, .f32⟩
  | .hbm, ⟨51, _⟩ => ⟨S1024x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S1x1x4096x4096, .f32⟩
  | .hbm, ⟨56, _⟩ => ⟨S4096x4096, .f32⟩
  | .hbm, ⟨57, _⟩ => ⟨S8192x4096, .f32⟩
  | .hbm, ⟨58, _⟩ => ⟨S1x1x4096, .f32⟩
  | .hbm, ⟨59, _⟩ => ⟨S4096, .f32⟩
  | .hbm, ⟨60, _⟩ => ⟨S1x4096, .f32⟩
  | .hbm, ⟨61, _⟩ => ⟨S8192x4096, .f32⟩
  | .hbm, ⟨62, _⟩ => ⟨S8192x4096, .f32⟩
  | .hbm, ⟨63, _⟩ => ⟨S8192x4096, .f32⟩
  | .hbm, ⟨64, _⟩ => ⟨S8192x4096, .f32⟩
  | .hbm, ⟨65, _⟩ => ⟨S_, .f32⟩
  | .hbm, ⟨66, _⟩ => ⟨S8192x4096, .f32⟩
  | .hbm, ⟨67, _⟩ => ⟨S8192x4096, .f32⟩
  | .hbm, ⟨68, _⟩ => ⟨S_, .f32⟩
  | .hbm, ⟨69, _⟩ => ⟨S8192x4096, .f32⟩
  | .hbm, ⟨70, _⟩ => ⟨S8192x4096, .f32⟩
  | .hbm, ⟨71, _⟩ => ⟨S8192x1024, .f32⟩
  | .hbm, ⟨72, _⟩ => ⟨S1x1x1024x4096, .f32⟩
  | .hbm, ⟨73, _⟩ => ⟨S1024x4096, .f32⟩
  | .hbm, ⟨74, _⟩ => ⟨S8192x4096, .f32⟩
  | .hbm, ⟨75, _⟩ => ⟨S8192x4096, .f32⟩
  | .hbm, ⟨76, _⟩ => ⟨S8192x4096, .f32⟩
  | .hbm, ⟨77, _⟩ => ⟨S1x1x4096x4096, .f32⟩
  | .hbm, ⟨78, _⟩ => ⟨S4096x4096, .f32⟩
  | .hbm, ⟨79, _⟩ => ⟨S8192x4096, .f32⟩
  | .hbm, ⟨80, _⟩ => ⟨S1x1x4096, .f32⟩
  | .hbm, ⟨81, _⟩ => ⟨S4096, .f32⟩
  | .hbm, ⟨82, _⟩ => ⟨S1x4096, .f32⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S8192x4096, .f32⟩
  | .hbm, ⟨87, _⟩ => ⟨S_, .f32⟩
  | .hbm, ⟨88, _⟩ => ⟨S8192x4096, .f32⟩
  | .hbm, ⟨89, _⟩ => ⟨S8192x4096, .f32⟩
  | .hbm, ⟨90, _⟩ => ⟨S_, .f32⟩
  | .hbm, ⟨91, _⟩ => ⟨S8192x4096, .f32⟩
  | .hbm, ⟨92, _⟩ => ⟨S8192x4096, .f32⟩
  | .hbm, ⟨93, _⟩ => ⟨S8192x1024, .f32⟩
  | .hbm, ⟨94, _⟩ => ⟨S1x1x1024x4096, .f32⟩
  | .hbm, ⟨95, _⟩ => ⟨S1024x4096, .f32⟩
  | .hbm, ⟨96, _⟩ => ⟨S8192x4096, .f32⟩
  | .hbm, ⟨97, _⟩ => ⟨S8192x4096, .f32⟩
  | .hbm, ⟨98, _⟩ => ⟨S8192x4096, .f32⟩
  | .hbm, ⟨99, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_6 : Ref sig .tc := ⟨.hbm, 87, rfl⟩
abbrev main_v72 : Ref sig .tc := ⟨.hbm, 88, rfl⟩
abbrev main_v73 : Ref sig .tc := ⟨.hbm, 89, rfl⟩
abbrev main_cst_7 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩

abbrev nD : Nat := 1
abbrev τ : Topo := Topo.v7x

variable {F : FTy → Type} [FloatOps F]
-- ==== InProj.lean ====
abbrev S8192x4096 : Shape := ⟨2, ![8192, 4096]⟩
abbrev S2x4096x10320 : Shape := ⟨3, ![2, 4096, 10320]⟩
abbrev S2x4096x3072 : Shape := ⟨3, ![2, 4096, 3072]⟩
abbrev S2x4096x4096 : Shape := ⟨3, ![2, 4096, 4096]⟩
abbrev S2x4096x10240 : Shape := ⟨3, ![2, 4096, 10240]⟩
abbrev S_ : Shape := ⟨0, ![]⟩
abbrev S2x4096x48 : Shape := ⟨3, ![2, 4096, 48]⟩
abbrev S2x4096x64 : Shape := ⟨3, ![2, 4096, 64]⟩
abbrev S2x4096x16 : Shape := ⟨3, ![2, 4096, 16]⟩
abbrev S2x4096x128 : Shape := ⟨3, ![2, 4096, 128]⟩
abbrev S8192x10240 : Shape := ⟨2, ![8192, 10240]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩

abbrev nBuf : Space → Nat
  | .hbm => 14
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x10320, .f32⟩
  | .hbm, ⟨2, _⟩ => ⟨S2x4096x3072, .f32⟩
  | .hbm, ⟨3, _⟩ => ⟨S2x4096x4096, .f32⟩
  | .hbm, ⟨4, _⟩ => ⟨S2x4096x3072, .f32⟩
  | .hbm, ⟨5, _⟩ => ⟨S2x4096x10240, .f32⟩
  | .hbm, ⟨6, _⟩ => ⟨S2x4096x10240, .bf16⟩
  | .hbm, ⟨7, _⟩ => ⟨S_, .f32⟩
  | .hbm, ⟨8, _⟩ => ⟨S2x4096x48, .f32⟩
  | .hbm, ⟨9, _⟩ => ⟨S2x4096x64, .f32⟩
  | .hbm, ⟨10, _⟩ => ⟨S2x4096x16, .f32⟩
  | .hbm, ⟨11, _⟩ => ⟨S2x4096x128, .f32⟩
  | .hbm, ⟨12, _⟩ => ⟨S2x4096x128, .bf16⟩
  | .hbm, ⟨13, _⟩ => ⟨S8192x10240, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S512x1024, .f32⟩
  | .local _ .vmem, ⟨5, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x4096 : Shape := ⟨2, ![8192, 4096]⟩
abbrev S2x4096x10320 : Shape := ⟨3, ![2, 4096, 10320]⟩
abbrev S1x4096x10320 : Shape := ⟨3, ![1, 4096, 10320]⟩
abbrev S4096x10320 : Shape := ⟨2, ![4096, 10320]⟩
abbrev S8192x10320 : Shape := ⟨2, ![8192, 10320]⟩
abbrev S8192x1024 : Shape := ⟨2, ![8192, 1024]⟩
abbrev S8192x2048 : Shape := ⟨2, ![8192, 2048]⟩
abbrev S8192x16 : Shape := ⟨2, ![8192, 16]⟩
abbrev S8192x768 : Shape := ⟨2, ![8192, 768]⟩
abbrev S8192x256 : Shape := ⟨2, ![8192, 256]⟩
abbrev S8192x64 : Shape := ⟨2, ![8192, 64]⟩
abbrev S8192x10240 : Shape := ⟨2, ![8192, 10240]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x10320, .f32⟩
  | .hbm, ⟨2, _⟩ => ⟨S8192x4096, .f32⟩
  | .hbm, ⟨3, _⟩ => ⟨S1x4096x10320, .f32⟩
  | .hbm, ⟨4, _⟩ => ⟨S4096x10320, .f32⟩
  | .hbm, ⟨5, _⟩ => ⟨S8192x10320, .f32⟩
  | .hbm, ⟨6, _⟩ => ⟨S8192x1024, .f32⟩
  | .hbm, ⟨7, _⟩ => ⟨S8192x2048, .f32⟩
  | .hbm, ⟨8, _⟩ => ⟨S8192x16, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x768, .f32⟩
  | .hbm, ⟨13, _⟩ => ⟨S8192x256, .f32⟩
  | .hbm, ⟨14, _⟩ => ⟨S8192x64, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x10240, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== OutProj.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S2x4096x4096, .bf16⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S1x4096x4096, .f32⟩
  | .hbm, ⟨4, _⟩ => ⟨S4096x4096, .f32⟩
  | .hbm, ⟨5, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QUp.lean ====
abbrev S8192x768 : Shape := ⟨2, ![8192, 768]⟩
abbrev S2x768x1536 : Shape := ⟨3, ![2, 768, 1536]⟩
abbrev S2x256x2048 : Shape := ⟨3, ![2, 256, 2048]⟩
abbrev S2x768x8x192 : Shape := ⟨4, ![2, 768, 8, 192]⟩
abbrev S2x768x8x128 : Shape := ⟨4, ![2, 768, 8, 128]⟩
abbrev S2x768x1024 : Shape := ⟨3, ![2, 768, 1024]⟩
abbrev S2x768x8x64 : Shape := ⟨4, ![2, 768, 8, 64]⟩
abbrev S2x768x512 : Shape := ⟨3, ![2, 768, 512]⟩
abbrev S2x256x8x256 : Shape := ⟨4, ![2, 256, 8, 256]⟩
abbrev S2x256x8x128 : Shape := ⟨4, ![2, 256, 8, 128]⟩
abbrev S2x256x1024 : Shape := ⟨3, ![2, 256, 1024]⟩
abbrev S8192x1536 : Shape := ⟨2, ![8192, 1536]⟩
abbrev S1024x768 : Shape := ⟨2, ![1024, 768]⟩
abbrev S1x768x512 : Shape := ⟨3, ![1, 768, 512]⟩
abbrev S1024x512 : Shape := ⟨2, ![1024, 512]⟩
abbrev S768x512 : Shape := ⟨2, ![768, 512]⟩

abbrev nBuf : Space → Nat
  | .hbm => 18
  | .vmem => 6
  | .smem => 0
  | _ => 0

abbrev bufTy : (tb : Table) → Fin (tcTables nBuf tb) → BufTy
  | .hbm, ⟨0, _⟩ => ⟨S8192x768, .bf16⟩
  | .hbm, ⟨1, _⟩ => ⟨S2x768x1536, .f32⟩
  | .hbm, ⟨2, _⟩ => ⟨S2x256x2048, .f32⟩
  | .hbm, ⟨3, _⟩ => ⟨S2x768x8x192, .f32⟩
  | .hbm, ⟨4, _⟩ => ⟨S2x768x8x128, .f32⟩
  | .hbm, ⟨5, _⟩ => ⟨S2x768x1024, .f32⟩
  | .hbm, ⟨6, _⟩ => ⟨S2x768x8x64, .f32⟩
  | .hbm, ⟨7, _⟩ => ⟨S2x768x512, .f32⟩
  | .hbm, ⟨8, _⟩ => ⟨S2x768x1536, .f32⟩
  | .hbm, ⟨9, _⟩ => ⟨S2x768x1536, .bf16⟩
  | .hbm, ⟨10, _⟩ => ⟨S2x256x8x256, .f32⟩
  | .hbm, ⟨11, _⟩ => ⟨S2x256x8x128, .f32⟩
  | .hbm, ⟨12, _⟩ => ⟨S2x256x1024, .f32⟩
  | .hbm, ⟨13, _⟩ => ⟨S2x256x8x128, .f32⟩
  | .hbm, ⟨14, _⟩ => ⟨S2x256x1024, .f32⟩
  | .hbm, ⟨15, _⟩ => ⟨S2x256x2048, .f32⟩
  | .hbm, ⟨16, _⟩ => ⟨S2x256x2048, .bf16⟩
  | .hbm, ⟨17, _⟩ => ⟨S8192x1536, .f32⟩
  | .local _ .vmem, ⟨0, _⟩ => ⟨S1024x768, .bf16⟩
  | .local _ .vmem, ⟨1, _⟩ => ⟨S1024x768, .bf16⟩
  | .local _ .vmem, ⟨2, _⟩ => ⟨S1x768x512, .bf16⟩
  | .local _ .vmem, ⟨3, _⟩ => ⟨S1x768x512, .bf16⟩
  | .local _ .vmem, ⟨4, _⟩ => ⟨S1024x512, .f32⟩
  | .local _ .vmem, ⟨5, _⟩ => ⟨S1024x512, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QUpRefIdeal.lean ====
abbrev S8192x768 : Shape := ⟨2, ![8192, 768]⟩
abbrev S2x768x1536 : Shape := ⟨3, ![2, 768, 1536]⟩
abbrev S2x256x2048 : Shape := ⟨3, ![2, 256, 2048]⟩
abbrev S1x768x1536 : Shape := ⟨3, ![1, 768, 1536]⟩
abbrev S768x1536 : Shape := ⟨2, ![768, 1536]⟩
abbrev S8192x1536 : Shape := ⟨2, ![8192, 1536]⟩
abbrev S8192x8x192 : Shape := ⟨3, ![8192, 8, 192]⟩
abbrev S8192x8x128 : Shape := ⟨3, ![8192, 8, 128]⟩
abbrev S8192x8x64 : Shape := ⟨3, ![8192, 8, 64]⟩
abbrev S8192x1024 : Shape := ⟨2, ![8192, 1024]⟩
abbrev S8192x512 : Shape := ⟨2, ![8192, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S2x768x1536, .f32⟩
  | .hbm, ⟨2, _⟩ => ⟨S2x256x2048, .f32⟩
  | .hbm, ⟨3, _⟩ => ⟨S8192x768, .f32⟩
  | .hbm, ⟨4, _⟩ => ⟨S1x768x1536, .f32⟩
  | .hbm, ⟨5, _⟩ => ⟨S768x1536, .f32⟩
  | .hbm, ⟨6, _⟩ => ⟨S8192x1536, .f32⟩
  | .hbm, ⟨7, _⟩ => ⟨S8192x8x192, .f32⟩
  | .hbm, ⟨8, _⟩ => ⟨S8192x8x128, .f32⟩
  | .hbm, ⟨9, _⟩ => ⟨S8192x8x64, .f32⟩
  | .hbm, ⟨10, _⟩ => ⟨S8192x1024, .f32⟩
  | .hbm, ⟨11, _⟩ => ⟨S8192x512, .f32⟩
  | .hbm, ⟨12, _⟩ => ⟨S8192x1536, .f32⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KvUp.lean ====
abbrev S8192x256 : Shape := ⟨2, ![8192, 256]⟩
abbrev S2x768x1536 : Shape := ⟨3, ![2, 768, 1536]⟩
abbrev S2x256x2048 : Shape := ⟨3, ![2, 256, 2048]⟩
abbrev S2x768x8x192 : Shape := ⟨4, ![2, 768, 8, 192]⟩
abbrev S2x768x8x128 : Shape := ⟨4, ![2, 768, 8, 128]⟩
abbrev S2x768x1024 : Shape := ⟨3, ![2, 768, 1024]⟩
abbrev S2x768x8x64 : Shape := ⟨4, ![2, 768, 8, 64]⟩
abbrev S2x768x512 : Shape := ⟨3, ![2, 768, 512]⟩
abbrev S2x256x8x256 : Shape := ⟨4, ![2, 256, 8, 256]⟩
abbrev S2x256x8x128 : Shape := ⟨4, ![2, 256, 8, 128]⟩
abbrev S2x256x1024 : Shape := ⟨3, ![2, 256, 1024]⟩
abbrev S8192x2048 : Shape := ⟨2, ![8192, 2048]⟩
abbrev S1024x256 : Shape := ⟨2, ![1024, 256]⟩
abbrev S1x256x1024 : Shape := ⟨3, ![1, 256, 1024]⟩
abbrev S1024x1024 : Shape := ⟨2, ![1024, 1024]⟩
abbrev S256x1024 : Shape := ⟨2, ![256, 1024]⟩

abbrev nBuf : Space → Nat
  | .hbm => 18
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S2x768x1536, .f32⟩
  | .hbm, ⟨2, _⟩ => ⟨S2x256x2048, .f32⟩
  | .hbm, ⟨3, _⟩ => ⟨S2x768x8x192, .f32⟩
  | .hbm, ⟨4, _⟩ => ⟨S2x768x8x128, .f32⟩
  | .hbm, ⟨5, _⟩ => ⟨S2x768x1024, .f32⟩
  | .hbm, ⟨6, _⟩ => ⟨S2x768x8x64, .f32⟩
  | .hbm, ⟨7, _⟩ => ⟨S2x768x512, .f32⟩
  | .hbm, ⟨8, _⟩ => ⟨S2x768x1536, .f32⟩
  | .hbm, ⟨9, _⟩ => ⟨S2x768x1536, .bf16⟩
  | .hbm, ⟨10, _⟩ => ⟨S2x256x8x256, .f32⟩
  | .hbm, ⟨11, _⟩ => ⟨S2x256x8x128, .f32⟩
  | .hbm, ⟨12, _⟩ => ⟨S2x256x1024, .f32⟩
  | .hbm, ⟨13, _⟩ => ⟨S2x256x8x128, .f32⟩
  | .hbm, ⟨14, _⟩ => ⟨S2x256x1024, .f32⟩
  | .hbm, ⟨15, _⟩ => ⟨S2x256x2048, .f32⟩
  | .hbm, ⟨16, _⟩ => ⟨S2x256x2048, .bf16⟩
  | .hbm, ⟨17, _⟩ => ⟨S8192x2048, .bf16⟩
  | .local _ .vmem, ⟨0, _⟩ => ⟨S1024x256, .bf16⟩
  | .local _ .vmem, ⟨1, _⟩ => ⟨S1024x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .bf16⟩
  | .local _ .vmem, ⟨5, _⟩ => ⟨S1024x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvUpRefIdeal.lean ====
abbrev S8192x256 : Shape := ⟨2, ![8192, 256]⟩
abbrev S2x768x1536 : Shape := ⟨3, ![2, 768, 1536]⟩
abbrev S2x256x2048 : Shape := ⟨3, ![2, 256, 2048]⟩
abbrev S1x256x2048 : Shape := ⟨3, ![1, 256, 2048]⟩
abbrev S256x2048 : Shape := ⟨2, ![256, 2048]⟩
abbrev S8192x2048 : Shape := ⟨2, ![8192, 2048]⟩
abbrev S8192x8x256 : Shape := ⟨3, ![8192, 8, 256]⟩
abbrev S8192x8x128 : Shape := ⟨3, ![8192, 8, 128]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S2x768x1536, .f32⟩
  | .hbm, ⟨2, _⟩ => ⟨S2x256x2048, .f32⟩
  | .hbm, ⟨3, _⟩ => ⟨S8192x256, .f32⟩
  | .hbm, ⟨4, _⟩ => ⟨S1x256x2048, .f32⟩
  | .hbm, ⟨5, _⟩ => ⟨S256x2048, .f32⟩
  | .hbm, ⟨6, _⟩ => ⟨S8192x2048, .f32⟩
  | .hbm, ⟨7, _⟩ => ⟨S8192x8x256, .f32⟩
  | .hbm, ⟨8, _⟩ => ⟨S8192x8x128, .f32⟩
  | .hbm, ⟨9, _⟩ => ⟨S8192x8x128, .f32⟩
  | .hbm, ⟨10, _⟩ => ⟨S8192x1024, .f32⟩
  | .hbm, ⟨11, _⟩ => ⟨S8192x1024, .f32⟩
  | .hbm, ⟨12, _⟩ => ⟨S8192x2048, .f32⟩
  | .hbm, ⟨13, _⟩ => ⟨S8192x2048, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Experts.lean ====
abbrev S96 : Shape := ⟨1, ![96]⟩
abbrev S1 : Shape := ⟨1, ![1]⟩
abbrev S24576 : Shape := ⟨1, ![24576]⟩
abbrev S8192x4096 : Shape := ⟨2, ![8192, 4096]⟩
abbrev S2x4x8x4096x512 : Shape := ⟨5, ![2, 4, 8, 4096, 512]⟩
abbrev S2x4x8x512x4096 : Shape := ⟨5, ![2, 4, 8, 512, 4096]⟩
abbrev S64x4096x512 : Shape := ⟨3, ![64, 4096, 512]⟩
abbrev S64x512x4096 : Shape := ⟨3, ![64, 512, 4096]⟩
abbrev S_ : Shape := ⟨0, ![]⟩
abbrev S96x1 : Shape := ⟨2, ![96, 1]⟩
abbrev S24576x4096 : Shape := ⟨2, ![24576, 4096]⟩
abbrev S1x4096x512 : Shape := ⟨3, ![1, 4096, 512]⟩
abbrev S1x512x4096 : Shape := ⟨3, ![1, 512, 4096]⟩
abbrev S256x4096 : Shape := ⟨2, ![256, 4096]⟩
abbrev S2x256x4096 : Shape := ⟨3, ![2, 256, 4096]⟩
abbrev S2 : Shape := ⟨1, ![2]⟩
abbrev S1x256x4096 : Shape := ⟨3, ![1, 256, 4096]⟩
abbrev S1x4096 : Shape := ⟨2, ![1, 4096]⟩
abbrev S4096x512 : Shape := ⟨2, ![4096, 512]⟩
abbrev S256x512 : Shape := ⟨2, ![256, 512]⟩
abbrev S512x4096 : Shape := ⟨2, ![512, 4096]⟩

abbrev nBuf : Space → Nat
  | .hbm => 23
  | .vmem => 7
  | .smem => 3
  | _ => 0

abbrev bufTy : (tb : Table) → Fin (tcTables nBuf tb) → BufTy
  | .hbm, ⟨0, _⟩ => ⟨S96, .i32⟩
  | .hbm, ⟨1, _⟩ => ⟨S8192x4096, .f32⟩
  | .hbm, ⟨2, _⟩ => ⟨S2x4x8x4096x512, .f32⟩
  | .hbm, ⟨3, _⟩ => ⟨S2x4x8x4096x512, .f32⟩
  | .hbm, ⟨4, _⟩ => ⟨S2x4x8x512x4096, .f32⟩
  | .hbm, ⟨5, _⟩ => ⟨S64x4096x512, .f32⟩
  | .hbm, ⟨6, _⟩ => ⟨S64x4096x512, .f32⟩
  | .hbm, ⟨7, _⟩ => ⟨S64x512x4096, .f32⟩
  | .hbm, ⟨8, _⟩ => ⟨S96, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S96, .i32⟩
  | .hbm, ⟨13, _⟩ => ⟨S96, .i32⟩
  | .hbm, ⟨14, _⟩ => ⟨S_, .i32⟩
  | .hbm, ⟨15, _⟩ => ⟨S96, .i32⟩
  | .hbm, ⟨16, _⟩ => ⟨S96, .i1⟩
  | .hbm, ⟨17, _⟩ => ⟨S_, .i32⟩
  | .hbm, ⟨18, _⟩ => ⟨S96, .i32⟩
  | .hbm, ⟨19, _⟩ => ⟨S96, .i32⟩
  | .hbm, ⟨20, _⟩ => ⟨S96, .i32⟩
  | .hbm, ⟨21, _⟩ => ⟨S96x1, .i32⟩
  | .hbm, ⟨22, _⟩ => ⟨S24576x4096, .f32⟩
  | .local _ .vmem, ⟨0, _⟩ => ⟨S1x4096x512, .f32⟩
  | .local _ .vmem, ⟨1, _⟩ => ⟨S1x4096x512, .f32⟩
  | .local _ .vmem, ⟨2, _⟩ => ⟨S1x512x4096, .f32⟩
  | .local _ .vmem, ⟨3, _⟩ => ⟨S256x4096, .f32⟩
  | .local _ .vmem, ⟨4, _⟩ => ⟨S256x4096, .f32⟩
  | .local _ .vmem, ⟨5, _⟩ => ⟨S2x256x4096, .f32⟩
  | .local _ .vmem, ⟨6, _⟩ => ⟨S256x4096, .bf16⟩
  | .local _ .smem, ⟨0, _⟩ => ⟨S96, .i32⟩
  | .local _ .smem, ⟨1, _⟩ => ⟨S1, .i32⟩
  | .local _ .smem, ⟨2, _⟩ => ⟨S24576, .i32⟩
  | _, _ => ⟨S96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v15 : Ref sig .tc := ⟨.hbm, 22, rfl⟩
abbrev main_v14 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨2, ![96, 1], ![false, false]⟩

abbrev pre0 : Pipeline.Prefetch sig := ⟨3, ![main_v14.idx, main_arg1.idx, main_arg2.idx], fun | 0 => main_v14.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v2 : Index := Scalar.indexCast arg0
  ![v2.toNat]
def k0_cond1 (i : grid0.Coords) : BitVec 1 :=
  let arg1 : BitVec 32 := BitVec.ofNat 32 (i 1).val
  let c0_i32 : BitVec 32 := 0#32
  let v1 : BitVec 1 := Scalar.cmpi .eq arg1 c0_i32
  let arg0 : BitVec 32 := BitVec.ofNat 32 (i 0).val
  let c0_i32_0 : BitVec 32 := 0#32
  let v2 : BitVec 1 := Scalar.cmpi .eq arg0 c0_i32_0
  let v3 : BitVec 1 := Scalar.andi v1 v2
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_5 : BitVec 32 := 0#32
  let c256_i32 : BitVec 32 := 256#32
  let v18 : BitVec 32 := Scalar.addi c0_i32_5 c256_i32
  let c1_i32_6 : BitVec 32 := 1#32
  ⟨c0_i32_5, v18, c1_i32_6⟩
def k0_off2 (k0_t1 : Fin k0_t1_loop.trips) : Fin 1 → Nat :=
  let c0_i32_8 : BitVec 32 := 0#32
  let c0_i32_5 : BitVec 32 := 0#32
  let c1_i32_6 : BitVec 32 := 1#32
  let arg13 : BitVec 32 := Scf.iv c0_i32_5 c1_i32_6 k0_t1
  let v19 : BitVec 32 := Scalar.addi c0_i32_8 arg13
  let v20 : Index := Scalar.indexCast v19
  ![v20.toNat]
def k0_off3 (k0_t1 : Fin k0_t1_loop.trips) : Fin 2 → Nat :=
  let c0_i32_5 : BitVec 32 := 0#32
  let c1_i32_6 : BitVec 32 := 1#32
  let arg13 : BitVec 32 := Scf.iv c0_i32_5 c1_i32_6 k0_t1
  let c0_i32_13 : BitVec 32 := 0#32
  ![arg13.toNat, 0]
def k0_off4 (v21 : BitVec 32) : Fin 2 → Nat :=
  let c0_i32_14 : BitVec 32 := 0#32
  ![v21.toNat, 0]

def k0_chk1 (i : grid0.Coords) (v21 : BitVec 32) : Prop :=
  (∀ (k0_h1 : k0_cond1 i = 1#1), ∀ a, (k0_off4 v21) a + S1x4096.size a ≤ S8192x4096.size a)
theorem k0_off4_inb : ∀ (i : grid0.Coords) (v21 : BitVec 32) (k0_hw1 : k0_chk1 i v21), ∀ (k0_h1 : k0_cond1 i = 1#1), ∀ a, (k0_off4 v21) a + S1x4096.size a ≤ S8192x4096.size a := fun i v21 k0_hw1 k0_h1 => k0_hw1 k0_h1

@[reducible] def k0_t2_loop : Scf.Loop 32 :=
  let c0_i32_12 : BitVec 32 := 0#32
  let c256_i32 : BitVec 32 := 256#32
  let v30 : BitVec 32 := Scalar.addi c0_i32_12 c256_i32
  let c1_i32_13 : BitVec 32 := 1#32
  ⟨c0_i32_12, v30, c1_i32_13⟩
def k0_off5 (i : grid0.Coords) (k0_t2 : Fin k0_t2_loop.trips) : Fin 1 → Nat :=
  let arg0 : BitVec 32 := BitVec.ofNat 32 (i 0).val
  let c1_i32_5 : BitVec 32 := 1#32
  let v18 : BitVec 32 := Scalar.addi arg0 c1_i32_5
  let c256_i32_15 : BitVec 32 := 256#32
  let v31 : BitVec 32 := Scalar.muli v18 c256_i32_15
  let c0_i32_12 : BitVec 32 := 0#32
  let c1_i32_13 : BitVec 32 := 1#32
  let arg13 : BitVec 32 := Scf.iv c0_i32_12 c1_i32_13 k0_t2
  let v32 : BitVec 32 := Scalar.addi v31 arg13
  let v33 : Index := Scalar.indexCast v32
  ![v33.toNat]
def k0_cond2 (i : grid0.Coords) (v0 : BitVec 32) : BitVec 1 :=
  let arg1 : BitVec 32 := BitVec.ofNat 32 (i 1).val
  let c0_i32 : BitVec 32 := 0#32
  let v1 : BitVec 1 := Scalar.cmpi .eq arg1 c0_i32
  let arg0 : BitVec 32 := BitVec.ofNat 32 (i 0).val
  let c1_i32 : BitVec 32 := 1#32
  let v6 : BitVec 32 := Scalar.addi arg0 c1_i32
  let v7 : BitVec 1 := Scalar.cmpi .slt v6 v0
  let v8 : BitVec 1 := Scalar.andi v1 v7
  let v9 : BitVec 32 := Scalar.extui v8
  let c0_i32_2 : BitVec 32 := 0#32
  let v10 : BitVec 1 := Scalar.cmpi .ne v9 c0_i32_2
  v10

def k0_chk2 (i : grid0.Coords) (v0 : BitVec 32) : Prop :=
  (∀ k0_t2 : Fin k0_t2_loop.trips, ∀ (k0_h2 : k0_cond2 i v0 = 1#1), ∀ a, (k0_off5 i k0_t2) a + S1.size a ≤ S24576.size a)
theorem k0_off5_inb : ∀ (i : grid0.Coords) (v0 : BitVec 32) (k0_hw2 : k0_chk2 i v0) (k0_t2 : Fin k0_t2_loop.trips), ∀ (k0_h2 : k0_cond2 i v0 = 1#1), ∀ a, (k0_off5 i k0_t2) a + S1.size a ≤ S24576.size a := fun i v0 k0_hw2 k0_t2 k0_h2 => k0_hw2 k0_t2 k0_h2

def k0_off6 (i : grid0.Coords) : Fin 1 → Nat :=
  let arg0 : BitVec 32 := BitVec.ofNat 32 (i 0).val
  let c1_i32_6 : BitVec 32 := 1#32
  let v19 : BitVec 32 := Scalar.addi arg0 c1_i32_6
  let c2_i32 : BitVec 32 := 2#32
  let c0_i32_7 : BitVec 32 := 0#32
  let v20 : BitVec 1 := Scalar.cmpi .eq c2_i32 c0_i32_7
  let c1_i32_8 : BitVec 32 := 1#32
  let v21 : BitVec 32 := Scalar.select v20 c1_i32_8 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  ![v29.toNat]
def k0_off7 (i : grid0.Coords) : Fin 3 → Nat :=
  let arg0 : BitVec 32 := BitVec.ofNat 32 (i 0).val
  let c1_i32_6 : BitVec 32 := 1#32
  let v19 : BitVec 32 := Scalar.addi arg0 c1_i32_6
  let c2_i32 : BitVec 32 := 2#32
  let c0_i32_7 : BitVec 32 := 0#32
  let v20 : BitVec 1 := Scalar.cmpi .eq c2_i32 c0_i32_7
  let c1_i32_8 : BitVec 32 := 1#32
  let v21 : BitVec 32 := Scalar.select v20 c1_i32_8 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_16 : BitVec 32 := 0#32
  let c0_i32_17 : BitVec 32 := 0#32
  ![v29.toNat, 0, 0]
def k0_off8 (k0_t2 : Fin k0_t2_loop.trips) : Fin 2 → Nat :=
  let c0_i32_12 : BitVec 32 := 0#32
  let c1_i32_13 : BitVec 32 := 1#32
  let arg13 : BitVec 32 := Scf.iv c0_i32_12 c1_i32_13 k0_t2
  let c0_i32_18 : BitVec 32 := 0#32
  ![arg13.toNat, 0]
def k0_off9 (v34 : BitVec 32) : Fin 2 → Nat :=
  let c0_i32_19 : BitVec 32 := 0#32
  ![v34.toNat, 0]

def k0_chk3 (i : grid0.Coords) (v0 : BitVec 32) (v34 : BitVec 32) : Prop :=
  (∀ (k0_h2 : k0_cond2 i v0 = 1#1), ∀ a, (k0_off9 v34) a + S1x4096.size a ≤ S8192x4096.size a)
theorem k0_off9_inb : ∀ (i : grid0.Coords) (v0 : BitVec 32) (v34 : BitVec 32) (k0_hw3 : k0_chk3 i v0 v34), ∀ (k0_h2 : k0_cond2 i v0 = 1#1), ∀ a, (k0_off9 v34) a + S1x4096.size a ≤ S8192x4096.size a := fun i v0 v34 k0_hw3 k0_h2 => k0_hw3 k0_h2

def k0_cond4 (i : grid0.Coords) : BitVec 1 :=
  let arg1 : BitVec 32 := BitVec.ofNat 32 (i 1).val
  let c0_i32 : BitVec 32 := 0#32
  let v1 : BitVec 1 := Scalar.cmpi .eq arg1 c0_i32
  let v18 : BitVec 32 := Scalar.extui v1
  let c0_i32_5 : BitVec 32 := 0#32
  let v19 : BitVec 1 := Scalar.cmpi .ne v18 c0_i32_5
  v19

@[reducible] def k0_t3_loop : Scf.Loop 32 :=
  let c0_i32_30 : BitVec 32 := 0#32
  let c256_i32 : BitVec 32 := 256#32
  let v58 : BitVec 32 := Scalar.addi c0_i32_30 c256_i32
  let c1_i32_31 : BitVec 32 := 1#32
  ⟨c0_i32_30, v58, c1_i32_31⟩
def k0_off10 (i : grid0.Coords) (k0_t3 : Fin k0_t3_loop.trips) : Fin 1 → Nat :=
  let arg0 : BitVec 32 := BitVec.ofNat 32 (i 0).val
  let c256_i32_37 : BitVec 32 := 256#32
  let v66 : BitVec 32 := Scalar.muli arg0 c256_i32_37
  let c0_i32_30 : BitVec 32 := 0#32
  let c1_i32_31 : BitVec 32 := 1#32
  let arg13 : BitVec 32 := Scf.iv c0_i32_30 c1_i32_31 k0_t3
  let v67 : BitVec 32 := Scalar.addi v66 arg13
  let v68 : Index := Scalar.indexCast v67
  ![v68.toNat]
def k0_off11 (i : grid0.Coords) : Fin 1 → Nat :=
  let arg0 : BitVec 32 := BitVec.ofNat 32 (i 0).val
  let c2_i32 : BitVec 32 := 2#32
  let c0_i32_25 : BitVec 32 := 0#32
  let v48 : BitVec 1 := Scalar.cmpi .eq c2_i32 c0_i32_25
  let c1_i32_26 : BitVec 32 := 1#32
  let v49 : BitVec 32 := Scalar.select v48 c1_i32_26 c2_i32
  let v50 : BitVec 32 := Scalar.remsi arg0 v49
  let c0_i32_28 : BitVec 32 := 0#32
  let v52 : BitVec 1 := Scalar.cmpi .slt v50 c0_i32_28
  let c0_i32_29 : BitVec 32 := 0#32
  let v53 : BitVec 1 := Scalar.cmpi .slt v49 c0_i32_29
  let v54 : BitVec 1 := Scalar.xori v52 v53
  let c0_i32_27 : BitVec 32 := 0#32
  let v51 : BitVec 1 := Scalar.cmpi .ne v50 c0_i32_27
  let v55 : BitVec 1 := Scalar.andi v54 v51
  let v56 : BitVec 32 := Scalar.addi v50 v49
  let v57 : BitVec 32 := Scalar.select v55 v56 v50
  ![v57.toNat]
def k0_off12 (i : grid0.Coords) : Fin 3 → Nat :=
  let arg0 : BitVec 32 := BitVec.ofNat 32 (i 0).val
  let c2_i32 : BitVec 32 := 2#32
  let c0_i32_25 : BitVec 32 := 0#32
  let v48 : BitVec 1 := Scalar.cmpi .eq c2_i32 c0_i32_25
  let c1_i32_26 : BitVec 32 := 1#32
  let v49 : BitVec 32 := Scalar.select v48 c1_i32_26 c2_i32
  let v50 : BitVec 32 := Scalar.remsi arg0 v49
  let c0_i32_28 : BitVec 32 := 0#32
  let v52 : BitVec 1 := Scalar.cmpi .slt v50 c0_i32_28
  let c0_i32_29 : BitVec 32 := 0#32
  let v53 : BitVec 1 := Scalar.cmpi .slt v49 c0_i32_29
  let v54 : BitVec 1 := Scalar.xori v52 v53
  let c0_i32_27 : BitVec 32 := 0#32
  let v51 : BitVec 1 := Scalar.cmpi .ne v50 c0_i32_27
  let v55 : BitVec 1 := Scalar.andi v54 v51
  let v56 : BitVec 32 := Scalar.addi v50 v49
  let v57 : BitVec 32 := Scalar.select v55 v56 v50
  let c0_i32_38 : BitVec 32 := 0#32
  let c0_i32_39 : BitVec 32 := 0#32
  ![v57.toNat, 0, 0]
def k0_off13 (k0_t3 : Fin k0_t3_loop.trips) : Fin 2 → Nat :=
  let c0_i32_30 : BitVec 32 := 0#32
  let c1_i32_31 : BitVec 32 := 1#32
  let arg13 : BitVec 32 := Scf.iv c0_i32_30 c1_i32_31 k0_t3
  let c0_i32_40 : BitVec 32 := 0#32
  ![arg13.toNat, 0]
def k0_off14 (v69 : BitVec 32) : Fin 2 → Nat :=
  let c0_i32_41 : BitVec 32 := 0#32
  ![v69.toNat, 0]
def k0_cond3 (i : grid0.Coords) (v0 : BitVec 32) : BitVec 1 :=
  let arg0 : BitVec 32 := BitVec.ofNat 32 (i 0).val
  let v11 : BitVec 1 := Scalar.cmpi .slt arg0 v0
  let v12 : BitVec 32 := Scalar.extui v11
  let c0_i32_3 : BitVec 32 := 0#32
  let v13 : BitVec 1 := Scalar.cmpi .ne v12 c0_i32_3
  v13

def k0_chk4 (i : grid0.Coords) (v0 : BitVec 32) (v69 : BitVec 32) : Prop :=
  (∀ (k0_h3 : k0_cond3 i v0 = 1#1), ∀ (k0_h4 : k0_cond4 i = 1#1), ∀ a, (k0_off14 v69) a + S1x4096.size a ≤ S8192x4096.size a)
theorem k0_off14_inb : ∀ (i : grid0.Coords) (v0 : BitVec 32) (v69 : BitVec 32) (k0_hw4 : k0_chk4 i v0 v69), ∀ (k0_h3 : k0_cond3 i v0 = 1#1), ∀ (k0_h4 : k0_cond4 i = 1#1), ∀ a, (k0_off14 v69) a + S1x4096.size a ≤ S8192x4096.size a := fun i v0 v69 k0_hw4 k0_h3 k0_h4 => k0_hw4 k0_h3 k0_h4

def k0_off15 (i : grid0.Coords) : Fin 3 → Nat :=
  let arg0 : BitVec 32 := BitVec.ofNat 32 (i 0).val
  let c2_i32 : BitVec 32 := 2#32
  let c0_i32_25 : BitVec 32 := 0#32
  let v48 : BitVec 1 := Scalar.cmpi .eq c2_i32 c0_i32_25
  let c1_i32_26 : BitVec 32 := 1#32
  let v49 : BitVec 32 := Scalar.select v48 c1_i32_26 c2_i32
  let v50 : BitVec 32 := Scalar.remsi arg0 v49
  let c0_i32_28 : BitVec 32 := 0#32
  let v52 : BitVec 1 := Scalar.cmpi .slt v50 c0_i32_28
  let c0_i32_29 : BitVec 32 := 0#32
  let v53 : BitVec 1 := Scalar.cmpi .slt v49 c0_i32_29
  let v54 : BitVec 1 := Scalar.xori v52 v53
  let c0_i32_27 : BitVec 32 := 0#32
  let v51 : BitVec 1 := Scalar.cmpi .ne v50 c0_i32_27
  let v55 : BitVec 1 := Scalar.andi v54 v51
  let v56 : BitVec 32 := Scalar.addi v50 v49
  let v57 : BitVec 32 := Scalar.select v55 v56 v50
  let v59 : Index := Scalar.indexCast v57
  let c0_33 : Index := 0#32
  let c0_34 : Index := 0#32
  ![v59.toNat, 0, 0]
def k0_cond5 (i : grid0.Coords) : BitVec 1 :=
  let arg1 : BitVec 32 := BitVec.ofNat 32 (i 1).val
  let c0_i32 : BitVec 32 := 0#32
  let v1 : BitVec 1 := Scalar.cmpi .eq arg1 c0_i32
  let v43 : BitVec 32 := Scalar.extui v1
  let c0_i32_22 : BitVec 32 := 0#32
  let v44 : BitVec 1 := Scalar.cmpi .ne v43 c0_i32_22
  v44

def k0_cond6 (i : grid0.Coords) : BitVec 1 :=
  let arg1 : BitVec 32 := BitVec.ofNat 32 (i 1).val
  let c0_i32_23 : BitVec 32 := 0#32
  let v45 : BitVec 1 := Scalar.cmpi .sgt arg1 c0_i32_23
  let v46 : BitVec 32 := Scalar.extui v45
  let c0_i32_24 : BitVec 32 := 0#32
  let v47 : BitVec 1 := Scalar.cmpi .ne v46 c0_i32_24
  v47

def k0_cond7 (i : grid0.Coords) (v0 : BitVec 32) : BitVec 1 :=
  let arg1 : BitVec 32 := BitVec.ofNat 32 (i 1).val
  let c0_i32 : BitVec 32 := 0#32
  let v1 : BitVec 1 := Scalar.cmpi .eq arg1 c0_i32
  let arg0 : BitVec 32 := BitVec.ofNat 32 (i 0).val
  let v14 : BitVec 1 := Scalar.cmpi .sge arg0 v0
  let v15 : BitVec 1 := Scalar.andi v1 v14
  let v16 : BitVec 32 := Scalar.extui v15
  let c0_i32_4 : BitVec 32 := 0#32
  let v17 : BitVec 1 := Scalar.cmpi .ne v16 c0_i32_4
  v17

def cc0_transform_1 (inb_S1_S1_0 : ∀ a, (![0] : Fin 1 → Nat) a + S1.size a ≤ S1.size a) (numel1_S1 : S1.numel = 1) (k0_off1_inb : ∀ i : grid0.Coords, ∀ a, (k0_off1 i) a + S1.size a ≤ S96.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : Index := Scalar.indexCast arg0
  let v3 : BitVec 32 := pf.at 0 (Rect.unit (s := S96) ![v2.toNat] S1.size (k0_off1_inb i)) numel1_S1
  let c0_i32 : BitVec 32 := 0#32
  let v4 : BitVec 32 := Scalar.addi c0_i32 v3
  let v5 : BitVec 1 := Scalar.cmpi .sle arg0 v1
  let c0_i32_0 : BitVec 32 := 0#32
  let v6 : BitVec 32 := Scalar.select v5 arg1 c0_i32_0
  let c0_i32_1 : BitVec 32 := 0#32
  let c0_i32_2 : BitVec 32 := 0#32
  ![v4.toNat, c0_i32_1.toNat, v6.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S96.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : Index := Scalar.indexCast arg0
  let v3 : BitVec 32 := pf.at 0 (Rect.unit (s := S96) ![v2.toNat] S1.size (k0_off1_inb i)) numel1_S1
  let c0_i32 : BitVec 32 := 0#32
  let v4 : BitVec 32 := Scalar.addi c0_i32 v3
  let v5 : BitVec 1 := Scalar.cmpi .sle arg0 v1
  let c0_i32_0 : BitVec 32 := 0#32
  let v6 : BitVec 32 := Scalar.select v5 arg1 c0_i32_0
  let c0_i32_1 : BitVec 32 := 0#32
  let c0_i32_2 : BitVec 32 := 0#32
  ![v4.toNat, c0_i32_1.toNat, v6.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S96.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : Index := Scalar.indexCast arg0
  let v3 : BitVec 32 := pf.at 0 (Rect.unit (s := S96) ![v2.toNat] S1.size (k0_off1_inb i)) numel1_S1
  let c0_i32 : BitVec 32 := 0#32
  let v4 : BitVec 32 := Scalar.addi c0_i32 v3
  let v5 : BitVec 1 := Scalar.cmpi .sle arg0 v1
  let c0_i32_0 : BitVec 32 := 0#32
  let v6 : BitVec 32 := Scalar.select v5 arg1 c0_i32_0
  let c0_i32_1 : BitVec 32 := 0#32
  let c0_i32_2 : BitVec 32 := 0#32
  ![v4.toNat, v6.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ExpertsRefIdeal.lean ====
abbrev S96 : Shape := ⟨1, ![96]⟩
abbrev S1 : Shape := ⟨1, ![1]⟩
abbrev S24576 : Shape := ⟨1, ![24576]⟩
abbrev S8192x4096 : Shape := ⟨2, ![8192, 4096]⟩
abbrev S2x4x8x4096x512 : Shape := ⟨5, ![2, 4, 8, 4096, 512]⟩
abbrev S2x4x8x512x4096 : Shape := ⟨5, ![2, 4, 8, 512, 4096]⟩
abbrev S_ : Shape := ⟨0, ![]⟩
abbrev S96x256 : Shape := ⟨2, ![96, 256]⟩
abbrev S24576x1 : Shape := ⟨2, ![24576, 1]⟩
abbrev S1x32 : Shape := ⟨2, ![1, 32]⟩
abbrev S24576x32 : Shape := ⟨2, ![24576, 32]⟩
abbrev S24576x4x8 : Shape := ⟨3, ![24576, 4, 8]⟩
abbrev S24576x4096 : Shape := ⟨2, ![24576, 4096]⟩
abbrev S1x1x8x4096x512 : Shape := ⟨5, ![1, 1, 8, 4096, 512]⟩
abbrev S8x4096x512 : Shape := ⟨3, ![8, 4096, 512]⟩
abbrev S24576x8x512 : Shape := ⟨3, ![24576, 8, 512]⟩
abbrev S24576x1x8 : Shape := ⟨3, ![24576, 1, 8]⟩
abbrev S24576x8 : Shape := ⟨2, ![24576, 8]⟩
abbrev S24576x8x1 : Shape := ⟨3, ![24576, 8, 1]⟩
abbrev S1x1x8x512x4096 : Shape := ⟨5, ![1, 1, 8, 512, 4096]⟩
abbrev S8x512x4096 : Shape := ⟨3, ![8, 512, 4096]⟩

abbrev nBuf : Space → Nat
  | .hbm => 153
  | .vmem => 0
  | .smem => 0
  | _ => 0

abbrev hbmTy0_0 (i : Nat) : BufTy := match i % 128 with
  | 0 => ⟨S96, .i32⟩
  | 1 => ⟨S1, .i32⟩
  | 2 => ⟨S24576, .i32⟩
  | 3 => ⟨S8192x4096, .f32⟩
  | 4 => ⟨S2x4x8x4096x512, .f32⟩
  | 5 => ⟨S2x4x8x4096x512, .f32⟩
  | 6 => ⟨S2x4x8x512x4096, .f32⟩
  | 7 => ⟨S24576, .i32⟩
  | 8 => ⟨S_, .i32⟩
  | 9 => ⟨S_, .i32⟩
  | 10 => ⟨S24576, .i32⟩
  | 11 => ⟨S24576, .i32⟩
  | 12 => ⟨S24576, .i32⟩
  | 13 => ⟨S_, .i32⟩
  | 14 => ⟨S24576, .i32⟩
  | 15 => ⟨S24576, .i1⟩
  | 16 => ⟨S24576, .i32⟩
  | 17 => ⟨S24576, .i32⟩
  | 18 => ⟨S_, .i32⟩
  | 19 => ⟨S24576, .i32⟩
  | 20 => ⟨S24576, .i1⟩
  | 21 => ⟨S24576, .i1⟩
  | 22 => ⟨S_, .i32⟩
  | 23 => ⟨S24576, .i32⟩
  | 24 => ⟨S24576, .i32⟩
  | 25 => ⟨S24576, .i32⟩
  | 26 => ⟨S_, .i32⟩
  | 27 => ⟨S24576, .i32⟩
  | 28 => ⟨S24576, .i1⟩
  | 29 => ⟨S96x256, .i32⟩
  | 30 => ⟨S24576, .i32⟩
  | 31 => ⟨S24576x1, .i32⟩
  | 32 => ⟨S1x32, .i32⟩
  | 33 => ⟨S24576x32, .i32⟩
  | 34 => ⟨S24576x32, .i32⟩
  | 35 => ⟨S24576x32, .i1⟩
  | 36 => ⟨S24576x32, .f32⟩
  | 37 => ⟨S24576x1, .i1⟩
  | 38 => ⟨S24576x1, .f32⟩
  | 39 => ⟨S24576x32, .f32⟩
  | 40 => ⟨S24576x32, .f32⟩
  | 41 => ⟨S24576x4x8, .f32⟩
  | 42 => ⟨S_, .i32⟩
  | 43 => ⟨S24576, .i32⟩
  | 44 => ⟨S24576, .i1⟩
  | 45 => ⟨S_, .i32⟩
  | 46 => ⟨S24576, .i32⟩
  | 47 => ⟨S24576, .i32⟩
  | 48 => ⟨S24576, .i32⟩
  | 49 => ⟨S24576x1, .i32⟩
  | 50 => ⟨S24576x4096, .f32⟩
  | 51 => ⟨S_, .f32⟩
  | 52 => ⟨S24576x4096, .f32⟩
  | 53 => ⟨S1x1x8x4096x512, .f32⟩
  | 54 => ⟨S8x4096x512, .f32⟩
  | 55 => ⟨S24576x8x512, .f32⟩
  | 56 => ⟨S1x1x8x4096x512, .f32⟩
  | 57 => ⟨S8x4096x512, .f32⟩
  | 58 => ⟨S24576x8x512, .f32⟩
  | 59 => ⟨S24576x8x512, .f32⟩
  | 60 => ⟨S24576x8x512, .f32⟩
  | 61 => ⟨S_, .f32⟩
  | 62 => ⟨S24576x8x512, .f32⟩
  | 63 => ⟨S24576x8x512, .f32⟩
  | 64 => ⟨S_, .f32⟩
  | 65 => ⟨S24576x8x512, .f32⟩
  | 66 => ⟨S24576x8x512, .f32⟩
  | 67 => ⟨S24576x8x512, .f32⟩
  | 68 => ⟨S24576x8x512, .f32⟩
  | 69 => ⟨S24576x1x8, .f32⟩
  | 70 => ⟨S24576x8, .f32⟩
  | 71 => ⟨S24576x8x1, .f32⟩
  | 72 => ⟨S24576x8x512, .f32⟩
  | 73 => ⟨S24576x8x512, .f32⟩
  | 74 => ⟨S1x1x8x512x4096, .f32⟩
  | 75 => ⟨S8x512x4096, .f32⟩
  | 76 => ⟨S24576x4096, .f32⟩
  | 77 => ⟨S24576x4096, .f32⟩
  | 78 => ⟨S1x1x8x4096x512, .f32⟩
  | 79 => ⟨S8x4096x512, .f32⟩
  | 80 => ⟨S24576x8x512, .f32⟩
  | 81 => ⟨S1x1x8x4096x512, .f32⟩
  | 82 => ⟨S8x4096x512, .f32⟩
  | 83 => ⟨S24576x8x512, .f32⟩
  | 84 => ⟨S24576x8x512, .f32⟩
  | 85 => ⟨S24576x8x512, .f32⟩
  | 86 => ⟨S_, .f32⟩
  | 87 => ⟨S24576x8x512, .f32⟩
  | 88 => ⟨S24576x8x512, .f32⟩
  | 89 => ⟨S_, .f32⟩
  | 90 => ⟨S24576x8x512, .f32⟩
  | 91 => ⟨S24576x8x512, .f32⟩
  | 92 => ⟨S24576x8x512, .f32⟩
  | 93 => ⟨S24576x8x512, .f32⟩
  | 94 => ⟨S24576x1x8, .f32⟩
  | 95 => ⟨S24576x8, .f32⟩
  | 96 => ⟨S24576x8x1, .f32⟩
  | 97 => ⟨S24576x8x512, .f32⟩
  | 98 => ⟨S24576x8x512, .f32⟩
  | 99 => ⟨S1x1x8x512x4096, .f32⟩
  | 100 => ⟨S8x512x4096, .f32⟩
  | 101 => ⟨S24576x4096, .f32⟩
  | 102 => ⟨S24576x4096, .f32⟩
  | 103 => ⟨S1x1x8x4096x512, .f32⟩
  | 104 => ⟨S8x4096x512, .f32⟩
  | 105 => ⟨S24576x8x512, .f32⟩
  | 106 => ⟨S1x1x8x4096x512, .f32⟩
  | 107 => ⟨S8x4096x512, .f32⟩
  | 108 => ⟨S24576x8x512, .f32⟩
  | 109 => ⟨S24576x8x512, .f32⟩
  | 110 => ⟨S24576x8x512, .f32⟩
  | 111 => ⟨S_, .f32⟩
  | 112 => ⟨S24576x8x512, .f32⟩
  | 113 => ⟨S24576x8x512, .f32⟩
  | 114 => ⟨S_, .f32⟩
  | 115 => ⟨S24576x8x512, .f32⟩
  | 116 => ⟨S24576x8x512, .f32⟩
  | 117 => ⟨S24576x8x512, .f32⟩
  | 118 => ⟨S24576x8x512, .f32⟩
  | 119 => ⟨S24576x1x8, .f32⟩
  | 120 => ⟨S24576x8, .f32⟩
  | 121 => ⟨S24576x8x1, .f32⟩
  | 122 => ⟨S24576x8x512, .f32⟩
  | 123 => ⟨S24576x8x512, .f32⟩
  | 124 => ⟨S1x1x8x512x4096, .f32⟩
  | 125 => ⟨S8x512x4096, .f32⟩
  | 126 => ⟨S24576x4096, .f32⟩
  | 127 => ⟨S24576x4096, .f32⟩
  | _ => ⟨S96, .i32⟩

abbrev hbmTy0_1 (i : Nat) : BufTy := match i % 128 with
  | 0 => ⟨S1x1x8x4096x512, .f32⟩
  | 1 => ⟨S8x4096x512, .f32⟩
  | 2 => ⟨S24576x8x512, .f32⟩
  | 3 => ⟨S1x1x8x4096x512, .f32⟩
  | 4 => ⟨S8x4096x512, .f32⟩
  | 5 => ⟨S24576x8x512, .f32⟩
  | 6 => ⟨S24576x8x512, .f32⟩
  | 7 => ⟨S24576x8x512, .f32⟩
  | 8 => ⟨S_, .f32⟩
  | 9 => ⟨S24576x8x512, .f32⟩
  | 10 => ⟨S24576x8x512, .f32⟩
  | 11 => ⟨S_, .f32⟩
  | 12 => ⟨S24576x8x512, .f32⟩
  | 13 => ⟨S24576x8x512, .f32⟩
  | 14 => ⟨S24576x8x512, .f32⟩
  | 15 => ⟨S24576x8x512, .f32⟩
  | 16 => ⟨S24576x1x8, .f32⟩
  | 17 => ⟨S24576x8, .f32⟩
  | 18 => ⟨S24576x8x1, .f32⟩
  | 19 => ⟨S24576x8x512, .f32⟩
  | 20 => ⟨S24576x8x512, .f32⟩
  | 21 => ⟨S1x1x8x512x4096, .f32⟩
  | 22 => ⟨S8x512x4096, .f32⟩
  | 23 => ⟨S24576x4096, .f32⟩
  | 24 => ⟨S24576x4096, .f32⟩
  | _ => ⟨S96, .i32⟩

abbrev hbmTy (i : Nat) : BufTy := match i / 128 with
  | 0 => hbmTy0_0 i
  | 1 => hbmTy0_1 i
  | _ => ⟨S96, .i32⟩

abbrev bufTy : (tb : Table) → Fin (tcTables nBuf tb) → BufTy
  | .hbm, ⟨i, _⟩ => hbmTy i
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c_0 : Ref sig .tc := ⟨.hbm, 42, rfl⟩
abbrev main_v13 : Ref sig .tc := ⟨.hbm, 43, rfl⟩
abbrev main_v14 : Ref sig .tc := ⟨.hbm, 44, rfl⟩
abbrev main_c_1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_call3_v0 : Ref sig .tc := ⟨.hbm, 84, rfl⟩
abbrev main_call3_v1 : Ref sig .tc := ⟨.hbm, 85, rfl⟩
abbrev main_call3_cst : Ref sig .tc := ⟨.hbm, 86, rfl⟩
abbrev main_call3_v2 : Ref sig .tc := ⟨.hbm, 87, rfl⟩
abbrev main_call3_v3 : Ref sig .tc := ⟨.hbm, 88, rfl⟩
abbrev main_call3_cst_0 : Ref sig .tc := ⟨.hbm, 89, rfl⟩
abbrev main_call3_v4 : Ref sig .tc := ⟨.hbm, 90, rfl⟩
abbrev main_call3_v5 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_call4_v0 : Ref sig .tc := ⟨.hbm, 109, rfl⟩
abbrev main_call4_v1 : Ref sig .tc := ⟨.hbm, 110, rfl⟩
abbrev main_call4_cst : Ref sig .tc := ⟨.hbm, 111, rfl⟩
abbrev main_call4_v2 : Ref sig .tc := ⟨.hbm, 112, rfl⟩
abbrev main_call4_v3 : Ref sig .tc := ⟨.hbm, 113, rfl⟩
abbrev main_call4_cst_0 : Ref sig .tc := ⟨.hbm, 114, rfl⟩
abbrev main_call4_v4 : Ref sig .tc := ⟨.hbm, 115, rfl⟩
abbrev main_call4_v5 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_call5_v0 : Ref sig .tc := ⟨.hbm, 134, rfl⟩
abbrev main_call5_v1 : Ref sig .tc := ⟨.hbm, 135, rfl⟩
abbrev main_call5_cst : Ref sig .tc := ⟨.hbm, 136, rfl⟩
abbrev main_call5_v2 : Ref sig .tc := ⟨.hbm, 137, rfl⟩
abbrev main_call5_v3 : Ref sig .tc := ⟨.hbm, 138, rfl⟩
abbrev main_call5_cst_0 : Ref sig .tc := ⟨.hbm, 139, rfl⟩
abbrev main_call5_v4 : Ref sig .tc := ⟨.hbm, 140, rfl⟩
abbrev main_call5_v5 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩

abbrev nD : Nat := 1
abbrev τ : Topo := Topo.v7x

variable {F : FTy → Type} [FloatOps F]
-- ==== Proof.Body.lean ====
/- What one grid step of the attention kernel leaves in its output block, as a value of the blocks it
is given: the diagonal tile starts the running maximum and the running sums, the loop's trips and (in
an odd query block) one more half tile carry them on, and the output is the quotient at the end. -/
module
public import proofs.«01_k».proof.Proof.Gen.MlaIdeal.Value
public import Idealize.ShloMosaic.Lib.Pipeline.ValueKit
public import Idealize.ShloMosaic.Lib.VecWindow
public import Idealize.ShloMosaic.Lib.Tactic
@[expose] public section
set_option maxRecDepth 16384
noncomputable section
namespace Cert.MlaIdeal.Val
open Cert.MlaIdeal Cert.MlaIdeal.Gen Idealize.ShloMosaic Idealize.ShloMosaic.TcCoe Idealize.SL.Sem
variable {F : FTy → Type} [FloatOps F] [Named F]

/-- A grid point with query block `v`. -/
def at2 (v : Fin 8) : grid0.Coords
  | ⟨0, _⟩ => (0 : Fin 2)
  | ⟨1, _⟩ => (0 : Fin 8)
  | ⟨2, _⟩ => v

/-- The trips of the main loop: half the query block's number, rounded down. -/
theorem trips_main (i : grid0.Coords) :
    Scf.trips (k0_t1_loop i).lb (k0_t1_loop i).ub (k0_t1_loop i).st = (i 2).val / 2 := by
  have h : ∀ v : Fin 8, (let j := at2 v; Scf.trips (k0_t1_loop j).lb (k0_t1_loop j).ub (k0_t1_loop j).st = v.val / 2) := by decide
  exact h (i 2)

/-- The remainder loop has no trips. -/
theorem trips_rest (i : grid0.Coords) :
    Scf.trips (k0_t2_loop i).lb (k0_t2_loop i).ub (k0_t2_loop i).st = 0 := by
  have h : ∀ v : Fin 8, (let j := at2 v; Scf.trips (k0_t2_loop j).lb (k0_t2_loop j).ub (k0_t2_loop j).st = 0) := by decide
  exact h (i 2)

/-- The first row of the diagonal tile. -/
theorem off_diag (i : grid0.Coords) : k0_off1 i = ![512 * (i 2).val, 0] := by
  have h : ∀ v : Fin 8, (let j := at2 v; k0_off1 j = ![512 * v.val, 0]) := by decide
  exact h (i 2)

/-- Whether the query block is odd. -/
theorem odd_iff (i : grid0.Coords) : cond0_0 i ↔ (i 2).val % 2 = 1 := by
  have h : ∀ v : Fin 8, (let j := at2 v; cond0_0 j ↔ v.val % 2 = 1) := by decide
  exact h (i 2)

/-- The first row of the half tile of an odd query block. -/
theorem off_odd (i : grid0.Coords) (h : (i 2).val % 2 = 1) : k0_off4 i = ![512 * ((i 2).val - 1), 0] := by
  have h' : ∀ v : Fin 8, (let j := at2 v; v.val % 2 = 1 → k0_off4 j = ![512 * (v.val - 1), 0]) := by decide
  exact h' (i 2) h

/-- The first row of the tile trip `k` of the main loop reads. -/
theorem off_main (i : grid0.Coords) (k : Fin (k0_t1_loop i).trips) : k0_off2 i k = ![1024 * k.val, 0] := by
  have h' : ∀ k : Fin 4, (Scalar.indexCast (Scalar.muli (Scalar.muli 2#32 (Scf.iv 0#32 1#32 k.val)) 512#32)).toNat = 1024 * k.val := by decide
  have hk : k.val < 4 := by
    have := k.isLt
    have h2 : (k0_t1_loop i).trips = (i 2).val / 2 := trips_main i
    have h3 : (i 2).val < 8 := (i 2).isLt
    omega
  have := h' ⟨k.val, hk⟩
  unfold k0_off2
  dsimp only at this ⊢
  rw [this]
abbrev St (F : FTy → Type) [FloatOps F] := Vec F S512x128 .f32 × Vec F S512x256 .f32

/-- The query tile: the scaled plain half beside the rotated, scaled and selected half. -/
def qv (hh : BitVec 32) (x0 x1 x2 x3 x4 : Vec F S512x128 .f32) : Vec F S512x256 .bf16 :=
  View.canon [⟨Rect.unit (s := S512x256) ![0, 128] S512x128.size inb_S512x256_S512x128_0_128,
      k0_pay18 hh (k0_pay15 x1 x2 x3 x4) (iota .tc S512x128 32 [1] iota_S512x128_d1_w32) 64#32 k0_pay16 k0_pay17 1#32 0#32⟩,
    ⟨Rect.unit (s := S512x256) ![0, 0] S512x128.size inb_S512x256_S512x128_0_0, k0_pay14 x0⟩]

/-- The rows trip `k` of the main loop reads. -/
def rowsM (i : grid0.Coords) (k : Fin (k0_t1_loop i).trips) (x : Vec F S4096x128 .bf16) : Vec F S1024x128 .bf16 :=
  View.ld x (Rect.unit (s := S4096x128) (k0_off2 i k) S1024x128.size (k0_off2_inb i k))

/-- The rows of the diagonal tile. -/
def rowsD (i : grid0.Coords) (x : Vec F S4096x128 .bf16) : Vec F S512x128 .bf16 :=
  View.ld x (Rect.unit (s := S4096x128) (k0_off1 i) S512x128.size (k0_off1_inb i))

/-- The rows of the half tile of an odd query block. -/
def rowsO (i : grid0.Coords) (h : cond0_0 i) (x : Vec F S4096x128 .bf16) : Vec F S512x128 .bf16 :=
  View.ld x (Rect.unit (s := S4096x128) (k0_off4 i) S512x128.size (k0_off4_inb i h))

/-- The running state after the diagonal tile. -/
def first (i : grid0.Coords) (x5 x6 x7 : Vec F S4096x128 .bf16) (q : Vec F S512x256 .bf16) : St F :=
  (k0_pay22 (k0_pay19 (rowsD i x5) (rowsD i x6) q), k0_pay23 (k0_pay19 (rowsD i x5) (rowsD i x6) q) (rowsD i x7))

/-- One trip of the main loop. -/
def stepM (i : grid0.Coords) (x5 x6 x7 : Vec F S4096x128 .bf16) (q : Vec F S512x256 .bf16)
    (k : Fin (k0_t1_loop i).trips) (st : St F) : St F :=
  (k0_pay4 (rowsM i k x5) (rowsM i k x6) q st.1, k0_pay3 (rowsM i k x5) (rowsM i k x6) q (rowsM i k x7) st.1 st.2)

/-- The half tile of an odd query block. -/
def stepO (i : grid0.Coords) (h : cond0_0 i) (x5 x6 x7 : Vec F S4096x128 .bf16) (q : Vec F S512x256 .bf16)
    (st : St F) : St F :=
  (k0_pay12 (rowsO i h x5) (rowsO i h x6) q st.1, k0_pay11 (rowsO i h x5) (rowsO i h x6) q (rowsO i h x7) st.1 st.2)

/-- The state after the first `n` trips of the main loop. -/
def runM (i : grid0.Coords) (x5 x6 x7 : Vec F S4096x128 .bf16) (q : Vec F S512x256 .bf16) (st : St F) : ℕ → St F
  | 0 => st
  | n + 1 => if h : n < (k0_t1_loop i).trips then stepM i x5 x6 x7 q ⟨n, h⟩ (runM i x5 x6 x7 q st n)
      else runM i x5 x6 x7 q st n

variable (a3 : Memref sig .tc .vmem S512x128 .f32) (h3 : a3.IsWhole) (a4 : Memref sig .tc .vmem S512x128 .f32) (h4 : a4.IsWhole) (a5 : Memref sig .tc .vmem S512x128 .f32) (h5 : a5.IsWhole) (a6 : Memref sig .tc .vmem S512x128 .f32) (h6 : a6.IsWhole) (a7 : Memref sig .tc .vmem S512x128 .f32) (h7 : a7.IsWhole) (a8 : Memref sig .tc .vmem S4096x128 .bf16) (h8 : a8.IsWhole) (a9 : Memref sig .tc .vmem S4096x128 .bf16) (h9 : a9.IsWhole) (a10 : Memref sig .tc .vmem S4096x128 .bf16) (h10 : a10.IsWhole) (a11 : Memref sig .tc .vmem S512x128 .bf16) (h11 : a11.IsWhole) (a12 : Memref sig .tc .vmem S512x256 .bf16) (h12 : a12.IsWhole) (a13 : Memref sig .tc .vmem S512x128 .f32) (h13 : a13.IsWhole) (a14 : Memref sig .tc .vmem S512x256 .f32) (h14 : a14.IsWhole)

/-- What the two scratch buffers hold after `n` trips of the main loop. -/
theorem loop_read (𝒱 : Variants) (c : Dev nD) (bd : Option 𝒱.V) (i : grid0.Coords)
    (X8 : BufTy.Contents (Elt F) a8.view.ty) (X9 : BufTy.Contents (Elt F) a9.view.ty)
    (X10 : BufTy.Contents (Elt F) a10.view.ty) (X12 : BufTy.Contents (Elt F) a12.view.ty)
    (G13 : BufTy.Contents (Elt F) a13.view.ty) (G14 : BufTy.Contents (Elt F) a14.view.ty) (n : ℕ)
    (hn : n ≤ (k0_t1_loop i).trips) :
    (a13.view.read (Elt F) (a13.view.writes (Elt F) G13 (pb_k0_t1 𝒱 c bd i a3 h3 a4 h4 a5 h5 a6 h6 a7 h7 a8 h8 a9 h9 a10 h10 a11 h11 a12 h12 a13 h13 a14 h14 X8 X9 X10 X12 G13 G14 n).1),
     a14.view.read (Elt F) (a14.view.writes (Elt F) G14 (pb_k0_t1 𝒱 c bd i a3 h3 a4 h4 a5 h5 a6 h6 a7 h7 a8 h8 a9 h9 a10 h10 a11 h11 a12 h12 a13 h13 a14 h14 X8 X9 X10 X12 G13 G14 n).2))
      = runM i (a8.view.read (Elt F) X8) (a9.view.read (Elt F) X9) (a10.view.read (Elt F) X10) (a12.view.read (Elt F) X12)
          (a13.view.read (Elt F) G13, a14.view.read (Elt F) G14) n := by
  induction n with
  | zero => rfl
  | succ n ih =>
    have ih := ih (by omega)
    have h1 := congrArg Prod.fst ih
    have h2 := congrArg Prod.snd ih
    dsimp only at h1 h2
    have hs := pb_k0_t1_succ (F := F) 𝒱 c bd i a3 h3 a4 h4 a5 h5 a6 h6 a7 h7 a8 h8 a9 h9 a10 h10 a11 h11 a12 h12 a13 h13 a14 h14 X8 X9 X10 X12 G13 G14 ⟨n, hn⟩
    dsimp only at hs
    rw [hs]
    unfold trip_k0_t1
    dsimp only
    rw [List.singleton_append, List.singleton_append, View.read_writes_full, View.read_writes_full,
      View.readAt_full, View.readAt_full, View.readAt_full, h1, h2, runM, dif_pos (show n < _ from hn)]
    rfl

/-- The left half of the running sums. -/
def lhalf (a : Vec F S512x256 .f32) : Vec F S512x128 .f32 :=
  View.ld a (Rect.unit (s := S512x256) ![0, 0] S512x128.size inb_S512x256_S512x128_0_0)
/-- The right half of the running sums. -/
def rhalf (a : Vec F S512x256 .f32) : Vec F S512x128 .f32 :=
  View.ld a (Rect.unit (s := S512x256) ![0, 128] S512x128.size inb_S512x256_S512x128_0_128)

/-- A load of the diagonal rows of a whole buffer holding `x`. -/
theorem read_diag (a : Memref sig .tc .vmem S4096x128 .bf16) (h : a.IsWhole) (i : grid0.Coords)
    (x : Vec F S4096x128 .bf16) :
    View.readAt (Elt F) a.view (Rect.unit (s := S4096x128) (k0_off1 i) S512x128.size (k0_off1_inb i)).toLoadRect (h.unread x)
      = rowsD i x := by
  rw [View.readAt_eq_ld, h.read_unread]; rfl

/-- A load of the half tile's rows of a whole buffer holding `x`. -/
theorem read_odd (a : Memref sig .tc .vmem S4096x128 .bf16) (h : a.IsWhole) (i : grid0.Coords) (hc : cond0_0 i)
    (x : Vec F S4096x128 .bf16) :
    View.readAt (Elt F) a.view (Rect.unit (s := S4096x128) (k0_off4 i) S512x128.size (k0_off4_inb i hc)).toLoadRect (h.unread x)
      = rowsO i hc x := by
  rw [View.readAt_eq_ld, h.read_unread]; rfl

/-- The output block of an even query block. -/
theorem out_even (c : Dev nD) (i : grid0.Coords) (hc : ¬cond0_0 i) (x0 x1 x2 x3 x4 x5 x6 x7) :
   out0_A_8 (F := F) c i a3 h3 a4 h4 a5 h5 a6 h6 a7 h7 a8 h8 a9 h9 a10 h10 a11 h11 a12 h12 a13 h13 a14 h14 hc x0 x1 x2 x3 x4 x5 x6 x7 =
    (let q := qv (BitVec.ofNat 32 (i 1).val) x0 x1 x2 x3 x4
     let st := runM i x5 x6 x7 q (first i x5 x6 x7 q) (k0_t1_loop i).trips
     k0_pay13 (lhalf st.2) (rhalf st.2)) := by
  unfold out0_A_8
  unfold kernelRun0_A
  dsimp only
  rw [View.read_writes_full]
  unfold kernelRun0_A.sl.v135 kernelRun0_A.sl.v136
  unfold lhalf rhalf
  refine congrArg (fun a => k0_pay13 (View.ld a (Rect.unit (s := S512x256) ![0, 0] S512x128.size inb_S512x256_S512x128_0_0)) (View.ld a (Rect.unit (s := S512x256) ![0, 128] S512x128.size inb_S512x256_S512x128_0_128))) ?_
  rw [trips_rest, pb_k0_t2.eq_1]
  dsimp only
  rw [List.nil_append, View.writes_append]
  refine (congrArg Prod.snd (loop_read (F := F) a3 h3 a4 h4 a5 h5 a6 h6 a7 h7 a8 h8 a9 h9 a10 h10 a11 h11 a12 h12 a13 h13 a14 h14 Variants.none c none i _ _ _ _ _ _ _ le_rfl)).trans ?_
  have hq : a12.view.read (Elt F) (a12.view.writes (Elt F) a12.view.junk
      (kernelRun0_A.sl.HS0_2 c i a3 h3 a4 h4 a5 h5 a6 h6 a7 h7 x0 x1 x2 x3 x4))
      = qv (BitVec.ofNat 32 (i 1).val) x0 x1 x2 x3 x4 := by
    rw [View.read_writes_junk_eq_canon]
    unfold kernelRun0_A.sl.HS0_2 qv
    rw [View.readAt_full, h3.read_unread]
    unfold kernelRun0_A.sl.r kernelRun0_A.sl.v23
    rw [View.readAt_full, View.readAt_full, View.readAt_full, View.readAt_full,
      h4.read_unread, h5.read_unread, h6.read_unread, h7.read_unread]
  rw [h8.read_unread, h9.read_unread, h10.read_unread, hq]
  have hs : kernelRun0_A.sl.r_1 c i a3 h3 a4 h4 a5 h5 a6 h6 a7 h7 a8 h8 a9 h9 a12 x0 x1 x2 x3 x4 x5 x6
      = k0_pay19 (rowsD i x5) (rowsD i x6) (qv (BitVec.ofNat 32 (i 1).val) x0 x1 x2 x3 x4) := by
    unfold kernelRun0_A.sl.r_1 kernelRun0_A.sl.v74 View.readCov
    rw [View.readAt_full, hq, read_diag a8 h8, read_diag a9 h9]
  have hm : a13.view.read (Elt F) (a13.view.writes (Elt F) a13.view.junk
      (kernelRun0_A.sl.HS1_1 c i a3 h3 a4 h4 a5 h5 a6 h6 a7 h7 a8 h8 a9 h9 a12 x0 x1 x2 x3 x4 x5 x6))
      = (first i x5 x6 x7 (qv (BitVec.ofNat 32 (i 1).val) x0 x1 x2 x3 x4)).1 := by
    unfold kernelRun0_A.sl.HS1_1
    rw [View.read_writes_full, hs, first]
  have ha : a14.view.read (Elt F) (a14.view.writes (Elt F) a14.view.junk
      (kernelRun0_A.sl.HS2_1 c i a3 h3 a4 h4 a5 h5 a6 h6 a7 h7 a8 h8 a9 h9 a10 h10 a12 x0 x1 x2 x3 x4 x5 x6 x7))
      = (first i x5 x6 x7 (qv (BitVec.ofNat 32 (i 1).val) x0 x1 x2 x3 x4)).2 := by
    unfold kernelRun0_A.sl.HS2_1
    rw [View.read_writes_full, hs, read_diag a10 h10, first]
  rw [hm, ha]

/-- The output block of an odd query block. -/
theorem out_odd (c : Dev nD) (i : grid0.Coords) (hc : cond0_0 i) (x0 x1 x2 x3 x4 x5 x6 x7) :
   out0_B_8 (F := F) c i a3 h3 a4 h4 a5 h5 a6 h6 a7 h7 a8 h8 a9 h9 a10 h10 a11 h11 a12 h12 a13 h13 a14 h14 hc x0 x1 x2 x3 x4 x5 x6 x7 =
    (let q := qv (BitVec.ofNat 32 (i 1).val) x0 x1 x2 x3 x4
     let st := stepO i hc x5 x6 x7 q (runM i x5 x6 x7 q (first i x5 x6 x7 q) (k0_t1_loop i).trips)
     k0_pay13 (lhalf st.2) (rhalf st.2)) := by
  unfold out0_B_8
  unfold kernelRun0_B
  dsimp only
  rw [View.read_writes_full]
  unfold kernelRun0_B.sl.v135 kernelRun0_B.sl.v136
  unfold lhalf rhalf
  refine congrArg (fun a => k0_pay13 (View.ld a (Rect.unit (s := S512x256) ![0, 0] S512x128.size inb_S512x256_S512x128_0_0)) (View.ld a (Rect.unit (s := S512x256) ![0, 128] S512x128.size inb_S512x256_S512x128_0_128))) ?_
  unfold kernelRun0_B.sl.HS2_1_1
  rw [View.read_writes_full, read_odd a8 h8, read_odd a9 h9, read_odd a10 h10]
  have hq : a12.view.read (Elt F) (a12.view.writes (Elt F) a12.view.junk
      (kernelRun0_B.sl.HS0_2 c i a3 h3 a4 h4 a5 h5 a6 h6 a7 h7 x0 x1 x2 x3 x4))
      = qv (BitVec.ofNat 32 (i 1).val) x0 x1 x2 x3 x4 := by
    rw [View.read_writes_junk_eq_canon]
    unfold kernelRun0_B.sl.HS0_2 qv
    rw [View.readAt_full, h3.read_unread]
    unfold kernelRun0_B.sl.r kernelRun0_B.sl.v23
    rw [View.readAt_full, View.readAt_full, View.readAt_full, View.readAt_full,
      h4.read_unread, h5.read_unread, h6.read_unread, h7.read_unread]
  have hs : kernelRun0_B.sl.r_1 c i a3 h3 a4 h4 a5 h5 a6 h6 a7 h7 a8 h8 a9 h9 a12 x0 x1 x2 x3 x4 x5 x6
      = k0_pay19 (rowsD i x5) (rowsD i x6) (qv (BitVec.ofNat 32 (i 1).val) x0 x1 x2 x3 x4) := by
    unfold kernelRun0_B.sl.r_1 kernelRun0_B.sl.v74 View.readCov
    rw [View.readAt_full, hq, read_diag a8 h8, read_diag a9 h9]
  have hm : a13.view.read (Elt F) (a13.view.writes (Elt F) a13.view.junk
      (kernelRun0_B.sl.HS1_1 c i a3 h3 a4 h4 a5 h5 a6 h6 a7 h7 a8 h8 a9 h9 a12 x0 x1 x2 x3 x4 x5 x6))
      = (first i x5 x6 x7 (qv (BitVec.ofNat 32 (i 1).val) x0 x1 x2 x3 x4)).1 := by
    unfold kernelRun0_B.sl.HS1_1
    rw [View.read_writes_full, hs, first]
  have ha : a14.view.read (Elt F) (a14.view.writes (Elt F) a14.view.junk
      (kernelRun0_B.sl.HS2_1 c i a3 h3 a4 h4 a5 h5 a6 h6 a7 h7 a8 h8 a9 h9 a10 h10 a12 x0 x1 x2 x3 x4 x5 x6 x7))
      = (first i x5 x6 x7 (qv (BitVec.ofNat 32 (i 1).val) x0 x1 x2 x3 x4)).2 := by
    unfold kernelRun0_B.sl.HS2_1
    rw [View.read_writes_full, hs, read_diag a10 h10, first]
  have hl := loop_read (F := F) a3 h3 a4 h4 a5 h5 a6 h6 a7 h7 a8 h8 a9 h9 a10 h10 a11 h11 a12 h12 a13 h13 a14 h14 Variants.none c none i (h8.unread x5) (h9.unread x6) (h10.unread x7)
    (a12.view.writes (Elt F) a12.view.junk (kernelRun0_B.sl.HS0_2 c i a3 h3 a4 h4 a5 h5 a6 h6 a7 h7 x0 x1 x2 x3 x4))
    (a13.view.writes (Elt F) a13.view.junk (kernelRun0_B.sl.HS1_1 c i a3 h3 a4 h4 a5 h5 a6 h6 a7 h7 a8 h8 a9 h9 a12 x0 x1 x2 x3 x4 x5 x6))
    (a14.view.writes (Elt F) a14.view.junk
      (kernelRun0_B.sl.HS2_1 c i a3 h3 a4 h4 a5 h5 a6 h6 a7 h7 a8 h8 a9 h9 a10 h10 a12 x0 x1 x2 x3 x4 x5 x6 x7)) (Scf.trips (k0_t1_loop i).lb (k0_t1_loop i).ub (k0_t1_loop i).st) le_rfl
  rw [h8.read_unread, h9.read_unread, h10.read_unread, hq, hm, ha] at hl
  unfold kernelRun0_B.sl.v149 kernelRun0_B.sl.v153 kernelRun0_B.sl.v164 View.readCov
  rw [View.readAt_full, View.readAt_full, View.readAt_full, hq, trips_rest, pb_k0_t2.eq_1]
  dsimp only
  rw [List.nil_append, List.nil_append, View.writes_append, View.writes_append]
  unfold stepO
  have e1 := congrArg Prod.fst hl
  have e2 := congrArg Prod.snd hl
  dsimp only at e1 e2
  rw [e1, e2]

end Cert.MlaIdeal.Val
-- ==== Proof.Online.lean ====
/-
  Softmax in one pass, over the extended reals. A row of an attention tile holds a running maximum `m` (any real number
  serves) and, per value lane, the sum over the keys seen so far of `2 ^ (s k - m)` times the value `v k`. Facts here:
  a later maximum rescales that sum, a tile of keys adds its own terms, the quotient of two such sums is free of `m`,
  and that quotient is the plain softmax of the scores times the values. The values `v k` may be infinite throughout.
-/
module

public import Idealize.ShloMosaic.Lib.Pointwise

@[expose] public section

noncomputable section

namespace Cert.Online

open scoped BigOperators
open Idealize.ShloMosaic

/-- A nonnegative real factor goes into a finite sum of extended reals. -/
theorem coe_mul_sum {ι : Type} (c : ℝ) (hc : 0 ≤ c) (K : Finset ι) (f : ι → EReal) :
    (c : EReal) * ∑ k ∈ K, f k = ∑ k ∈ K, (c : EReal) * f k := by
  classical
  induction K using Finset.induction_on with
  | empty => simp
  | insert a s ha ih =>
    rw [Finset.sum_insert ha, Finset.sum_insert ha,
      EReal.left_distrib_of_nonneg_of_ne_top (by exact_mod_cast hc) (EReal.coe_ne_top c), ih]

/-- A sum of real numbers read as extended reals is the sum read as one. -/
theorem coe_sum {ι : Type} (K : Finset ι) (f : ι → ℝ) : ∑ k ∈ K, ((f k : ℝ) : EReal) = ((∑ k ∈ K, f k : ℝ) : EReal) := by
  classical
  induction K using Finset.induction_on with
  | empty => simp
  | insert a s ha ih => rw [Finset.sum_insert ha, Finset.sum_insert ha, ih, EReal.coe_add]

/-- The maximum of a nonempty finite family of values below `⊤`, one of which is above `⊥`, is a real number. -/
theorem fold_max_real {ι : Type} (K : Finset ι) (f : ι → EReal) (hf : ∀ k ∈ K, f k ≠ ⊤) (k0 : ι) (h0 : k0 ∈ K)
    (hb : f k0 ≠ ⊥) : ∃ m : ℝ, K.fold max ⊥ f = (m : EReal) := by
  have hlt : K.fold max ⊥ f < ⊤ := by
    rw [Finset.fold_max_lt]
    exact ⟨bot_lt_top, fun k hk => lt_top_iff_ne_top.mpr (hf k hk)⟩
  have hle : f k0 ≤ K.fold max ⊥ f := by
    rw [Finset.le_fold_max]
    exact Or.inr ⟨k0, h0, le_refl _⟩
  have hbot : K.fold max ⊥ f ≠ ⊥ := fun h => hb (le_bot_iff.mp (h ▸ hle))
  exact ⟨(K.fold max ⊥ f).toReal, (EReal.coe_toReal hlt.ne hbot).symm⟩

/-- The power of two of a difference of reals. -/
theorem exp2_sub (a b : ℝ) : Ideal.exp2 ((a : EReal) - (b : EReal)) = (((2 : ℝ) ^ (a - b) : ℝ) : EReal) := by
  rw [← EReal.coe_sub]; rfl

/-- A masked score weighs nothing. -/
theorem exp2_bot_sub (b : ℝ) : Ideal.exp2 ((⊥ : EReal) - (b : EReal)) = 0 := by
  rw [EReal.bot_sub]; rfl

/-- The weighted sum of the values `v` over the keys `K`: each by two to the power of its score over `m`. -/
def wsum (s : ℕ → ℝ) (m : ℝ) (K : Finset ℕ) (v : ℕ → EReal) : EReal :=
  ∑ k ∈ K, (((2 : ℝ) ^ (s k - m) : ℝ) : EReal) * v k

/-- A new maximum rescales a weighted sum. -/
theorem wsum_rescale (s : ℕ → ℝ) (m m' : ℝ) (K : Finset ℕ) (v : ℕ → EReal) :
    Ideal.exp2 ((m : EReal) - (m' : EReal)) * wsum s m K v = wsum s m' K v := by
  rw [exp2_sub]
  unfold wsum
  rw [coe_mul_sum _ (by positivity)]
  refine Finset.sum_congr rfl fun k _ => ?_
  rw [← mul_assoc, ← EReal.coe_mul, ← Real.rpow_add (by norm_num)]
  congr 3
  ring

/-- Weighted sums over disjoint sets of keys add. -/
theorem wsum_union (s : ℕ → ℝ) (m : ℝ) (K J : Finset ℕ) (h : Disjoint K J) (v : ℕ → EReal) :
    wsum s m K v + wsum s m J v = wsum s m (K ∪ J) v := (Finset.sum_union h).symm

/-- A tile of `n` keys from `off` on, as the sum over the tile's columns. -/
theorem tile_sum (s : ℕ → ℝ) (m : ℝ) (off n : ℕ) (v : ℕ → EReal) :
    ∑ j : Fin n, Ideal.exp2 (((s (off + j.val) : ℝ) : EReal) - (m : EReal)) * v (off + j.val)
      = wsum s m (Finset.Ico off (off + n)) v := by
  unfold wsum
  rw [Finset.sum_Ico_eq_sum_range, Nat.add_sub_cancel_left, Finset.sum_range]
  exact Finset.sum_congr rfl fun j _ => by rw [exp2_sub]

/-- The tile on the diagonal: the columns past the row's own are masked and weigh nothing. -/
theorem diag_sum (s : ℕ → ℝ) (m : ℝ) (off n r : ℕ) (hr : r < n) (v : ℕ → EReal) :
    ∑ j : Fin n, Ideal.exp2 ((if j.val ≤ r then ((s (off + j.val) : ℝ) : EReal) else ⊥) - (m : EReal)) * v (off + j.val)
      = wsum s m (Finset.Ico off (off + r + 1)) v := by
  unfold wsum
  rw [Finset.sum_Ico_eq_sum_range, show off + r + 1 - off = r + 1 by omega]
  rw [← Finset.sum_range (fun j => Ideal.exp2 ((if j ≤ r then ((s (off + j) : ℝ) : EReal) else ⊥) - (m : EReal)) * v (off + j))]
  rw [← Finset.sum_subset (Finset.range_mono (show r + 1 ≤ n by omega))]
  · refine Finset.sum_congr rfl fun j hj => ?_
    rw [if_pos (by have := Finset.mem_range.mp hj; omega), exp2_sub]
  · intro j _ hj
    rw [if_neg (by have := Finset.mem_range.not.mp hj; omega), exp2_bot_sub, zero_mul]

/-- The share of key `k` among the keys `K`: the softmax weight, to base two. -/
def share (s : ℕ → ℝ) (K : Finset ℕ) (k : ℕ) : ℝ := (2 : ℝ) ^ s k / ∑ j ∈ K, (2 : ℝ) ^ s j

/-- The quotient of the weighted sum of the values by the weighted sum of ones is the sum of the values by their
    shares, whatever the maximum was. -/
theorem quotient (s : ℕ → ℝ) (m : ℝ) (K : Finset ℕ) (hK : K.Nonempty) (v : ℕ → EReal) :
    Ideal.div (wsum s m K v) (wsum s m K fun _ => 1) = ∑ k ∈ K, ((share s K k : ℝ) : EReal) * v k := by
  have hone : wsum s m K (fun _ => 1) = ((∑ k ∈ K, (2 : ℝ) ^ (s k - m) : ℝ) : EReal) := by
    unfold wsum; simp only [mul_one]; exact coe_sum K _
  have hpos : 0 < ∑ k ∈ K, (2 : ℝ) ^ (s k - m) := Finset.sum_pos (fun k _ => by positivity) hK
  have hpos' : 0 < ∑ k ∈ K, (2 : ℝ) ^ s k := Finset.sum_pos (fun k _ => by positivity) hK
  have hfac : ∑ k ∈ K, (2 : ℝ) ^ (s k - m) = (∑ k ∈ K, (2 : ℝ) ^ s k) / (2 : ℝ) ^ m := by
    rw [Finset.sum_div]; exact Finset.sum_congr rfl fun k _ => Real.rpow_sub (by norm_num) _ _
  rw [hone, Ideal.div_coe hpos.ne', mul_comm]
  unfold wsum
  rw [coe_mul_sum _ (by positivity)]
  refine Finset.sum_congr rfl fun k _ => ?_
  rw [← mul_assoc, ← EReal.coe_mul]
  congr 2
  unfold share
  rw [hfac, Real.rpow_sub (by norm_num)]
  have h2 : (2 : ℝ) ^ m ≠ 0 := by positivity
  field_simp

/-- The plain softmax, row by row: the scores `t` masked to `⊥` past key `q`, exponentials over the maximum `M` (a real
    number), divided by their sum and multiplied into the values, is the sum of the values by their shares when the
    scores to base two are `s`. -/
theorem softmax (n q : ℕ) (hq : q < n) (s t : ℕ → ℝ) (hst : ∀ k, k ≤ q → t k = s k * Real.log 2) (M : ℝ) (v : ℕ → EReal) :
    ∑ k : Fin n, v k.val * Ideal.div (Ideal.exp ((if k.val ≤ q then ((t k.val : ℝ) : EReal) else ⊥) - (M : EReal)))
        (∑ j : Fin n, Ideal.exp ((if j.val ≤ q then ((t j.val : ℝ) : EReal) else ⊥) - (M : EReal)))
      = ∑ k ∈ Finset.range (q + 1), ((share s (Finset.range (q + 1)) k : ℝ) : EReal) * v k := by
  have hin : ∀ k, k ≤ q → Ideal.exp ((if k ≤ q then ((t k : ℝ) : EReal) else ⊥) - (M : EReal))
      = (((2 : ℝ) ^ s k / Real.exp M : ℝ) : EReal) := by
    intro k hk
    rw [if_pos hk, ← EReal.coe_sub]
    show ((Real.exp (t k - M) : ℝ) : EReal) = _
    rw [Real.exp_sub, hst k hk, mul_comm, Real.exp_mul, Real.exp_log (by norm_num)]
  have hout : ∀ k, ¬ k ≤ q → Ideal.exp ((if k ≤ q then ((t k : ℝ) : EReal) else ⊥) - (M : EReal)) = 0 := by
    intro k hk
    rw [if_neg hk, EReal.bot_sub]; rfl
  have hden : (∑ j : Fin n, Ideal.exp ((if j.val ≤ q then ((t j.val : ℝ) : EReal) else ⊥) - (M : EReal)))
      = (((∑ k ∈ Finset.range (q + 1), (2 : ℝ) ^ s k) / Real.exp M : ℝ) : EReal) := by
    rw [← Finset.sum_range (fun j => Ideal.exp ((if j ≤ q then ((t j : ℝ) : EReal) else ⊥) - (M : EReal))),
      ← Finset.sum_subset (Finset.range_mono (show q + 1 ≤ n by omega)), Finset.sum_div, ← coe_sum]
    · exact Finset.sum_congr rfl fun j hj => hin j (by have := Finset.mem_range.mp hj; omega)
    · intro j _ hj
      exact hout j (by have := Finset.mem_range.not.mp hj; omega)
  have hpos : 0 < (∑ k ∈ Finset.range (q + 1), (2 : ℝ) ^ s k) :=
    Finset.sum_pos (fun k _ => by positivity) ⟨0, by simp⟩
  have he : 0 < Real.exp M := Real.exp_pos M
  rw [hden]
  rw [← Finset.sum_range (fun k => v k * Ideal.div (Ideal.exp ((if k ≤ q then ((t k : ℝ) : EReal) else ⊥) - (M : EReal)))
    (((∑ k ∈ Finset.range (q + 1), (2 : ℝ) ^ s k) / Real.exp M : ℝ) : EReal)),
      ← Finset.sum_subset (Finset.range_mono (show q + 1 ≤ n by omega))]
  · refine Finset.sum_congr rfl fun j hj => ?_
    rw [hin j (by have := Finset.mem_range.mp hj; omega), Ideal.div_coe (by positivity), ← EReal.coe_mul, mul_comm]
    congr 2
    unfold share
    field_simp
  · intro j _ hj
    rw [hout j (by have := Finset.mem_range.not.mp hj; omega), Ideal.div_coe (by positivity), zero_mul, mul_zero]

end Cert.Online

end
-- ==== Proof.Tile.lean ====
/- One row of the running softmax over the reals: what the row's maximum and sums are after the diagonal tile,
after one more tile of 1024 keys, and after one more tile of 512 keys. -/
module
public import proofs.«01_k».proof.Proof.Body
public import proofs.«01_k».proof.Proof.Online
public import Idealize.ShloMosaic.Lib.Pointwise
public import Idealize.ShloMosaic.Lib.IdealHost
public import Idealize.ShloMosaic.Lib.MatmulPlain
@[expose] public section
set_option maxRecDepth 16384
noncomputable section
namespace Cert.MlaIdeal.Val
open Cert.MlaIdeal Cert.MlaIdeal.Gen Idealize.ShloMosaic Idealize.ShloMosaic.TcCoe Idealize.SL.Sem Cert.Online

/-- The value columns beside columns of ones. -/
def ext (v : ℕ → ℕ → EReal) (d : Fin 256) (k : ℕ) : EReal := if d.val < 128 then v d.val k else 1

/-- Row `r` of a state holds the weighted sums over the keys `K`, relative to some real maximum. -/
def Holds (s : ℕ → ℝ) (v : ℕ → ℕ → EReal) (K : Finset ℕ) (r : Fin 512) (st : St Ideal) : Prop :=
  ∃ m : ℝ, (∀ l : Fin 128, st.1 (ix2 r l) = (m : EReal)) ∧ ∀ d : Fin 256, st.2 (ix2 r d) = wsum s m K (ext v d)

/-- The f32 word of minus infinity. -/
theorem neg_inf : Ideal.ofBits FTy.f32 (0xFF800000#32) = (⊥ : EReal) := by
  simp [Ideal.ofBits, Ideal.ieee, FTy.f32]

/-- A tile of 1024 more keys. -/
theorem holds_main (kn kp v : Vec Ideal S1024x128 .bf16) (q : Vec Ideal S512x256 .bf16) (r : Fin 512) (s : ℕ → ℝ)
    (vv : ℕ → ℕ → EReal) (K : Finset ℕ) (off : ℕ) (hd : Disjoint K (Finset.Ico off (off + 1024)))
    (hs : ∀ j : Fin 1024, k0_pay1 kn kp q (ix2 r j) = ((s (off + j.val) : ℝ) : EReal))
    (hv : ∀ (j : Fin 1024) (d : Fin 128), v (ix2 j d) = vv d.val (off + j.val)) (st : St Ideal) (h : Holds s vv K r st) :
    Holds s vv (K ∪ Finset.Ico off (off + 1024)) r (k0_pay4 kn kp q st.1, k0_pay3 kn kp q v st.1 st.2) := by
  obtain ⟨m, hm, ha⟩ := h
  obtain ⟨M, hM⟩ : ∃ M : ℝ, ∀ l : Fin 128, k0_pay2 kn kp q st.1 (ix2 r l) = (M : EReal) := by
    obtain ⟨μ, hμ⟩ := fold_max_real (Finset.univ : Finset (Fin 1024)) (fun j => k0_pay1 kn kp q (ix2 r j))
      (fun j _ => by rw [hs j]; exact EReal.coe_ne_top _) 0 (Finset.mem_univ _) (by rw [hs 0]; exact EReal.coe_ne_bot _)
    refine ⟨max m μ, fun l => ?_⟩
    generalize hA : k0_pay1 kn kp q = A at hμ hs
    pointwise [k0_pay2, hA]
    rw [hm, neg_inf, hμ]
    exact ((EReal.coe_strictMono.monotone.map_max).symm)
  refine ⟨M, fun l => ?_, fun d => ?_⟩
  · have := hM l
    generalize hB : k0_pay2 kn kp q st.1 = B at this
    dsimp only
    pointwise [k0_pay4, hB]
    exact this
  · generalize hB : k0_pay2 kn kp q st.1 = B at hM
    generalize hA : k0_pay1 kn kp q = A at hs
    dsimp only
    pointwise [k0_pay3, hA, hB]
    simp only [hM, hm, hs, dite_eq_ite, ite_self, ha]
    refine (congrArg₂ (· + ·) (wsum_rescale s m M K (ext vv d)) ?_).trans (wsum_union s M K _ hd _)
    rw [← tile_sum]
    refine Finset.sum_congr rfl fun j _ => ?_
    refine congrArg₂ (· * ·) rfl ?_
    unfold ext
    by_cases hdl : d.val < 128
    · rw [dif_pos hdl, if_pos hdl]; exact hv j ⟨d.val, hdl⟩
    · rw [dif_neg hdl, if_neg hdl]

/-- A tile of 512 more keys. -/
theorem holds_odd (kn kp v : Vec Ideal S512x128 .bf16) (q : Vec Ideal S512x256 .bf16) (r : Fin 512) (s : ℕ → ℝ)
    (vv : ℕ → ℕ → EReal) (K : Finset ℕ) (off : ℕ) (hd : Disjoint K (Finset.Ico off (off + 512)))
    (hs : ∀ j : Fin 512, k0_pay9 kn kp q (ix2 r j) = ((s (off + j.val) : ℝ) : EReal))
    (hv : ∀ (j : Fin 512) (d : Fin 128), v (ix2 j d) = vv d.val (off + j.val)) (st : St Ideal) (h : Holds s vv K r st) :
    Holds s vv (K ∪ Finset.Ico off (off + 512)) r (k0_pay12 kn kp q st.1, k0_pay11 kn kp q v st.1 st.2) := by
  obtain ⟨m, hm, ha⟩ := h
  obtain ⟨M, hM⟩ : ∃ M : ℝ, ∀ l : Fin 128, k0_pay10 kn kp q st.1 (ix2 r l) = (M : EReal) := by
    obtain ⟨μ, hμ⟩ := fold_max_real (Finset.univ : Finset (Fin 512)) (fun j => k0_pay9 kn kp q (ix2 r j))
      (fun j _ => by rw [hs j]; exact EReal.coe_ne_top _) 0 (Finset.mem_univ _) (by rw [hs 0]; exact EReal.coe_ne_bot _)
    refine ⟨max m μ, fun l => ?_⟩
    generalize hA : k0_pay9 kn kp q = A at hμ hs
    pointwise [k0_pay10, hA]
    rw [hm, neg_inf, hμ]
    exact ((EReal.coe_strictMono.monotone.map_max).symm)
  refine ⟨M, fun l => ?_, fun d => ?_⟩
  · have := hM l
    generalize hB : k0_pay10 kn kp q st.1 = B at this
    dsimp only
    pointwise [k0_pay12, hB]
    exact this
  · generalize hB : k0_pay10 kn kp q st.1 = B at hM
    generalize hA : k0_pay9 kn kp q = A at hs
    dsimp only
    pointwise [k0_pay11, hA, hB]
    simp only [hM, hm, hs, dite_eq_ite, ite_self, ha]
    refine (congrArg₂ (· + ·) (wsum_rescale s m M K (ext vv d)) ?_).trans (wsum_union s M K _ hd _)
    rw [← tile_sum]
    refine Finset.sum_congr rfl fun j _ => ?_
    refine congrArg₂ (· * ·) rfl ?_
    unfold ext
    by_cases hdl : d.val < 128
    · rw [dif_pos hdl, if_pos hdl]; exact hv j ⟨d.val, hdl⟩
    · rw [dif_neg hdl, if_neg hdl]

/-- The diagonal tile: the keys up to the query's own. -/
theorem holds_first (A : FVec Ideal S512x512 .f32) (v : Vec Ideal S512x128 .bf16) (r : Fin 512) (s : ℕ → ℝ)
    (vv : ℕ → ℕ → EReal) (off : ℕ)
    (hs : ∀ j : Fin 512, A (ix2 r j) = ((s (off + j.val) : ℝ) : EReal))
    (hv : ∀ (j : Fin 512) (d : Fin 128), v (ix2 j d) = vv d.val (off + j.val)) :
    Holds s vv (Finset.Ico off (off + r.val + 1)) r (k0_pay22 A, k0_pay23 A v) := by
  have hmask : ∀ j : Fin 512, k0_pay20 A (ix2 r j) = if j.val ≤ r.val then ((s (off + j.val) : ℝ) : EReal) else ⊥ := by
    intro j
    pointwise [k0_pay20]
    rw [WordCmp.cmpi_sle_ofNat (by omega) (by omega), hs j]
    by_cases h : j.val ≤ r.val
    · rw [if_pos h, decide_eq_true h]; rfl
    · rw [if_neg h, decide_eq_false h]; rfl
  obtain ⟨M, hM⟩ : ∃ M : ℝ, ∀ l : Fin 128, k0_pay21 A (ix2 r l) = (M : EReal) := by
    obtain ⟨μ, hμ⟩ := fold_max_real (Finset.univ : Finset (Fin 512)) (fun j => k0_pay20 A (ix2 r j))
      (fun j _ => by
        rw [hmask j]; split
        · exact EReal.coe_ne_top _
        · exact bot_ne_top) 0 (Finset.mem_univ _)
      (by rw [hmask 0, if_pos (show ((0 : Fin 512).val ≤ r.val) from Nat.zero_le r.val)]; exact EReal.coe_ne_bot _)
    refine ⟨μ, fun l => ?_⟩
    generalize hB : k0_pay20 A = B at hμ
    pointwise [k0_pay21, hB]
    rw [neg_inf, hμ]
  refine ⟨M, fun l => ?_, fun d => ?_⟩
  · have := hM l
    generalize hB : k0_pay21 A = B at this
    dsimp only
    pointwise [k0_pay22, hB]
    exact this
  · generalize hB : k0_pay21 A = B at hM
    generalize hC : k0_pay20 A = C at hmask
    dsimp only
    pointwise [k0_pay23, hB, hC]
    simp only [hM, hmask, dite_eq_ite, ite_self]
    rw [← diag_sum s M off 512 r.val r.isLt]
    refine Finset.sum_congr rfl fun j _ => ?_
    refine congrArg₂ (· * ·) rfl ?_
    unfold ext
    by_cases hdl : d.val < 128
    · rw [dif_pos hdl, if_pos hdl]; exact hv j ⟨d.val, hdl⟩
    · rw [dif_neg hdl, if_neg hdl]

end Cert.MlaIdeal.Val
-- ==== Proof.Block.lean ====
/- The output block of one grid step over the reals: each row is the sum of the values by the shares of the scores. -/
module
public import proofs.«01_k».proof.Proof.Tile
@[expose] public section
set_option maxRecDepth 16384
noncomputable section
namespace Cert.MlaIdeal.Val
open Cert.MlaIdeal Cert.MlaIdeal.Gen Idealize.ShloMosaic Idealize.ShloMosaic.TcCoe Idealize.SL.Sem Cert.Online

/-- The score of query row `r` against key row `j`: both halves of the query tile against both key tiles. -/
def score (q : Vec Ideal S512x256 .bf16) (x5 x6 : Vec Ideal S4096x128 .bf16) (r : Fin 512) (j : Fin 4096) : EReal :=
  (∑ d : Fin 128, (q (ix2 r ⟨d.val, by omega⟩) * x5 (ix2 j d) : EReal))
    + ∑ d : Fin 128, (q (ix2 r ⟨128 + d.val, by omega⟩) * x6 (ix2 j d) : EReal)

/-- Row `j` of the tile of trip `k`. -/
theorem rowsM_apply (i : grid0.Coords) (k : Fin (k0_t1_loop i).trips) (x : Vec Ideal S4096x128 .bf16) (j : Fin 1024)
    (d : Fin 128) (h : 1024 * k.val + j.val < 4096) : rowsM i k x (ix2 j d) = x (ix2 ⟨1024 * k.val + j.val, h⟩ d) := by
  unfold rowsM
  refine View.ld_unit_apply_of x _ _ _ _ _ fun a => ?_
  match a with
  | ⟨0, _⟩ => show 1024 * k.val + j.val = k0_off2 i k 0 + j.val; rw [off_main]; rfl
  | ⟨1, _⟩ => show d.val = k0_off2 i k 1 + d.val; rw [off_main]; exact (Nat.zero_add _).symm

/-- Row `j` of the diagonal tile. -/
theorem rowsD_apply (i : grid0.Coords) (x : Vec Ideal S4096x128 .bf16) (j : Fin 512)
    (d : Fin 128) (h : 512 * (i 2).val + j.val < 4096) : rowsD i x (ix2 j d) = x (ix2 ⟨512 * (i 2).val + j.val, h⟩ d) := by
  unfold rowsD
  refine View.ld_unit_apply_of x _ _ _ _ _ fun a => ?_
  match a with
  | ⟨0, _⟩ => show 512 * (i 2).val + j.val = k0_off1 i 0 + j.val; rw [off_diag]; rfl
  | ⟨1, _⟩ => show d.val = k0_off1 i 1 + d.val; rw [off_diag]; exact (Nat.zero_add _).symm

/-- Row `j` of the half tile of an odd query block. -/
theorem rowsO_apply (i : grid0.Coords) (hc : cond0_0 i) (x : Vec Ideal S4096x128 .bf16) (j : Fin 512)
    (d : Fin 128) (h : 512 * ((i 2).val - 1) + j.val < 4096) :
    rowsO i hc x (ix2 j d) = x (ix2 ⟨512 * ((i 2).val - 1) + j.val, h⟩ d) := by
  unfold rowsO
  refine View.ld_unit_apply_of x _ _ _ _ _ fun a => ?_
  match a with
  | ⟨0, _⟩ => show 512 * ((i 2).val - 1) + j.val = k0_off4 i 0 + j.val; rw [off_odd i ((odd_iff i).mp hc)]; rfl
  | ⟨1, _⟩ => show d.val = k0_off4 i 1 + d.val; rw [off_odd i ((odd_iff i).mp hc)]; exact (Nat.zero_add _).symm

section
variable (i : grid0.Coords) (x5 x6 x7 : Vec Ideal S4096x128 .bf16) (q : Vec Ideal S512x256 .bf16) (r : Fin 512)
  (s : ℕ → ℝ) (vv : ℕ → ℕ → EReal) (hs : ∀ j : Fin 4096, score q x5 x6 r j = ((s j.val : ℝ) : EReal))
  (hv : ∀ (j : Fin 4096) (d : Fin 128), x7 (ix2 j d) = vv d.val j.val)

include hs hv in
/-- After the diagonal tile. -/
theorem first_holds : Holds s vv (Finset.Ico (512 * (i 2).val) (512 * (i 2).val + r.val + 1)) r (first i x5 x6 x7 q) := by
  have hi : (i 2).val < 8 := (i 2).isLt
  refine holds_first _ _ r s vv (512 * (i 2).val) (fun j => ?_) (fun j d => ?_)
  · rw [← hs ⟨512 * (i 2).val + j.val, by omega⟩]
    pointwise [k0_pay19]
    unfold score
    simp only [rowsD_apply i _ j _ (by omega)]
  · rw [rowsD_apply i x7 j d (by omega)]
    exact hv ⟨512 * (i 2).val + j.val, by omega⟩ d

include hs hv in
/-- After `n` trips of the main loop. -/
theorem runM_holds (n : ℕ) (hn : n ≤ (k0_t1_loop i).trips) :
    Holds s vv (Finset.Ico (512 * (i 2).val) (512 * (i 2).val + r.val + 1) ∪ Finset.Ico 0 (1024 * n)) r
      (runM i x5 x6 x7 q (first i x5 x6 x7 q) n) := by
  have hi : (i 2).val < 8 := (i 2).isLt
  have ht : (k0_t1_loop i).trips = (i 2).val / 2 := trips_main i
  induction n with
  | zero => simpa [runM] using first_holds i x5 x6 x7 q r s vv hs hv
  | succ n ih =>
    have ih := ih (by omega)
    have hn' : n < (k0_t1_loop i).trips := hn
    rw [runM, dif_pos hn']
    have hu : Finset.Ico (512 * (i 2).val) (512 * (i 2).val + r.val + 1) ∪ Finset.Ico 0 (1024 * (n + 1))
        = (Finset.Ico (512 * (i 2).val) (512 * (i 2).val + r.val + 1) ∪ Finset.Ico 0 (1024 * n))
          ∪ Finset.Ico (1024 * n) (1024 * n + 1024) := by
      ext a; simp only [Finset.mem_union, Finset.mem_Ico]; omega
    rw [hu]
    refine holds_main _ _ _ q r s vv _ (1024 * n) ?_ (fun j => ?_) (fun j d => ?_) _ ih
    · rw [Finset.disjoint_left]; intro a; simp only [Finset.mem_union, Finset.mem_Ico]; omega
    · rw [← hs ⟨1024 * n + j.val, by omega⟩]
      pointwise [k0_pay1]
      unfold score
      simp only [rowsM_apply i ⟨n, hn'⟩ _ j _ (show 1024 * n + j.val < 4096 by omega)]
    · rw [rowsM_apply i ⟨n, hn'⟩ x7 j d (show 1024 * n + j.val < 4096 by omega)]
      exact hv ⟨1024 * n + j.val, by omega⟩ d

include hs hv in
/-- After the half tile of an odd query block. -/
theorem stepO_holds (hc : cond0_0 i) (K : Finset ℕ) (st : St Ideal) (h : Holds s vv K r st)
    (hd : Disjoint K (Finset.Ico (512 * ((i 2).val - 1)) (512 * ((i 2).val - 1) + 512))) :
    Holds s vv (K ∪ Finset.Ico (512 * ((i 2).val - 1)) (512 * ((i 2).val - 1) + 512)) r (stepO i hc x5 x6 x7 q st) := by
  have hi : (i 2).val < 8 := (i 2).isLt
  refine holds_odd _ _ _ q r s vv K (512 * ((i 2).val - 1)) hd (fun j => ?_) (fun j d => ?_) st h
  · rw [← hs ⟨512 * ((i 2).val - 1) + j.val, by omega⟩]
    pointwise [k0_pay9]
    unfold score
    simp only [rowsO_apply i hc _ j _ (by omega)]
  · rw [rowsO_apply i hc x7 j d (by omega)]
    exact hv ⟨512 * ((i 2).val - 1) + j.val, by omega⟩ d
end

/-- The quotient of the two halves of a row is the sum of the values by their shares. -/
theorem quot_apply (s : ℕ → ℝ) (vv : ℕ → ℕ → EReal) (K : Finset ℕ) (hK : K.Nonempty) (r : Fin 512) (st : St Ideal)
    (h : Holds s vv K r st) (d : Fin 128) :
    k0_pay13 (lhalf st.2) (rhalf st.2) (ix2 r d) = ∑ k ∈ K, ((share s K k : ℝ) : EReal) * vv d.val k := by
  obtain ⟨m, -, ha⟩ := h
  have hl : lhalf st.2 (ix2 r d) = wsum s m K (vv d.val) := by
    unfold lhalf
    rw [View.ld_unit_apply_of st.2 _ _ _ _ (ix2 r ⟨d.val, by omega⟩) (fun a => by
      match a with
      | ⟨0, _⟩ => exact (Nat.zero_add _).symm
      | ⟨1, _⟩ => exact (Nat.zero_add _).symm), ha]
    refine congrArg _ (funext fun k => ?_)
    exact if_pos d.isLt
  have hr : rhalf st.2 (ix2 r d) = wsum s m K (fun _ => 1) := by
    unfold rhalf
    rw [View.ld_unit_apply_of st.2 _ _ _ _ (ix2 r ⟨128 + d.val, by omega⟩) (fun a => by
      match a with
      | ⟨0, _⟩ => exact (Nat.zero_add _).symm
      | ⟨1, _⟩ => rfl), ha]
    refine congrArg _ (funext fun k => ?_)
    exact if_neg (by dsimp only; omega)
  generalize lhalf st.2 = A at hl
  generalize rhalf st.2 = B at hr
  pointwise [k0_pay13]
  rw [hl, hr]
  exact quotient s m K hK _

/-- The keys of an even query block's row. -/
theorem keys_even (n r : ℕ) (h : n % 2 = 0) :
    Finset.Ico (512 * n) (512 * n + r + 1) ∪ Finset.Ico 0 (1024 * (n / 2)) = Finset.range (512 * n + r + 1) := by
  ext a; simp only [Finset.mem_union, Finset.mem_Ico, Finset.mem_range]; omega

/-- The keys of an odd query block's row. -/
theorem keys_odd (n r : ℕ) (h : n % 2 = 1) :
    (Finset.Ico (512 * n) (512 * n + r + 1) ∪ Finset.Ico 0 (1024 * (n / 2)))
      ∪ Finset.Ico (512 * (n - 1)) (512 * (n - 1) + 512) = Finset.range (512 * n + r + 1) := by
  ext a; simp only [Finset.mem_union, Finset.mem_Ico, Finset.mem_range]; omega
end Cert.MlaIdeal.Val
-- ==== Proof.Spec.lean ====
/- What the attention computes, over the reals: one formula for the kernel's result and for the reference's. -/
module
public import proofs.«01_k».proof.Proof.Online
@[expose] public section
noncomputable section
namespace Cert.Online

/-- The unscaled score of one query (plain part `a`, the two halves `u`, `w` of the part that is rotated, by the cosines
    `c` and sines `s` of its position) against one key (plain part `kn`, rotated part `kp`). -/
def dotRot (a kn u w c s kp : ℕ → ℝ) : ℝ :=
  ∑ d ∈ Finset.range 128, a d * kn d + (∑ e ∈ Finset.range 32, (u e * c e - w e * s e) * kp e
    + ∑ e ∈ Finset.range 32, (u e * s e + w e * c e) * kp (32 + e))

/-- The scale the kernel folds into its queries: the softmax scale over the logarithm of two. -/
def kap : ℝ := (Real.sqrt 192)⁻¹ * (Real.log 2)⁻¹

/-- The five arrays the attention reads. -/
structure Inputs where
  q : Fin 8192 → Fin 1536 → EReal
  kv : Fin 8192 → Fin 2048 → EReal
  kp : Fin 8192 → Fin 64 → EReal
  cos : Fin 4096 → Fin 32 → EReal
  sin : Fin 4096 → Fin 32 → EReal

/-- Every entry of the queries, of the keys and of the tables is a real number. -/
structure Inputs.Finite (x : Inputs) : Prop where
  q : ∀ a b, ∃ r : ℝ, x.q a b = (r : EReal)
  kn : ∀ a (b : Fin 2048), b.val < 1024 → ∃ r : ℝ, x.kv a b = (r : EReal)
  kp : ∀ a b, ∃ r : ℝ, x.kp a b = (r : EReal)
  cos : ∀ a b, ∃ r : ℝ, x.cos a b = (r : EReal)
  sin : ∀ a b, ∃ r : ℝ, x.sin a b = (r : EReal)

/-- An array at natural numbers: zero outside. -/
def ext0 {n k : ℕ} (A : Fin n → Fin k → EReal) (a b : ℕ) : EReal :=
  if h : a < n ∧ b < k then A ⟨a, h.1⟩ ⟨b, h.2⟩ else 0

/-- The real numbers of an array, at natural numbers. -/
def tab {n k : ℕ} (A : Fin n → Fin k → EReal) (a b : ℕ) : ℝ := (ext0 A a b).toReal

/-- Inside, it is the array. -/
theorem ext0_eq {n k : ℕ} (A : Fin n → Fin k → EReal) (a : Fin n) (b : Fin k) : ext0 A a.val b.val = A a b :=
  dif_pos ⟨a.isLt, b.isLt⟩

/-- A real entry is the extended real of its table's number. -/
theorem tab_eq {n k : ℕ} (A : Fin n → Fin k → EReal) (a : Fin n) (b : Fin k) (h : ∃ r : ℝ, A a b = (r : EReal)) :
    A a b = ((tab A a.val b.val : ℝ) : EReal) := by
  obtain ⟨r, hr⟩ := h
  rw [tab, ext0_eq, hr, EReal.toReal_coe]

/-- The unscaled score of query `q` against key `k`, in batch `b` and head `h`. -/
def base (x : Inputs) (b h q k : ℕ) : ℝ :=
  dotRot (fun d => tab x.q (4096 * b + q) (128 * h + d)) (fun d => tab x.kv (4096 * b + k) (128 * h + d))
    (fun e => tab x.q (4096 * b + q) (1024 + 64 * h + e)) (fun e => tab x.q (4096 * b + q) (1024 + 64 * h + 32 + e))
    (tab x.cos q) (tab x.sin q) (tab x.kp (4096 * b + k))

/-- The attention at row `4096 b + q` and column `128 h + d`: the values of the keys up to `q`, by their softmax shares. -/
def attend (x : Inputs) (b h q d : ℕ) : EReal :=
  ∑ k ∈ Finset.range (q + 1), ((share (fun k => base x b h q k * kap) (Finset.range (q + 1)) k : ℝ) : EReal)
    * ext0 x.kv (4096 * b + k) (1024 + 128 * h + d)
end Cert.Online
-- ==== Proof.QTile.lean ====
/- The query tile of one grid step over the reals, and the score of a query row against a key row. -/
module
public import proofs.«01_k».proof.Proof.Block
public import proofs.«01_k».proof.Proof.Spec
@[expose] public section
set_option maxRecDepth 16384
noncomputable section
namespace Cert.MlaIdeal.Val
open Cert.MlaIdeal Cert.MlaIdeal.Gen Idealize.ShloMosaic Idealize.ShloMosaic.TcCoe Idealize.SL.Sem Cert.Online

/-- The named constant is that scale. -/
theorem named_scale : (Named.named κ "qscale" 0x3DD53B95#32 : Ideal .f32) = ((kap : ℝ) : EReal) := rfl

/-- The half a lane lies in, as the kernel computes it. -/
theorem lane_word : ∀ l : Fin 128, (Scalar.select
          (IntOp.andi
            (IntOp.cmpi CmpIPredicate.ne
              (IntOp.subi (BitVec.setWidth 32 (IntOp.cmpi CmpIPredicate.sgt (BitVec.ofNat 32 l.val) 0#32))
                (BitVec.setWidth 32 (IntOp.cmpi CmpIPredicate.slt (BitVec.ofNat 32 l.val) 0#32)))
              (Scalar.subi (1#32) (Scalar.extui (Scalar.cmpi CmpIPredicate.slt 64#32 0#32))))
            (IntOp.cmpi CmpIPredicate.ne (IntOp.remsi ArithUnit.vector (BitVec.ofNat 32 l.val) 64#32) 0#32))
          (IntOp.subi (IntOp.divsi ArithUnit.vector (BitVec.ofNat 32 l.val) 64#32) 1#32)
          (IntOp.divsi ArithUnit.vector (BitVec.ofNat 32 l.val) 64#32)) = BitVec.ofNat 32 (l.val / 64) := by
  decide +kernel

/-- The parity of the head's number, as the kernel computes it. -/
theorem head_word : ∀ n : Fin 8, (Scalar.select
          (Scalar.andi
            (Scalar.xori
              (Scalar.cmpi CmpIPredicate.slt
                (Scalar.remsi (BitVec.ofNat 32 n.val) (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (Scalar.cmpi CmpIPredicate.ne
              (Scalar.remsi (BitVec.ofNat 32 n.val) (Scalar.select (Scalar.cmpi CmpIPredicate.eq 2#32 0#32) 1#32 2#32))
              0#32))
          (Scalar.addi
            (Scalar.remsi (BitVec.ofNat 32 n.val) (Scalar.select (Scalar.cmpi CmpIPredicate.eq 2#32 0#32) 1#32 2#32))
            (Scalar.select (Scalar.cmpi CmpIPredicate.eq 2#32 0#32) 1#32 2#32))
          (Scalar.remsi (BitVec.ofNat 32 n.val) (Scalar.select (Scalar.cmpi CmpIPredicate.eq 2#32 0#32) 1#32 2#32)))
      = BitVec.ofNat 32 (n.val % 2) := by
  decide +kernel

/-- Comparing two halves. -/
theorem same_word : ∀ a b : Fin 2, IntOp.cmpi CmpIPredicate.eq (BitVec.ofNat 32 a.val) (BitVec.ofNat 32 b.val)
    = BitVec.ofBool (decide (a.val = b.val)) := by
  decide +kernel

/-- An index of a tile from its two coordinates. -/
theorem tile_idx (x : S512x128.Idx) (r : Fin 512) (l : Fin 128) (h0 : r.val = (x 0).val) (h1 : l.val = (x 1).val) :
    x = ix2 r l := by
  funext a
  match a with
  | ⟨0, _⟩ => exact Fin.ext h0.symm
  | ⟨1, _⟩ => exact Fin.ext h1.symm

/-- The plain half of the query tile. -/
theorem qv_plain (hh : BitVec 32) (x0 x1 x2 x3 x4 : Vec Ideal S512x128 .f32) (r : Fin 512) (l : Fin 128) :
    qv hh x0 x1 x2 x3 x4 (ix2 r ⟨l.val, by omega⟩) = (x0 (ix2 r l) * ((kap : ℝ) : EReal) : EReal) := by
  unfold qv
  canon_tiles x h
  · have : l.val = 128 + (x 1).val := h1
    omega
  · rw [tile_idx x r l h0 h1]
    pointwise [k0_pay14]
    rfl

/-- The rotated half of the query tile: the lanes of the head's own half hold the rotated query, the others zero. -/
theorem qv_rot (n : ℕ) (hn : n < 8) (x0 x1 x2 x3 x4 : Vec Ideal S512x128 .f32) (r : Fin 512) (l : Fin 128) :
    qv (BitVec.ofNat 32 n) x0 x1 x2 x3 x4 (ix2 r ⟨128 + l.val, by omega⟩)
      = (if l.val / 64 = n % 2 then
          (x1 (ix2 r l) * x2 (ix2 r l) + x1 (ix2 r ⟨(l.val + 32) % 128, by omega⟩) * x3 (ix2 r l)
            + x1 (ix2 r ⟨(l.val + 96) % 128, by omega⟩) * x4 (ix2 r l)) * ((kap : ℝ) : EReal) else 0 : EReal) := by
  unfold qv
  canon_tiles x h
  · have h1' : l.val = (x 1).val := by have : 128 + l.val = 128 + (x 1).val := h1; omega
    rw [tile_idx x r l h0 h1']
    have hA : k0_pay15 x1 x2 x3 x4 (ix2 r l) = ((x1 (ix2 r l) * x2 (ix2 r l) + x1 (ix2 r ⟨(l.val + 32) % 128, by omega⟩) * x3 (ix2 r l)
            + x1 (ix2 r ⟨(l.val + 96) % 128, by omega⟩) * x4 (ix2 r l)) * ((kap : ℝ) : EReal) : EReal) := by
      pointwise [k0_pay15]
      rfl
    generalize k0_pay15 x1 x2 x3 x4 = A at hA
    pointwise [k0_pay18, k0_pay16, k0_pay17]
    rw [lane_word l, head_word ⟨n, hn⟩, same_word ⟨l.val / 64, by omega⟩ ⟨n % 2, by omega⟩, hA]
    by_cases e : l.val / 64 = n % 2
    · rw [if_pos e, decide_eq_true e]; rfl
    · rw [if_neg e, decide_eq_false e]; rfl
  · have : 128 + l.val = (x 1).val := h1
    omega
end Cert.MlaIdeal.Val
-- ==== Proof.Score.lean ====
/- The score of a query row against a key row, when every entry read is a real number. -/
module
public import proofs.«01_k».proof.Proof.QTile
@[expose] public section
set_option maxRecDepth 16384
noncomputable section
namespace Cert.MlaIdeal.Val
open Cert.MlaIdeal Cert.MlaIdeal.Gen Idealize.ShloMosaic Idealize.ShloMosaic.TcCoe Idealize.SL.Sem Cert.Online

/-- A rotated lane of the query, as a real number. -/
def lane (u c s : ℕ → ℝ) (l : ℕ) : ℝ :=
  u l * c (l % 32) + u ((l + 32) % 128) * (if l / 32 % 2 = 0 then -(s (l % 32)) else 0)
    + u ((l + 96) % 128) * (if l / 32 % 2 = 0 then 0 else s (l % 32))

/-- The sum over all lanes of the selected, rotated, scaled query is the rotation's two sums over the head's own lanes. -/
theorem lanes_sum (p : ℕ) (hp : p < 2) (u c s kp : ℕ → ℝ) (k : ℝ) :
    ∑ l ∈ Finset.range 128, (if l / 64 = p then lane u c s l * k else 0) * kp (l % 64)
      = (∑ e ∈ Finset.range 32, (u (64 * p + e) * c e - u (64 * p + 32 + e) * s e) * kp e
        + ∑ e ∈ Finset.range 32, (u (64 * p + e) * s e + u (64 * p + 32 + e) * c e) * kp (32 + e)) * k := by
  have split : ∀ f : ℕ → ℝ, ∑ l ∈ Finset.range 128, f l = ∑ e ∈ Finset.range 32, f e + ∑ e ∈ Finset.range 32, f (32 + e)
      + ∑ e ∈ Finset.range 32, f (64 + e) + ∑ e ∈ Finset.range 32, f (96 + e) := by
    intro f
    rw [show 128 = 32 + 32 + 32 + 32 from rfl, Finset.sum_range_add, Finset.sum_range_add, Finset.sum_range_add]
  rw [split, add_mul, Finset.sum_mul, Finset.sum_mul]
  have lo : ∀ e, e < 32 → ∀ b, b < 2 → lane u c s (64 * b + e) = u (64 * b + e) * c e - u (64 * b + 32 + e) * s e := by
    intro e he b hb
    unfold lane
    rw [show (64 * b + e) % 32 = e by omega, if_pos (by omega), if_pos (by omega),
      show (64 * b + e + 32) % 128 = 64 * b + 32 + e by omega]
    ring
  have hi : ∀ e, e < 32 → ∀ b, b < 2 → lane u c s (64 * b + 32 + e) = u (64 * b + e) * s e + u (64 * b + 32 + e) * c e := by
    intro e he b hb
    unfold lane
    rw [show (64 * b + 32 + e) % 32 = e by omega, if_neg (by omega), if_neg (by omega),
      show (64 * b + 32 + e + 96) % 128 = 64 * b + e by omega]
    ring
  have zlo : ∀ e, e < 32 → ∀ b, b < 2 → (if (64 * b + e) / 64 = p then lane u c s (64 * b + e) * k else 0) * kp ((64 * b + e) % 64)
      = if b = p then (u (64 * p + e) * c e - u (64 * p + 32 + e) * s e) * kp e * k else 0 := by
    intro e he b hb
    rw [show (64 * b + e) / 64 = b by omega, show (64 * b + e) % 64 = e by omega]
    split
    · next h => subst h; rw [lo e he b hb]; ring
    · exact zero_mul _
  have zhi : ∀ e, e < 32 → ∀ b, b < 2 → (if (64 * b + 32 + e) / 64 = p then lane u c s (64 * b + 32 + e) * k else 0) * kp ((64 * b + 32 + e) % 64)
      = if b = p then (u (64 * p + e) * s e + u (64 * p + 32 + e) * c e) * kp (32 + e) * k else 0 := by
    intro e he b hb
    rw [show (64 * b + 32 + e) / 64 = b by omega, show (64 * b + 32 + e) % 64 = 32 + e by omega]
    split
    · next h => subst h; rw [hi e he b hb]; ring
    · exact zero_mul _
  have mem : ∀ {e}, e ∈ Finset.range 32 → e < 32 := fun h => Finset.mem_range.mp h
  have s0 := Finset.sum_congr rfl fun e (he : e ∈ Finset.range 32) => zlo e (mem he) 0 (by omega)
  have s1 := Finset.sum_congr rfl fun e (he : e ∈ Finset.range 32) => zhi e (mem he) 0 (by omega)
  have s2 := Finset.sum_congr rfl fun e (he : e ∈ Finset.range 32) => zlo e (mem he) 1 (by omega)
  have s3 := Finset.sum_congr rfl fun e (he : e ∈ Finset.range 32) => zhi e (mem he) 1 (by omega)
  simp only [Nat.mul_zero, Nat.zero_add, Nat.mul_one] at s0 s1 s2 s3
  rw [s0, s1, s2, s3]
  rcases (by omega : p = 0 ∨ p = 1) with h | h <;> subst h <;> simp

/-- The score of query row `r` against key row `j` is the unscaled score of the head times the kernel's scale. -/
theorem score_real (n : ℕ) (hn : n < 8) (x0 x1 x2 x3 x4 : Vec Ideal S512x128 .f32) (x5 x6 : Vec Ideal S4096x128 .bf16)
    (r : Fin 512) (j : Fin 4096) (a kn u c s kp : ℕ → ℝ)
    (h0 : ∀ d : Fin 128, x0 (ix2 r d) = ((a d.val : ℝ) : EReal)) (h1 : ∀ l : Fin 128, x1 (ix2 r l) = ((u l.val : ℝ) : EReal))
    (h2 : ∀ l : Fin 128, x2 (ix2 r l) = ((c (l.val % 32) : ℝ) : EReal))
    (h3 : ∀ l : Fin 128, x3 (ix2 r l) = (((if l.val / 32 % 2 = 0 then -(s (l.val % 32)) else 0) : ℝ) : EReal))
    (h4 : ∀ l : Fin 128, x4 (ix2 r l) = (((if l.val / 32 % 2 = 0 then 0 else s (l.val % 32)) : ℝ) : EReal))
    (h5 : ∀ d : Fin 128, x5 (ix2 j d) = ((kn d.val : ℝ) : EReal))
    (h6 : ∀ l : Fin 128, x6 (ix2 j l) = ((kp (l.val % 64) : ℝ) : EReal)) :
    score (qv (BitVec.ofNat 32 n) x0 x1 x2 x3 x4) x5 x6 r j
      = ((dotRot a kn (fun e => u (64 * (n % 2) + e)) (fun e => u (64 * (n % 2) + 32 + e)) c s kp * kap : ℝ) : EReal) := by
  unfold score
  have hl : ∀ d : Fin 128, (qv (BitVec.ofNat 32 n) x0 x1 x2 x3 x4 (ix2 r ⟨d.val, by omega⟩) * x5 (ix2 j d) : EReal)
      = ((a d.val * kn d.val * kap : ℝ) : EReal) := by
    intro d
    rw [qv_plain, h0, h5, ← EReal.coe_mul, ← EReal.coe_mul]
    congr 1; ring
  have hr : ∀ l : Fin 128, (qv (BitVec.ofNat 32 n) x0 x1 x2 x3 x4 (ix2 r ⟨128 + l.val, by omega⟩) * x6 (ix2 j l) : EReal)
      = (((if l.val / 64 = n % 2 then lane u c s l.val * kap else 0) * kp (l.val % 64) : ℝ) : EReal) := by
    intro l
    rw [qv_rot n hn, h6]
    split
    · rw [h1 l, h1, h1, h2, h3, h4]
      simp only [← EReal.coe_mul, ← EReal.coe_add]
      rfl
    · rw [← EReal.coe_zero, ← EReal.coe_mul]
  rw [Finset.sum_congr rfl fun d _ => hl d, Finset.sum_congr rfl fun d _ => hr d]
  rw [coe_sum, coe_sum, ← EReal.coe_add,
    Fin.sum_univ_eq_sum_range (fun d => a d * kn d * kap) 128,
    Fin.sum_univ_eq_sum_range (fun l => (if l / 64 = n % 2 then lane u c s l * kap else 0) * kp (l % 64)) 128,
    lanes_sum _ (by omega), dotRot, ← Finset.sum_mul]
  congr 1; ring
end Cert.MlaIdeal.Val
-- ==== Proof.Blocks.lean ====
/- The input blocks of a grid point, read at an index of the arguments. -/
module
public import proofs.«01_k».proof.Proof.Gen.MlaIdeal.Value
public import Idealize.ShloMosaic.Lib.Pipeline.ValueKit
public import Idealize.ShloMosaic.Lib.Pointwise
@[expose] public section
set_option maxRecDepth 16384
noncomputable section
namespace Cert.MlaIdeal.Val
open Cert.MlaIdeal Cert.MlaIdeal.Gen Idealize.ShloMosaic Idealize.ShloMosaic.TcCoe Idealize.SL.Sem

variable (m : (ℓ : Loc nD τ sig) → Buf (Elt Ideal) ℓ) (c : Dev nD)

/-- The grid coordinates of a point: batch, head, query block. -/
theorem coords : ∀ t : Fin cfg0.N, (grid0.coords t 0).val = t.val / 64 ∧ (grid0.coords t 1).val = t.val / 8 % 8 ∧ (grid0.coords t 2).val = t.val % 8 :=
  (by decide +kernel : ∀ t : Fin grid0.N, _)

/-- The block each window names at a point. -/
theorem idx : ∀ t : Fin cfg0.N, win0_0.index t = ![8 * (t.val / 64) + t.val % 8, t.val / 8 % 8]
    ∧ win0_1.index t = ![8 * (t.val / 64) + t.val % 8, 8 + t.val / 8 % 8 / 2]
    ∧ win0_2.index t = ![t.val % 8, 0] ∧ win0_3.index t = ![t.val % 8, 0] ∧ win0_4.index t = ![t.val % 8, 0]
    ∧ win0_5.index t = ![t.val / 64, t.val / 8 % 8] ∧ win0_6.index t = ![t.val / 64, 0]
    ∧ win0_7.index t = ![t.val / 64, 8 + t.val / 8 % 8] ∧ win0_8.index t = ![8 * (t.val / 64) + t.val % 8, t.val / 8 % 8] :=
  (by decide +kernel : ∀ t : Fin grid0.N, _)

/-- There are 128 points. -/
theorem lt_N (t : Fin cfg0.N) : t.val < 128 := t.isLt

/-- The block of the plain queries. -/
theorem read0 (t : Fin cfg0.N) (r : Fin 512) (l : Fin 128) : iblk m c 0 t (ix2 r l)
    = m ((c : Thread nD τ).loc main_arg0) (ix2 ⟨4096 * (t.val / 64) + 512 * (t.val % 8) + r.val, by have := lt_N t; omega⟩ ⟨128 * (t.val / 8 % 8) + l.val, by omega⟩) := by
  blk_ext [iblk, V, idx t]

/-- The block of the queries to be rotated: two heads' worth. -/
theorem read1 (t : Fin cfg0.N) (r : Fin 512) (l : Fin 128) : iblk m c 1 t (ix2 r l)
    = m ((c : Thread nD τ).loc main_arg0) (ix2 ⟨4096 * (t.val / 64) + 512 * (t.val % 8) + r.val, by have := lt_N t; omega⟩ ⟨1024 + 128 * (t.val / 8 % 8 / 2) + l.val, by omega⟩) := by
  blk_ext [iblk, V, idx t]

section
variable {F : FTy → Type} [FloatOps F] [Named F] (m : (ℓ : Loc nD τ sig) → Buf (Elt F) ℓ) (c : Dev nD)

/-- A table of zeros, 32 lanes wide. -/
def z32 : Vec F S4096x32 .f32 := broadcastInDim S4096x32 ![] bcast_S_S4096x32 (constant S_ .f32 0x00000000#32)

/-- Four tables of 32 lanes side by side. -/
def four (a b c d : Vec F S4096x32 .f32) : Vec F S4096x128 .f32 :=
  concatenate S4096x128 1 [⟨S4096x32, a⟩, ⟨S4096x32, b⟩, ⟨S4096x32, c⟩, ⟨S4096x32, d⟩] concatenates_S4096x32_S4096x32_S4096x32_S4096x32_S4096x128_d1

/-- Two key tables side by side. -/
def twice (a : Vec F S8192x64 .bf16) : Vec F S8192x128 .bf16 :=
  concatenate S8192x128 1 [⟨S8192x64, a⟩, ⟨S8192x64, a⟩] concatenates_S8192x64_S8192x64_S8192x128_d1

/-- The cosine table the kernel is given. -/
theorem host1 : (V m c main_v1 : Vec F S4096x128 .f32) = four (m ((c : Thread nD τ).loc main_arg3)) (m ((c : Thread nD τ).loc main_arg3))
    (m ((c : Thread nD τ).loc main_arg3)) (m ((c : Thread nD τ).loc main_arg3)) := rfl

/-- The table of negated sines. -/
theorem host4 : (V m c main_v4 : Vec F S4096x128 .f32)
    = four (Host.negf (m ((c : Thread nD τ).loc main_arg4))) z32 (Host.negf (m ((c : Thread nD τ).loc main_arg4))) z32 := rfl

/-- The table of sines. -/
theorem host5 : (V m c main_v5 : Vec F S4096x128 .f32)
    = four z32 (m ((c : Thread nD τ).loc main_arg4)) z32 (m ((c : Thread nD τ).loc main_arg4)) := rfl

/-- The rotated part of the keys, twice. -/
theorem host6 : (V m c main_v6 : Vec F S8192x128 .bf16) = twice (m ((c : Thread nD τ).loc main_arg2)) := rfl

end

/-- Four tables side by side, read at a lane. -/
theorem four_apply (a b c d : Vec Ideal S4096x32 .f32) (p : Fin 4096) (l : Fin 128) : four a b c d (ix2 p l)
    = if l.val < 32 then a (ix2 p ⟨l.val % 32, by omega⟩) else if l.val < 64 then b (ix2 p ⟨l.val % 32, by omega⟩)
      else if l.val < 96 then c (ix2 p ⟨l.val % 32, by omega⟩) else d (ix2 p ⟨l.val % 32, by omega⟩) := by
  pointwise [four]
  by_cases h1 : l.val < 32
  · rw [dif_pos h1, if_pos h1]; congr 2; apply Fin.ext; dsimp only; omega
  · by_cases h2 : l.val < 64
    · rw [dif_neg h1, dif_pos (by omega), if_neg h1, if_pos h2]; congr 2; apply Fin.ext; dsimp only; omega
    · by_cases h3 : l.val < 96
      · rw [dif_neg h1, dif_neg (by omega), dif_pos (by omega), if_neg h1, if_neg h2, if_pos h3]
        congr 2; apply Fin.ext; dsimp only; omega
      · rw [dif_neg h1, dif_neg (by omega), dif_neg (by omega), if_neg h1, if_neg h2, if_neg h3]
        congr 2; apply Fin.ext; dsimp only; omega

/-- Two key tables side by side, read at a lane. -/
theorem twice_apply (a : Vec Ideal S8192x64 .bf16) (p : Fin 8192) (l : Fin 128) : twice a (ix2 p l) = a (ix2 p ⟨l.val % 64, by omega⟩) := by
  pointwise [twice]
  split_ifs <;> (congr 2; apply Fin.ext; dsimp only; omega)

/-- The negated table, read at an index. -/
theorem neg_apply (a : FVec Ideal S4096x32 .f32) (p : Fin 4096) (l : Fin 32) : Host.negf a (ix2 p l) = (-(a (ix2 p l)) : EReal) := by
  pointwise

/-- The table of zeros, read at an index. -/
theorem z32_apply (p : Fin 4096) (l : Fin 32) : (z32 : Vec Ideal S4096x32 .f32) (ix2 p l) = (0 : EReal) := by
  pointwise [z32]

/-- The block of the cosines. -/
theorem read2 (t : Fin cfg0.N) (r : Fin 512) (l : Fin 128) : iblk m c 2 t (ix2 r l)
    = (V m c main_v1 : Vec Ideal S4096x128 .f32) (ix2 ⟨512 * (t.val % 8) + r.val, by have := lt_N t; omega⟩ l) := by
  blk_ext [iblk, idx t]

/-- The block of the negated sines. -/
theorem read3 (t : Fin cfg0.N) (r : Fin 512) (l : Fin 128) : iblk m c 3 t (ix2 r l)
    = (V m c main_v4 : Vec Ideal S4096x128 .f32) (ix2 ⟨512 * (t.val % 8) + r.val, by have := lt_N t; omega⟩ l) := by
  blk_ext [iblk, idx t]

/-- The block of the sines. -/
theorem read4 (t : Fin cfg0.N) (r : Fin 512) (l : Fin 128) : iblk m c 4 t (ix2 r l)
    = (V m c main_v5 : Vec Ideal S4096x128 .f32) (ix2 ⟨512 * (t.val % 8) + r.val, by have := lt_N t; omega⟩ l) := by
  blk_ext [iblk, idx t]

/-- The block of the rotated keys. -/
theorem read6 (t : Fin cfg0.N) (j : Fin 4096) (l : Fin 128) : iblk m c 6 t (ix2 j l)
    = (V m c main_v6 : Vec Ideal S8192x128 .bf16) (ix2 ⟨4096 * (t.val / 64) + j.val, by have := lt_N t; omega⟩ l) := by
  blk_ext [iblk, idx t]

/-- The block of the plain keys. -/
theorem read5 (t : Fin cfg0.N) (j : Fin 4096) (l : Fin 128) : iblk m c 5 t (ix2 j l)
    = m ((c : Thread nD τ).loc main_arg1) (ix2 ⟨4096 * (t.val / 64) + j.val, by have := lt_N t; omega⟩ ⟨128 * (t.val / 8 % 8) + l.val, by omega⟩) := by
  blk_ext [iblk, V, idx t]

/-- The block of the values. -/
theorem read7 (t : Fin cfg0.N) (j : Fin 4096) (l : Fin 128) : iblk m c 7 t (ix2 j l)
    = m ((c : Thread nD τ).loc main_arg1) (ix2 ⟨4096 * (t.val / 64) + j.val, by have := lt_N t; omega⟩ ⟨1024 + 128 * (t.val / 8 % 8) + l.val, by omega⟩) := by
  blk_ext [iblk, V, idx t]
end Cert.MlaIdeal.Val
-- ==== Proof.Result.lean ====
/- The kernel's result array: at every row and column the attention of the arguments. -/
module
public import proofs.«01_k».proof.Proof.Score
public import proofs.«01_k».proof.Proof.Blocks
@[expose] public section
set_option maxRecDepth 16384
noncomputable section
namespace Cert.MlaIdeal.Val
open Cert.MlaIdeal Cert.MlaIdeal.Gen Idealize.ShloMosaic Idealize.ShloMosaic.TcCoe Idealize.SL.Sem Cert.Online

variable (m : (ℓ : Loc nD τ sig) → Buf (Elt Ideal) ℓ) (c : Dev nD)

/-- The kernel's arguments. -/
def inp : Inputs where
  q a b := (m ((c : Thread nD τ).loc main_arg0) : Vec Ideal S8192x1536 .f32) (ix2 a b)
  kv a b := (m ((c : Thread nD τ).loc main_arg1) : Vec Ideal S8192x2048 .bf16) (ix2 a b)
  kp a b := (m ((c : Thread nD τ).loc main_arg2) : Vec Ideal S8192x64 .bf16) (ix2 a b)
  cos a b := (m ((c : Thread nD τ).loc main_arg3) : Vec Ideal S4096x32 .f32) (ix2 a b)
  sin a b := (m ((c : Thread nD τ).loc main_arg4) : Vec Ideal S4096x32 .f32) (ix2 a b)

/-- The score of row `r` of point `t`'s queries against key `j` is the scaled score of its batch and head. -/
theorem score_blk (hx : (inp m c).Finite) (t : Fin cfg0.N) (r : Fin 512) (j : Fin 4096) :
    score (qv (BitVec.ofNat 32 (grid0.coords t 1).val) (iblk m c 0 t) (iblk m c 1 t) (iblk m c 2 t) (iblk m c 3 t) (iblk m c 4 t))
        (iblk m c 5 t) (iblk m c 6 t) r j
      = ((base (inp m c) (t.val / 64) (t.val / 8 % 8) (512 * (t.val % 8) + r.val) j.val * kap : ℝ) : EReal) := by
  have hN := lt_N t
  have hr := r.isLt
  have hj := j.isLt
  rw [(coords t).2.1]
  refine (score_real (t.val / 8 % 8) (by omega) _ _ _ _ _ _ _ r j
    (fun d => tab (inp m c).q (4096 * (t.val / 64) + 512 * (t.val % 8) + r.val) (128 * (t.val / 8 % 8) + d))
    (fun d => tab (inp m c).kv (4096 * (t.val / 64) + j.val) (128 * (t.val / 8 % 8) + d))
    (fun l => tab (inp m c).q (4096 * (t.val / 64) + 512 * (t.val % 8) + r.val) (1024 + 128 * (t.val / 8 % 8 / 2) + l))
    (tab (inp m c).cos (512 * (t.val % 8) + r.val)) (tab (inp m c).sin (512 * (t.val % 8) + r.val))
    (tab (inp m c).kp (4096 * (t.val / 64) + j.val)) ?_ ?_ ?_ ?_ ?_ ?_ ?_).trans ?_
  · intro d
    rw [read0]
    exact tab_eq (inp m c).q ⟨4096 * (t.val / 64) + 512 * (t.val % 8) + r.val, by omega⟩ ⟨128 * (t.val / 8 % 8) + d.val, by omega⟩ (hx.q _ _)
  · intro l
    rw [read1]
    exact tab_eq (inp m c).q ⟨4096 * (t.val / 64) + 512 * (t.val % 8) + r.val, by omega⟩ ⟨1024 + 128 * (t.val / 8 % 8 / 2) + l.val, by omega⟩ (hx.q _ _)
  · intro l
    rw [read2, host1, four_apply, ite_self, ite_self, ite_self]
    exact tab_eq (inp m c).cos ⟨512 * (t.val % 8) + r.val, by omega⟩ ⟨l.val % 32, by omega⟩ (hx.cos _ _)
  · intro l
    have hs := tab_eq (inp m c).sin ⟨512 * (t.val % 8) + r.val, by omega⟩ ⟨l.val % 32, by omega⟩ (hx.sin _ _)
    rw [read3, host4, four_apply]
    simp only [neg_apply, z32_apply]
    have hl := l.isLt
    rcases (by omega : l.val < 32 ∨ (32 ≤ l.val ∧ l.val < 64) ∨ (64 ≤ l.val ∧ l.val < 96) ∨ 96 ≤ l.val) with h | h | h | h
    · rw [if_pos h, if_pos (by omega), EReal.coe_neg]; exact congrArg _ hs
    · rw [if_neg (by omega), if_pos (by omega), if_neg (by omega)]; rfl
    · rw [if_neg (by omega), if_neg (by omega), if_pos (by omega), if_pos (by omega), EReal.coe_neg]; exact congrArg _ hs
    · rw [if_neg (by omega), if_neg (by omega), if_neg (by omega), if_neg (by omega)]; rfl
  · intro l
    have hs := tab_eq (inp m c).sin ⟨512 * (t.val % 8) + r.val, by omega⟩ ⟨l.val % 32, by omega⟩ (hx.sin _ _)
    rw [read4, host5, four_apply]
    simp only [z32_apply]
    have hl := l.isLt
    rcases (by omega : l.val < 32 ∨ (32 ≤ l.val ∧ l.val < 64) ∨ (64 ≤ l.val ∧ l.val < 96) ∨ 96 ≤ l.val) with h | h | h | h
    · rw [if_pos h, if_pos (by omega)]; rfl
    · rw [if_neg (by omega), if_pos (by omega), if_neg (by omega)]; exact hs
    · rw [if_neg (by omega), if_neg (by omega), if_pos (by omega), if_pos (by omega)]; rfl
    · rw [if_neg (by omega), if_neg (by omega), if_neg (by omega), if_neg (by omega)]; exact hs
  · intro d
    rw [read5]
    exact tab_eq (inp m c).kv ⟨4096 * (t.val / 64) + j.val, by omega⟩ ⟨128 * (t.val / 8 % 8) + d.val, by omega⟩ (hx.kn _ _ (by dsimp only; omega))
  · intro l
    rw [read6, host6, twice_apply]
    exact tab_eq (inp m c).kp ⟨4096 * (t.val / 64) + j.val, by omega⟩ ⟨l.val % 64, by omega⟩ (hx.kp _ _)
  · have e : ∀ x, 1024 + 128 * (t.val / 8 % 8 / 2) + (64 * (t.val / 8 % 8 % 2) + x) = 1024 + 64 * (t.val / 8 % 8) + x := by intro x; omega
    have e' : ∀ x, 1024 + 128 * (t.val / 8 % 8 / 2) + (64 * (t.val / 8 % 8 % 2) + 32 + x) = 1024 + 64 * (t.val / 8 % 8) + 32 + x := by intro x; omega
    simp only [e, e']
    rw [base, Nat.add_assoc]

/-- The values of point `t`. -/
theorem value_blk (t : Fin cfg0.N) (j : Fin 4096) (d : Fin 128) : (iblk m c 7 t : Vec Ideal S4096x128 .bf16) (ix2 j d)
    = ext0 (inp m c).kv (4096 * (t.val / 64) + j.val) (1024 + 128 * (t.val / 8 % 8) + d.val) := by
  have hN := lt_N t
  have hj := j.isLt
  rw [read7]
  exact (ext0_eq (inp m c).kv ⟨4096 * (t.val / 64) + j.val, by omega⟩ ⟨1024 + 128 * (t.val / 8 % 8) + d.val, by omega⟩).symm

/-- The result array. -/
def result : Vec Ideal S8192x1024 .bf16 :=
  fun i => attend (inp m c) ((i 0).val / 4096) ((i 1).val / 128) ((i 0).val % 4096) ((i 1).val % 128)

/-- What point `t` writes back, at row `r` and lane `d`. -/
theorem block_val (hx : (inp m c).Finite) (t : Fin cfg0.N) (r : Fin 512) (d : Fin 128) :
    (dats m 0 c).flushed 8 t (ix2 r d) = attend (inp m c) (t.val / 64) (t.val / 8 % 8) (512 * (t.val % 8) + r.val) d.val := by
  have hco := (coords t).2.2
  have hN := lt_N t
  have hr := r.isLt
  have hs := score_blk m c hx t r
  have hv := value_blk m c t
  have htr : (k0_t1_loop (grid0.coords t)).trips = (grid0.coords t 2).val / 2 := trips_main (grid0.coords t)
  have hlast : ∀ (K : Finset ℕ) (st : St Ideal), K = Finset.range (512 * (t.val % 8) + r.val + 1) →
      Holds (fun k => base (inp m c) (t.val / 64) (t.val / 8 % 8) (512 * (t.val % 8) + r.val) k * kap)
        (fun d k => ext0 (inp m c).kv (4096 * (t.val / 64) + k) (1024 + 128 * (t.val / 8 % 8) + d)) K r st →
      k0_pay13 (lhalf st.2) (rhalf st.2) (ix2 r d)
        = attend (inp m c) (t.val / 64) (t.val / 8 % 8) (512 * (t.val % 8) + r.val) d.val := by
    intro K st hK h
    subst hK
    exact quot_apply _ _ _ ⟨0, by simp⟩ r st h d
  by_cases h0 : t.val % 2 = 1
  · rw [Value.flushed8_B m c t h0, out_odd]
    refine hlast _ _ ?_ (stepO_holds _ _ _ _ _ r _ _ hs hv _ _ _ (runM_holds _ _ _ _ _ r _ _ hs hv _ le_rfl) ?_)
    · rw [htr, hco]; exact keys_odd _ _ (by omega)
    · rw [htr, hco, Finset.disjoint_left]
      intro a ha hb
      simp only [Finset.mem_union, Finset.mem_Ico] at ha hb
      omega
  · rw [Value.flushed8_A m c t h0, out_even]
    refine hlast _ _ ?_ (runM_holds _ _ _ _ _ r _ _ hs hv _ le_rfl)
    rw [htr, hco]; exact keys_even _ _ (by omega)

/-- The kernel's result array after the run. -/
theorem final (hx : (inp m c).Finite) : (dats m 0 c).arrAt 8 cfg0.N = result m c := by
  refine (dats m 0 c).arrAt_eq_of_covers 8 _ (by decide +kernel) fun t hf y => ?_
  have hN := lt_N t
  have hb := block_val m c hx t ⟨(y 0).val, (y 0).isLt⟩ ⟨(y 1).val, (y 1).isLt⟩
  refine Eq.trans (b := (dats m 0 c).flushed 8 t (ix2 ⟨(y 0).val, (y 0).isLt⟩ ⟨(y 1).val, (y 1).isLt⟩)) ?_ (hb.trans ?_)
  · refine congrArg ((dats m 0 c).flushed 8 t) (funext fun a => ?_)
    match a with
    | ⟨0, _⟩ => rfl
    | ⟨1, _⟩ => rfl
  · have h0 : (y 0).val < 512 := (y 0).isLt
    have h1 : (y 1).val < 128 := (y 1).isLt
    unfold result
    blk_simp [idx t]
    dsimp only
    congr 1 <;> omega
end Cert.MlaIdeal.Val
-- ==== Proof.Ref.lean ====
/- The reference, stage by stage, and its result at an index. -/
module
public import proofs.«01_k».proof.Proof.Gen.MlaRefIdeal.Run
public import proofs.«01_k».proof.Proof.Spec
public import Idealize.ShloMosaic.Lib.Pointwise
public import Idealize.ShloMosaic.Lib.WordCmp
@[expose] public section
set_option maxRecDepth 16384
noncomputable section
namespace Cert.MlaRefIdeal.Val
open Cert.MlaRefIdeal Cert.MlaRefIdeal.Gen Idealize.ShloMosaic Idealize.ShloMosaic.TcCoe Idealize.SL.Sem Idealize.ShloMosaic.StableHlo Cert.Online

section
variable {F : FTy → Type} [FloatOps F] [Named F]

/-- The part of the queries that is rotated, by head. -/
def qpe (x0 : Vec F S8192x1536 .f32) : Vec F S2x4096x8x64 .f32 :=
  shapeCast _ (extractStridedSlice S8192x512 ![0, 1024] x0 slices_S8192x1536_S8192x512_0_1024) shapeCasts_S8192x512_S2x4096x8x64

/-- A table of the positions, for every batch and head. -/
def tbl (x : Vec F S4096x32 .f32) : Vec F S2x4096x8x32 .f32 :=
  broadcastInDim S2x4096x8x32 ![0, 1, 2, 3] bcast_S1x4096x1x32_S2x4096x8x32_0_1_2_3 (broadcastInDim S1x4096x1x32 ![1, 2, 3] bcast_S4096x1x32_S1x4096x1x32_1_2_3 (broadcastInDim S4096x1x32 ![0, 2] bcast_S4096x32_S4096x1x32_0_2 x))

/-- The rotated queries. -/
def qrot (x0 : Vec F S8192x1536 .f32) (x3 x4 : Vec F S4096x32 .f32) : Vec F S2x4096x8x64 .f32 :=
  concatenate S2x4096x8x64 3 [⟨S2x4096x8x32, (subf (mulf (extractStridedSlice S2x4096x8x32 ![0, 0, 0, 0] (qpe x0) slices_S2x4096x8x64_S2x4096x8x32_0_0_0_0) (tbl x3)) (mulf (extractStridedSlice S2x4096x8x32 ![0, 0, 0, 32] (qpe x0) slices_S2x4096x8x64_S2x4096x8x32_0_0_0_32) (tbl x4)))⟩,
    ⟨S2x4096x8x32, (addf (mulf (extractStridedSlice S2x4096x8x32 ![0, 0, 0, 0] (qpe x0) slices_S2x4096x8x64_S2x4096x8x32_0_0_0_0) (tbl x4)) (mulf (extractStridedSlice S2x4096x8x32 ![0, 0, 0, 32] (qpe x0) slices_S2x4096x8x64_S2x4096x8x32_0_0_0_32) (tbl x3)))⟩] concatenates_S2x4096x8x32_S2x4096x8x32_S2x4096x8x64_d3

/-- The queries: plain part beside rotated part. -/
def qall (x0 : Vec F S8192x1536 .f32) (x3 x4 : Vec F S4096x32 .f32) : Vec F S2x4096x8x192 .f32 :=
  concatenate S2x4096x8x192 3 [⟨S2x4096x8x128, (shapeCast _ (extractStridedSlice S8192x1024 ![0, 0] x0 slices_S8192x1536_S8192x1024_0_0) shapeCasts_S8192x1024_S2x4096x8x128)⟩, ⟨S2x4096x8x64, qrot x0 x3 x4⟩] concatenates_S2x4096x8x128_S2x4096x8x64_S2x4096x8x192_d3

/-- The keys: plain part beside the part all heads share. -/
def kall (x1 : Vec F S8192x2048 .bf16) (x2 : Vec F S8192x64 .bf16) : Vec F S2x4096x8x192 .f32 :=
  concatenate S2x4096x8x192 3 [⟨S2x4096x8x128, (shapeCast _ (extractStridedSlice S8192x1024 ![0, 0] (extf .f32 x1 bitsLt_bf16_f32) slices_S8192x2048_S8192x1024_0_0) shapeCasts_S8192x1024_S2x4096x8x128)⟩, ⟨S2x4096x8x64, (broadcastInDim S2x4096x8x64 ![0, 1, 2, 3] bcast_S2x4096x1x64_S2x4096x8x64_0_1_2_3 (shapeCast _ (extf .f32 x2 bitsLt_bf16_f32) shapeCasts_S8192x64_S2x4096x1x64))⟩] concatenates_S2x4096x8x128_S2x4096x8x64_S2x4096x8x192_d3

/-- The scaled scores. -/
def scores (q k : Vec F S2x4096x8x192 .f32) : Vec F S2x8x4096x4096 .f32 :=
  mulf (Host.dotGeneral dot_S2x4096x8x192_S2x4096x8x192_S2x8x4096x4096_3_3_1_1_02_02 none q k) (broadcastInDim S2x8x4096x4096 ![] bcast_S_S2x8x4096x4096 (Host.rsqrt (constant S_ .f32 0x43400000#32)))

/-- Which key a query sees. -/
def seen : IVec S2x8x4096x4096 1 :=
  broadcastInDim S2x8x4096x4096 ![2, 3] bcast_S4096x4096_S2x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The masked scores. -/
def masked (s : Vec F S2x8x4096x4096 .f32) : Vec F S2x8x4096x4096 .f32 :=
  select seen s (broadcastInDim S2x8x4096x4096 ![] bcast_S_S2x8x4096x4096 (id (constant S_ .f32 0xFF800000#32)))

/-- The maximum of each row. -/
def rowmax (s : Vec F S2x8x4096x4096 .f32) : Vec F S2x8x4096 .f32 :=
  maximumf (broadcastInDim S2x8x4096 ![] bcast_S_S2x8x4096 (constant S_ .f32 0xFF800000#32)) (Host.reduce FloatOps.maximumf s (constant S_ .f32 0xFF800000#32) reducesTo_S2x8x4096x4096_S2x8x4096_d3 h_S_)

/-- A number of each row, along the row. -/
def along (x : Vec F S2x8x4096 .f32) : Vec F S2x8x4096x4096 .f32 :=
  broadcastInDim S2x8x4096x4096 ![0, 1, 2, 3] bcast_S2x8x4096x1_S2x8x4096x4096_0_1_2_3 (broadcastInDim S2x8x4096x1 ![0, 1, 2] bcast_S2x8x4096_S2x8x4096x1_0_1_2 x)

/-- The exponentials over the maximum. -/
def expo (s : Vec F S2x8x4096x4096 .f32) (M : Vec F S2x8x4096 .f32) : Vec F S2x8x4096x4096 .f32 :=
  Host.exp (subf s (along M))

/-- The shares: the exponentials over their sum. -/
def shares (e : Vec F S2x8x4096x4096 .f32) : Vec F S2x8x4096x4096 .f32 :=
  Host.divf e (along (Host.reduceAdd e (constant S_ .f32 0x00000000#32) reducesTo_S2x8x4096x4096_S2x8x4096_d3 h_S_))

/-- The values, by head. -/
def vals (x1 : Vec F S8192x2048 .bf16) : Vec F S2x4096x8x128 .f32 :=
  shapeCast _ (extractStridedSlice S8192x1024 ![0, 1024] (extf .f32 x1 bitsLt_bf16_f32) slices_S8192x2048_S8192x1024_0_1024) shapeCasts_S8192x1024_S2x4096x8x128

/-- The values by the shares, in the result's layout. -/
def mix (v : Vec F S2x4096x8x128 .f32) (p : Vec F S2x8x4096x4096 .f32) : Vec F S8192x1024 .bf16 :=
  truncf .bf16 (shapeCast _ (transpose S2x4096x8x128 [0, 3, 1, 2] (Host.dotGeneral dot_S2x4096x8x128_S2x8x4096x4096_S2x8x128x4096_1_3_3_2_02_01 none v p) transposes_S2x8x128x4096_S2x4096x8x128_0_3_1_2) shapeCasts_S2x4096x8x128_S8192x1024) bitsLt_bf16_f32

/-- The reference's result, stage by stage. -/
theorem stages (m : (ℓ : Loc nD τ sig) → Buf (Elt F) ℓ) (c : Dev nD) : Value.res_main_v58 m c
    = (let s := masked (scores (qall (m ((c.tc : Thread nD τ).loc main_arg0)) (m ((c.tc : Thread nD τ).loc main_arg3)) (m ((c.tc : Thread nD τ).loc main_arg4)))
        (kall (m ((c.tc : Thread nD τ).loc main_arg1)) (m ((c.tc : Thread nD τ).loc main_arg2))))
       mix (vals (m ((c.tc : Thread nD τ).loc main_arg1))) (shares (expo s (rowmax s)))) := rfl
end

/-- A plain query lane. -/
theorem qall_plain (x0 : Vec Ideal S8192x1536 .f32) (x3 x4 : Vec Ideal S4096x32 .f32) (b : Fin 2) (q : Fin 4096) (h : Fin 8) (d : Fin 128) :
    qall x0 x3 x4 (ix4 b q h ⟨d.val, by omega⟩) = x0 (ix2 ⟨4096 * b.val + q.val, by omega⟩ ⟨128 * h.val + d.val, by omega⟩) := by
  pointwise [qall]
  congr 2 <;> apply Fin.ext <;> dsimp only <;> omega

/-- A rotated query lane of the first half. -/
theorem qall_lo (x0 : Vec Ideal S8192x1536 .f32) (x3 x4 : Vec Ideal S4096x32 .f32) (b : Fin 2) (q : Fin 4096) (h : Fin 8) (e : Fin 32) :
    qall x0 x3 x4 (ix4 b q h ⟨128 + e.val, by omega⟩)
      = (x0 (ix2 ⟨4096 * b.val + q.val, by omega⟩ ⟨1024 + 64 * h.val + e.val, by omega⟩) * x3 (ix2 q e)
        - x0 (ix2 ⟨4096 * b.val + q.val, by omega⟩ ⟨1024 + 64 * h.val + 32 + e.val, by omega⟩) * x4 (ix2 q e) : EReal) := by
  pointwise [qall, qrot, qpe, tbl]
  congr 4 <;> apply Fin.ext <;> dsimp only <;> omega

/-- A rotated query lane of the second half. -/
theorem qall_hi (x0 : Vec Ideal S8192x1536 .f32) (x3 x4 : Vec Ideal S4096x32 .f32) (b : Fin 2) (q : Fin 4096) (h : Fin 8) (e : Fin 32) :
    qall x0 x3 x4 (ix4 b q h ⟨160 + e.val, by omega⟩)
      = (x0 (ix2 ⟨4096 * b.val + q.val, by omega⟩ ⟨1024 + 64 * h.val + e.val, by omega⟩) * x4 (ix2 q e)
        + x0 (ix2 ⟨4096 * b.val + q.val, by omega⟩ ⟨1024 + 64 * h.val + 32 + e.val, by omega⟩) * x3 (ix2 q e) : EReal) := by
  pointwise [qall, qrot, qpe, tbl]
  rw [dif_neg (by omega), dif_neg (by omega)]
  congr 4 <;> apply Fin.ext <;> dsimp only <;> omega

/-- A plain key lane. -/
theorem kall_plain (x1 : Vec Ideal S8192x2048 .bf16) (x2 : Vec Ideal S8192x64 .bf16) (b : Fin 2) (q : Fin 4096) (h : Fin 8) (d : Fin 128) :
    kall x1 x2 (ix4 b q h ⟨d.val, by omega⟩) = x1 (ix2 ⟨4096 * b.val + q.val, by omega⟩ ⟨128 * h.val + d.val, by omega⟩) := by
  pointwise [kall]
  congr 2 <;> apply Fin.ext <;> dsimp only <;> omega

/-- A key lane all heads share. -/
theorem kall_rot (x1 : Vec Ideal S8192x2048 .bf16) (x2 : Vec Ideal S8192x64 .bf16) (b : Fin 2) (q : Fin 4096) (h : Fin 8) (e : Fin 64) :
    kall x1 x2 (ix4 b q h ⟨128 + e.val, by omega⟩) = x2 (ix2 ⟨4096 * b.val + q.val, by omega⟩ e) := by
  pointwise [kall]
  congr 2 <;> apply Fin.ext <;> dsimp only <;> omega

/-- The scale: one over the square root of 192. -/
theorem scale : Ideal.rsqrt (Ideal.ofBits FTy.f32 0x43400000#32) = (((√192)⁻¹ : ℝ) : EReal) := by
  have h : Ideal.ofBits FTy.f32 0x43400000#32 = ((192 : ℝ) : EReal) := by
    simp [Ideal.ofBits, Ideal.ieee]
    rw [← EReal.coe_mul]; norm_num
  rw [h]
  show (if (192:ℝ) < 0 then (⊥ : EReal) else if (192:ℝ) = 0 then ⊤ else (((√192)⁻¹ : ℝ) : EReal)) = _
  rw [if_neg (by norm_num), if_neg (by norm_num)]

/-- A scaled score. -/
theorem scores_apply (q k : Vec Ideal S2x4096x8x192 .f32) (b : Fin 2) (h : Fin 8) (i j : Fin 4096) :
    scores q k (ix4 b h i j) = ((∑ d : Fin 192, (q (ix4 b i h d) * k (ix4 b j h d) : EReal)) * (((√192)⁻¹ : ℝ) : EReal) : EReal) := by
  pointwise [scores]
  rw [scale]

/-- The bits of negative infinity. -/
theorem neg_inf : Ideal.ofBits FTy.f32 0xFF800000#32 = (⊥ : EReal) := by
  simp [Ideal.ofBits, Ideal.ieee]

/-- A masked score. -/
theorem masked_apply (s : Vec Ideal S2x8x4096x4096 .f32) (b : Fin 2) (h : Fin 8) (i j : Fin 4096) :
    masked s (ix4 b h i j) = if j.val ≤ i.val then s (ix4 b h i j) else (⊥ : EReal) := by
  pointwise [masked, seen]
  rw [WordCmp.cmpi_sle_ofNat (by omega) (by omega)]
  by_cases e : j.val ≤ i.val
  · rw [if_pos e, decide_eq_true e]; rfl
  · rw [if_neg e, decide_eq_false e]; exact neg_inf

/-- The one-axis form of the row reduction. -/
theorem reduces : S2x8x4096x4096.Reduces [3] S2x8x4096 := by decide

/-- An index of the row reduction's source. -/
theorem lift_row (b : Fin 2) (h : Fin 8) (i k : Fin 4096) : reduces.lift (ix3 b h i) k = ix4 b h i k := by
  funext a
  match a with
  | ⟨0, _⟩ => rfl
  | ⟨1, _⟩ => rfl
  | ⟨2, _⟩ => rfl
  | ⟨3, _⟩ => rfl

/-- The maximum with negative infinity. -/
theorem max_apply (R : FVec Ideal S2x8x4096 .f32) (b : Fin 2) (h : Fin 8) (i : Fin 4096) :
    maximumf (broadcastInDim S2x8x4096 ![] bcast_S_S2x8x4096 (constant S_ .f32 0xFF800000#32)) R (ix3 b h i) = (max (⊥ : EReal) (R (ix3 b h i)) : EReal) := by
  pointwise
  rw [neg_inf]

/-- The maximum of a row without `⊤` that has an entry above `⊥` is a real number. -/
theorem rowmax_real (s : Vec Ideal S2x8x4096x4096 .f32) (b : Fin 2) (h : Fin 8) (i : Fin 4096)
    (ht : ∀ k, s (ix4 b h i k) ≠ (⊤ : EReal)) (k0 : Fin 4096) (h0 : s (ix4 b h i k0) ≠ (⊥ : EReal)) :
    ∃ M : ℝ, rowmax s (ix3 b h i) = (M : EReal) := by
  obtain ⟨M, hM⟩ := fold_max_real (Finset.univ : Finset (Fin 4096)) (fun k => (s (ix4 b h i k) : EReal)) (fun k _ => ht k) k0 (Finset.mem_univ _) h0
  refine ⟨M, ?_⟩
  rw [rowmax, max_apply _ b h i]
  refine (max_eq_right bot_le).trans ((Host.reduce_eq_fold_single (FloatOps.maximumf (F := Ideal) (φ := .f32)) s
    (constant S_ .f32 0xFF800000#32) reducesTo_S2x8x4096x4096_S2x8x4096_d3 reduces h_S_ (ix3 b h i)).trans ?_)
  rw [← hM]
  have hl : s ∘ reduces.lift (ix3 b h i) = fun k : Fin 4096 => s (ix4 b h i k) := funext fun k => congrArg s (lift_row b h i k)
  rw [← neg_inf]
  exact congrArg (fun f => Finset.fold max (Ideal.ofBits .f32 0xFF800000#32) f (Finset.univ : Finset (Fin 4096))) hl

/-- An exponential over the row's maximum. -/
theorem expo_apply (s : Vec Ideal S2x8x4096x4096 .f32) (M : Vec Ideal S2x8x4096 .f32) (b : Fin 2) (h : Fin 8) (i j : Fin 4096) :
    expo s M (ix4 b h i j) = Ideal.exp (s (ix4 b h i j) - M (ix3 b h i) : EReal) := by
  pointwise [expo, along]

/-- A share. -/
theorem shares_apply (s : Vec Ideal S2x8x4096x4096 .f32) (b : Fin 2) (h : Fin 8) (i j : Fin 4096) :
    shares s (ix4 b h i j) = Ideal.div (s (ix4 b h i j)) (∑ k : Fin 4096, (s (ix4 b h i k) : EReal)) := by
  pointwise [shares, along]

/-- A value lane. -/
theorem vals_apply (x1 : Vec Ideal S8192x2048 .bf16) (b : Fin 2) (q : Fin 4096) (h : Fin 8) (d : Fin 128) :
    vals x1 (ix4 b q h d) = x1 (ix2 ⟨4096 * b.val + q.val, by omega⟩ ⟨1024 + 128 * h.val + d.val, by omega⟩) := by
  pointwise [vals]
  congr 2 <;> apply Fin.ext <;> dsimp only <;> omega

/-- The result at a row and column. -/
theorem mix_apply (v : Vec Ideal S2x4096x8x128 .f32) (p : Vec Ideal S2x8x4096x4096 .f32) (r : Fin 8192) (l : Fin 1024) :
    mix v p (ix2 r l) = ∑ x : Fin 4096, (v (ix4 ⟨r.val / 4096, by omega⟩ x ⟨l.val / 128, by omega⟩ ⟨l.val % 128, by omega⟩)
      * p (ix4 ⟨r.val / 4096, by omega⟩ ⟨l.val / 128, by omega⟩ ⟨r.val % 4096, by omega⟩ x) : EReal) := by
  pointwise [mix]

variable (m : (ℓ : Loc nD τ sig) → Buf (Elt Ideal) ℓ) (c : Dev nD)

/-- The reference's arguments. -/
def inp : Inputs where
  q a b := (m ((c.tc : Thread nD τ).loc main_arg0) : Vec Ideal S8192x1536 .f32) (ix2 a b)
  kv a b := (m ((c.tc : Thread nD τ).loc main_arg1) : Vec Ideal S8192x2048 .bf16) (ix2 a b)
  kp a b := (m ((c.tc : Thread nD τ).loc main_arg2) : Vec Ideal S8192x64 .bf16) (ix2 a b)
  cos a b := (m ((c.tc : Thread nD τ).loc main_arg3) : Vec Ideal S4096x32 .f32) (ix2 a b)
  sin a b := (m ((c.tc : Thread nD τ).loc main_arg4) : Vec Ideal S4096x32 .f32) (ix2 a b)

/-- The reference's queries. -/
def Q : Vec Ideal S2x4096x8x192 .f32 :=
  qall (m ((c.tc : Thread nD τ).loc main_arg0)) (m ((c.tc : Thread nD τ).loc main_arg3)) (m ((c.tc : Thread nD τ).loc main_arg4))

/-- The reference's keys. -/
def K : Vec Ideal S2x4096x8x192 .f32 := kall (m ((c.tc : Thread nD τ).loc main_arg1)) (m ((c.tc : Thread nD τ).loc main_arg2))

/-- A score of the reference is the scaled score of its batch and head. -/
theorem score_eq (hx : (inp m c).Finite) (b : Fin 2) (h : Fin 8) (i j : Fin 4096) :
    scores (Q m c) (K m c) (ix4 b h i j) = ((base (inp m c) b.val h.val i.val j.val * (√192)⁻¹ : ℝ) : EReal) := by
  let x := inp m c
  have term : ∀ d : Fin 192, (Q m c (ix4 b i h d) * K m c (ix4 b j h d) : EReal)
      = (((if d.val < 128 then tab x.q (4096 * b.val + i.val) (128 * h.val + d.val) * tab x.kv (4096 * b.val + j.val) (128 * h.val + d.val)
          else if d.val < 160 then
            (tab x.q (4096 * b.val + i.val) (1024 + 64 * h.val + (d.val - 128)) * tab x.cos i.val (d.val - 128)
              - tab x.q (4096 * b.val + i.val) (1024 + 64 * h.val + 32 + (d.val - 128)) * tab x.sin i.val (d.val - 128))
              * tab x.kp (4096 * b.val + j.val) (d.val - 128)
          else
            (tab x.q (4096 * b.val + i.val) (1024 + 64 * h.val + (d.val - 160)) * tab x.sin i.val (d.val - 160)
              + tab x.q (4096 * b.val + i.val) (1024 + 64 * h.val + 32 + (d.val - 160)) * tab x.cos i.val (d.val - 160))
              * tab x.kp (4096 * b.val + j.val) (32 + (d.val - 160))) : ℝ) : EReal) := by
    intro d
    have hb := b.isLt
    have hh := h.isLt
    have hi := i.isLt
    have hj := j.isLt
    have hd := d.isLt
    by_cases h1 : d.val < 128
    · rw [if_pos h1, EReal.coe_mul]
      have e1 := (qall_plain (m ((c.tc : Thread nD τ).loc main_arg0)) (m ((c.tc : Thread nD τ).loc main_arg3)) (m ((c.tc : Thread nD τ).loc main_arg4)) b i h ⟨d.val, h1⟩).trans
        (tab_eq x.q ⟨4096 * b.val + i.val, by omega⟩ ⟨128 * h.val + d.val, by omega⟩ (hx.q _ _))
      have e2 := (kall_plain (m ((c.tc : Thread nD τ).loc main_arg1)) (m ((c.tc : Thread nD τ).loc main_arg2)) b j h ⟨d.val, h1⟩).trans
        (tab_eq x.kv ⟨4096 * b.val + j.val, by omega⟩ ⟨128 * h.val + d.val, by omega⟩ (hx.kn _ _ (by dsimp only; omega)))
      exact congrArg₂ (fun a b : EReal => a * b) e1 e2
    · by_cases h2 : d.val < 160
      · rcases d with ⟨d, hd'⟩
        dsimp only at h1 h2 hd
        obtain ⟨n, rfl⟩ : ∃ n, d = 128 + n := ⟨d - 128, by omega⟩
        let e : Fin 32 := ⟨n, by omega⟩
        have he := e.isLt
        rw [if_neg h1, if_pos h2]
        dsimp only
        rw [Nat.add_sub_cancel_left, EReal.coe_mul, EReal.coe_sub, EReal.coe_mul, EReal.coe_mul]
        rw [← tab_eq x.q ⟨4096 * b.val + i.val, by omega⟩ ⟨1024 + 64 * h.val + e.val, by omega⟩ (hx.q _ _),
          ← tab_eq x.q ⟨4096 * b.val + i.val, by omega⟩ ⟨1024 + 64 * h.val + 32 + e.val, by omega⟩ (hx.q _ _),
          ← tab_eq x.cos i e (hx.cos _ _), ← tab_eq x.sin i e (hx.sin _ _),
          ← tab_eq x.kp ⟨4096 * b.val + j.val, by omega⟩ ⟨e.val, by omega⟩ (hx.kp _ _)]
        exact congrArg₂ (fun a b : EReal => a * b) (qall_lo _ _ _ b i h e) (kall_rot _ _ b j h ⟨e.val, by omega⟩)
      · rcases d with ⟨d, hd'⟩
        dsimp only at h1 h2 hd
        obtain ⟨n, rfl⟩ : ∃ n, d = 160 + n := ⟨d - 160, by omega⟩
        let e : Fin 32 := ⟨n, by omega⟩
        have he := e.isLt
        rw [if_neg h1, if_neg h2]
        dsimp only
        rw [Nat.add_sub_cancel_left, EReal.coe_mul, EReal.coe_add, EReal.coe_mul, EReal.coe_mul]
        rw [← tab_eq x.q ⟨4096 * b.val + i.val, by omega⟩ ⟨1024 + 64 * h.val + e.val, by omega⟩ (hx.q _ _),
          ← tab_eq x.q ⟨4096 * b.val + i.val, by omega⟩ ⟨1024 + 64 * h.val + 32 + e.val, by omega⟩ (hx.q _ _),
          ← tab_eq x.cos i e (hx.cos _ _), ← tab_eq x.sin i e (hx.sin _ _),
          ← tab_eq x.kp ⟨4096 * b.val + j.val, by omega⟩ ⟨32 + e.val, by omega⟩ (hx.kp _ _)]
        have e2 := kall_rot (m ((c.tc : Thread nD τ).loc main_arg1)) (m ((c.tc : Thread nD τ).loc main_arg2)) b j h ⟨32 + e.val, by omega⟩
        simp only [← Nat.add_assoc, Nat.reduceAdd] at e2
        exact congrArg₂ (fun a b : EReal => a * b) (qall_hi _ _ _ b i h e) e2
  rw [scores_apply, Finset.sum_congr rfl fun d _ => term d, coe_sum, ← EReal.coe_mul]
  congr 2
  rw [Fin.sum_univ_eq_sum_range (fun d => if d < 128 then tab x.q (4096 * b.val + i.val) (128 * h.val + d) * tab x.kv (4096 * b.val + j.val) (128 * h.val + d)
          else if d < 160 then
            (tab x.q (4096 * b.val + i.val) (1024 + 64 * h.val + (d - 128)) * tab x.cos i.val (d - 128)
              - tab x.q (4096 * b.val + i.val) (1024 + 64 * h.val + 32 + (d - 128)) * tab x.sin i.val (d - 128))
              * tab x.kp (4096 * b.val + j.val) (d - 128)
          else
            (tab x.q (4096 * b.val + i.val) (1024 + 64 * h.val + (d - 160)) * tab x.sin i.val (d - 160)
              + tab x.q (4096 * b.val + i.val) (1024 + 64 * h.val + 32 + (d - 160)) * tab x.cos i.val (d - 160))
              * tab x.kp (4096 * b.val + j.val) (32 + (d - 160))) 192,
    show 192 = 128 + 32 + 32 from rfl, Finset.sum_range_add, Finset.sum_range_add, add_assoc, base, dotRot]
  refine congrArg₂ (· + ·) (Finset.sum_congr rfl fun d hd => ?_) (congrArg₂ (· + ·) (Finset.sum_congr rfl fun d hd => ?_) (Finset.sum_congr rfl fun d hd => ?_))
  · rw [if_pos (Finset.mem_range.mp hd)]
  · have := Finset.mem_range.mp hd
    rw [if_neg (by omega), if_pos (by omega), Nat.add_sub_cancel_left]
  · have := Finset.mem_range.mp hd
    rw [if_neg (by omega), if_neg (by omega), show 128 + 32 + d - 160 = d by omega]

/-- The scale of the scores to base two, against the reference's. -/
theorem kap_log (a : ℝ) : a * (√192)⁻¹ = a * kap * Real.log 2 := by
  have : Real.log 2 ≠ 0 := (Real.log_pos (by norm_num)).ne'
  rw [kap]; field_simp

/-- The reference's result at a row and column is the attention there. -/
theorem result_apply (hx : (inp m c).Finite) (r : Fin 8192) (l : Fin 1024) :
    (Value.res_main_v58 m c : Vec Ideal S8192x1024 .bf16) (ix2 r l)
      = attend (inp m c) (r.val / 4096) (l.val / 128) (r.val % 4096) (l.val % 128) := by
  rw [stages]
  dsimp only
  rw [mix_apply]
  have hr := r.isLt
  have hl := l.isLt
  let b : Fin 2 := ⟨r.val / 4096, by omega⟩
  let h : Fin 8 := ⟨l.val / 128, by omega⟩
  let i : Fin 4096 := ⟨r.val % 4096, by omega⟩
  let d : Fin 128 := ⟨l.val % 128, by omega⟩
  have hm : ∀ k : Fin 4096, masked (scores (Q m c) (K m c)) (ix4 b h i k)
      = if k.val ≤ i.val then ((base (inp m c) b.val h.val i.val k.val * (√192)⁻¹ : ℝ) : EReal) else (⊥ : EReal) := by
    intro k
    rw [masked_apply, score_eq m c hx]
  change ∑ x : Fin 4096, (vals (m ((c.tc : Thread nD τ).loc main_arg1)) (ix4 b x h d)
      * shares (expo (masked (scores (Q m c) (K m c))) (rowmax (masked (scores (Q m c) (K m c))))) (ix4 b h i x) : EReal) = _
  generalize masked (scores (Q m c) (K m c)) = s at hm
  obtain ⟨M, hM⟩ := rowmax_real s b h i (fun k => by
    rw [hm]; split
    · exact EReal.coe_ne_top _
    · exact bot_ne_top) i (by rw [hm, if_pos le_rfl]; exact EReal.coe_ne_bot _)
  have hv : ∀ k : Fin 4096, vals (m ((c.tc : Thread nD τ).loc main_arg1)) (ix4 b k h d)
      = ext0 (inp m c).kv (4096 * b.val + k.val) (1024 + 128 * h.val + d.val) := by
    intro k
    rw [vals_apply]
    exact (ext0_eq (inp m c).kv ⟨4096 * b.val + k.val, by omega⟩ ⟨1024 + 128 * h.val + d.val, by omega⟩).symm
  simp only [shares_apply, expo_apply, hM, hm, hv]
  exact softmax 4096 i.val i.isLt (fun k => base (inp m c) b.val h.val i.val k * kap) (fun k => base (inp m c) b.val h.val i.val k * (√192)⁻¹)
    (fun k _ => kap_log _) M (fun k => ext0 (inp m c).kv (4096 * b.val + k) (1024 + 128 * h.val + d.val))
end Cert.MlaRefIdeal.Val
-- ==== Proof.Pre.lean ====
/- The precondition read back: the entries it tests are real numbers. -/
module
public import proofs.«01_k».proof.Pre_finite
public import proofs.«01_k».proof.Proof.Gen.Pre_finite
public import proofs.«01_k».proof.Proof.Spec
public import Idealize.ShloMosaic.Lib.Pointwise
public import Idealize.ShloMosaic.Lib.WordCmp
public import Idealize.ShloMosaic.Lib.ReduceAll
@[expose] public section
set_option maxRecDepth 16384
noncomputable section
namespace Cert.Pre_finite.Val
open Cert.Pre_finite Cert.Pre_finite.Facts Idealize.ShloMosaic Idealize.ShloMosaic.TcCoe Cert.Online

/-- A conjunction of two words that is one has both words one. -/
theorem both (a b : BitVec 1) (h : IntOp.andi a b = 1#1) : a = 1#1 ∧ b = 1#1 := by
  revert a b; decide

/-- An extended real whose absolute value is below positive infinity is a real number. -/
theorem real_of_abs (x : EReal) (h : max x (-x) < ⊤) : ∃ r : ℝ, x = (r : EReal) := by
  induction x with
  | bot => simp at h
  | top => simp at h
  | coe r => exact ⟨r, rfl⟩

/-- The bits of positive infinity. -/
theorem pos_inf : Ideal.ofBits FTy.f32 0x7F800000#32 = (⊤ : EReal) := by
  simp [Ideal.ofBits, Ideal.ieee]

/-- An array all of whose absolute values are below infinity holds real numbers. -/
theorem all_real {n k : ℕ} (x : FVec Ideal ⟨2, ![n, k]⟩ .f32) (hb : S_.BroadcastsInDim ⟨2, ![n, k]⟩ (![] : Fin 0 → Fin 2))
    (hr : (⟨2, ![n, k]⟩ : Shape).ReducesTo [0, 1] S_) (hu : 0 < S_.numel)
    (h : Host.reduce IntOp.andi (cmpf .olt (Host.absf x) (broadcastInDim ⟨2, ![n, k]⟩ ![] hb (constant S_ .f32 0x7F800000#32))) (constantI S_ 1 1#1) hr hu ix0 = 1#1)
    (a : Fin n) (b : Fin k) : ∃ r : ℝ, (x (ix2 a b) : EReal) = (r : EReal) := by
  have e := Host.reduce_andi_all _ _ _ _ _ h (ix2 a b)
  have e' : BitVec.ofBool (decide ((max (x (ix2 a b)) (-(x (ix2 a b))) : EReal) < (Ideal.ofBits FTy.f32 0x7F800000#32 : EReal))) = 1#1 := e
  rw [pos_inf, WordCmp.ofBool_decide_eq_one_iff] at e'
  exact real_of_abs _ e'

/-- The precondition says that the queries, the keys and the tables are real. -/
theorem decode [Facts] (x0 : FVec Ideal S8192x1536 .f32) (x1 : FVec Ideal S8192x2048 .bf16) (x2 : FVec Ideal S8192x64 .bf16)
    (x3 x4 : FVec Ideal S4096x32 .f32) (h : fn (F := Ideal) x0 x1 x2 x3 x4 = fun _ => 1#1) :
    Inputs.Finite ⟨fun a b => x0 (ix2 a b), fun a b => x1 (ix2 a b), fun a b => x2 (ix2 a b), fun a b => x3 (ix2 a b), fun a b => x4 (ix2 a b)⟩ := by
  have h0 := congrFun h ix0
  unfold fn fn_part1 at h0
  dsimp only at h0
  obtain ⟨h1, e4⟩ := both _ _ h0
  obtain ⟨h2, e3⟩ := both _ _ h1
  obtain ⟨h3, e2⟩ := both _ _ h2
  obtain ⟨e0, e1⟩ := both _ _ h3
  refine ⟨fun a b => all_real x0 _ _ _ e0 a b, fun a b hb => ?_, fun a b => all_real _ _ _ _ e2 a b,
    fun a b => all_real x3 _ _ _ e3 a b, fun a b => all_real x4 _ _ _ e4 a b⟩
  obtain ⟨r, hr⟩ := all_real _ _ _ _ e1 a ⟨b.val, hb⟩
  refine ⟨r, ?_⟩
  rw [← hr]
  pointwise
end Cert.Pre_finite.Val
-- ==== Proof.ClaimMla.lean ====
/- The claims about the attention: its frames, its named constants, and its equality with the reference. -/
module
public import proofs.«01_k».proof.Defs
public import proofs.«01_k».proof.Proof.Result
public import proofs.«01_k».proof.Proof.Ref
public import proofs.«01_k».proof.Proof.Pre
public import proofs.«01_k».proof.Proof.Gen.Mla
public import proofs.«01_k».proof.Proof.Gen.Mla.Frame
public import proofs.«01_k».proof.Proof.Gen.MlaIdeal
public import proofs.«01_k».proof.Proof.Gen.MlaRefIdeal
public import Idealize.ShloMosaic.Adequacy
public import Idealize.ShloMosaic.Init
@[expose] public section
set_option maxRecDepth 16384
noncomputable section
namespace Cert.Proof
open Idealize.ShloMosaic Idealize.ShloMosaic.TcCoe Idealize.SL.Sem Cert.Online

/-- The kernel as written runs, keeps its arguments and leaves every semaphore at zero. -/
theorem mla_frame : quiescent_Mla (hMla := Cert.Mla.Gen.facts) := fun m ρ _ => Cert.Mla.Gen.frame m ρ

/-- So does the kernel over the extended reals. -/
theorem mla_frame_ideal : quiescent_MlaIdeal (hMlaIdeal := Cert.MlaIdeal.Gen.facts) := fun m ρ _ => Cert.MlaIdeal.Gen.frame m ρ

/-- The same under the precondition. -/
theorem mla_frame_pre : quiescent_MlaIdeal_pre_finite (hMlaIdeal := Cert.MlaIdeal.Gen.facts) (hPre_finite := Cert.Pre_finite.Gen.facts) :=
  fun m ρ _ => Cert.MlaIdeal.Gen.frame m ρ

/-- The reference over the extended reals runs, keeps its arguments and leaves every semaphore at zero. -/
theorem mla_frame_ref : quiescent_MlaRefIdeal (hMlaRefIdeal := Cert.MlaRefIdeal.Gen.facts) := fun m ρ _ =>
  (θ_run (Cert.MlaRefIdeal.defs (F := Ideal)) _ _).mono
    (fun r h => ⟨fun c => (h c).2, sem_eq_zero_of_no_sems (by decide) r.2⟩) (Cert.MlaRefIdeal.Value.run m ρ)

/-- The same under the precondition. -/
theorem mla_frame_ref_pre : quiescent_MlaRefIdeal_pre_finite (hMlaRefIdeal := Cert.MlaRefIdeal.Gen.facts) (hPre_finite := Cert.Pre_finite.Gen.facts) :=
  fun m ρ _ => mla_frame_ref m ρ trivial

/-- The two named constants: the scale and the mask's negative infinity. -/
theorem mla_preserves : preserves_Mla_MlaIdeal :=
  ⟨IdealRules.named_const.statement Cert.MlaIdeal.κ "qscale" .f32 0x3DD53B95#32 _ rfl,
    IdealRules.named_const.statement Cert.MlaIdeal.κ "mask" .f32 0xF149F2CA#32 _ rfl⟩

/-- From arguments that agree, with real queries, keys and tables, the kernel and the reference end with the same array. -/
theorem mla_algebraic : algebraic_MlaIdeal_MlaRefIdeal_pre_finite (hMlaIdeal := Cert.MlaIdeal.Gen.facts)
    (hMlaRefIdeal := Cert.MlaRefIdeal.Gen.facts) (hPre_finite := Cert.Pre_finite.Gen.facts) := by
  intro m ρ m' ρ' hpre hagree
  have hx : ∀ c, (Cert.MlaIdeal.Val.inp m c).Finite := fun c =>
    @Cert.Pre_finite.Val.decode Cert.Pre_finite.Gen.facts _ _ _ _ _ (hpre c)
  have hinp : ∀ c, Cert.MlaRefIdeal.Val.inp m' c = Cert.MlaIdeal.Val.inp m c := by
    intro c
    obtain ⟨h0, h1, h2, h3, h4⟩ := hagree c
    unfold Cert.MlaRefIdeal.Val.inp Cert.MlaIdeal.Val.inp
    rw [h0, h1, h2, h3, h4]
  refine ⟨fun c => Cert.MlaIdeal.Val.result m c, ?_, ?_⟩
  · exact (θ_run (Cert.MlaIdeal.defs (F := Ideal)) _ _).mono
      (fun _ h c => ⟨(h c).1.trans (Cert.MlaIdeal.Val.final m c (hx c)), (h c).2⟩) (Cert.MlaIdeal.Value.run_blocks m ρ)
  · refine (θ_run (Cert.MlaRefIdeal.defs (F := Ideal)) _ _).mono (fun _ h c => ⟨(h c).1.trans ?_, (h c).2⟩) (Cert.MlaRefIdeal.Value.run m' ρ')
    funext i
    have hi : i = ix2 (i 0) (i 1) := funext fun a => by
      match a with
      | ⟨0, _⟩ => rfl
      | ⟨1, _⟩ => rfl
    have e := Cert.MlaRefIdeal.Val.result_apply m' c ((hinp c) ▸ hx c) (i 0) (i 1)
    rw [hinp c] at e
    exact (congrArg (Cert.MlaRefIdeal.Value.res_main_v58 m' c) hi).trans e
end Cert.Proof
-- ==== Proof.Merge.lean ====
/- The gated merge of the four branches: the tiled kernel, which adds up the branches' terms over the last grid axis, and the plain sum are one array. -/
module
public import proofs.«01_k».proof.Defs
public import proofs.«01_k».proof.Proof.Gen.Merge.Frame
public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.VecWindow
public import Idealize.ShloMosaic.Adequacy
public import Idealize.ShloMosaic.Init
@[expose] public section
set_option maxRecDepth 16384
noncomputable section
namespace Cert.MergeIdeal.Val
open Cert.MergeIdeal Cert.MergeIdeal.Gen Idealize.ShloMosaic Idealize.ShloMosaic.TcCoe Idealize.SL.Sem

/-- An offset of zeros, of two axes. -/
theorem zero2 : (![0, 0] : Fin 2 → ℕ) = fun _ => 0 := by decide

/-- An offset of zeros, of three axes. -/
theorem zero3 : (![0, 0, 0] : Fin 3 → ℕ) = fun _ => 0 := by decide

section
variable {F : FTy → Type} [FloatOps F]
variable (c : Dev nD) (i : grid0.Coords) (a3 : Memref sig .tc .vmem S1024x4096 .bf16) (h3 : a3.IsWhole) (a4 : Memref sig .tc .vmem S1x1024x1024 .bf16) (h4 : a4.IsWhole) (a5 : Memref sig .tc .vmem S1x4096x512 .bf16) (h5 : a5.IsWhole) (a6 : Memref sig .tc .vmem S1x1x512 .f32) (h6 : a6.IsWhole) (a7 : Memref sig .tc .vmem S1x1024x512 .bf16) (h7 : a7.IsWhole) (a8 : Memref sig .tc .vmem S1024x512 .bf16) (h8 : a8.IsWhole) (a9 : Memref sig .tc .vmem S1024x512 .f32) (h9 : a9.IsWhole)
  (x0 : Vec F S1024x4096 .bf16) (x1 : Vec F S1x1024x1024 .bf16) (x2 : Vec F S1x4096x512 .bf16) (x3 : Vec F S1x1x512 .f32) (x4 : Vec F S1x1024x512 .bf16) (xs : Vec F S1024x512 .f32)

/-- What the first branch leaves in the running sum. -/
theorem sout_first (hc0 : cond0_0 i) (hc1 : ¬cond0_1 i) (hc2 : ¬cond0_2 i) :
    sout0_A_0 c i a3 h3 a4 h4 a5 h5 a6 h6 a7 h7 a8 h8 a9 h9 hc0 hc1 hc2 x0 x1 x2 x3 x4 = k0_pay3 x0 x2 x3 x1 x4 := by
  unfold sout0_A_0 kernelRun0_A
  dsimp only
  rw [View.read_writes_full]
  rw [View.readAt_full, View.readAt_full, View.readAt_full, View.readAt_full, View.readAt_full, h3.read_unread, h4.read_unread, h5.read_unread, h6.read_unread, h7.read_unread]

/-- What a middle branch leaves in the running sum. -/
theorem sout_mid (hc0 : ¬cond0_0 i) (hc1 : cond0_1 i) (hc2 : ¬cond0_2 i) :
    sout0_B_0 c i a3 h3 a4 h4 a5 h5 a6 h6 a7 h7 a8 h8 a9 h9 hc0 hc1 hc2 x0 x1 x2 x3 x4 xs = k0_pay4 x0 x2 x3 x1 x4 xs := by
  unfold sout0_B_0 kernelRun0_B
  dsimp only
  rw [View.read_writes_full]
  rw [View.readAt_full, View.readAt_full, View.readAt_full, View.readAt_full, View.readAt_full, View.readAt_full, h3.read_unread, h4.read_unread, h5.read_unread, h6.read_unread, h7.read_unread, h9.read_unread]

/-- What the last branch writes out. -/
theorem out_last (hc0 : ¬cond0_0 i) (hc1 : cond0_1 i) (hc2 : cond0_2 i) :
    out0_C_5 c i a3 h3 a4 h4 a5 h5 a6 h6 a7 h7 a8 h8 a9 h9 hc0 hc1 hc2 x0 x1 x2 x3 x4 xs = k0_pay1 (k0_pay4 x0 x2 x3 x1 x4 xs) := by
  unfold out0_C_5 kernelRun0_C
  dsimp only
  rw [View.read_writes_full]
  unfold kernelRun0_C.sl.v30 View.readCov
  rw [View.readAt_full]
  unfold kernelRun0_C.sl.HS0_1
  rw [View.read_writes_full, View.readAt_full, View.readAt_full, View.readAt_full, View.readAt_full, View.readAt_full, View.readAt_full, h3.read_unread, h4.read_unread, h5.read_unread, h6.read_unread, h7.read_unread, h9.read_unread]

variable (m : (ℓ : Loc nD τ sig) → Buf (Elt F) ℓ)

/-- The gates' weights as the kernel is given them: layers and branches on one axis, in the narrower format. -/
theorem host_wg : (V m c main_v1 : Vec F S8x4096x4096 .bf16) = shapeCast S8x4096x4096 (truncf .bf16 (m ((c : Thread nD τ).loc main_arg5)) bitsLt_bf16_f32) shapeCasts_S2x4x4096x4096_S8x4096x4096 := rfl

/-- The branches' weights likewise. -/
theorem host_wp : (V m c main_v3 : Vec F S8x1024x4096 .bf16) = shapeCast S8x1024x4096 (truncf .bf16 (m ((c : Thread nD τ).loc main_arg7)) bitsLt_bf16_f32) shapeCasts_S2x4x1024x4096_S8x1024x4096 := rfl

/-- The gates' offsets likewise. -/
theorem host_bg : (V m c main_v4 : Vec F S8x1x4096 .f32) = shapeCast S8x1x4096 (m ((c : Thread nD τ).loc main_arg6) : Vec F S2x4x4096 .f32) shapeCasts_S2x4x4096_S8x1x4096 := rfl

/-- Four branches stacked. -/
def stack (y0 y1 y2 y3 : Vec F S8192x1024 .bf16) : Vec F S4x8192x1024 .bf16 :=
  concatenate S4x8192x1024 0 [⟨S1x8192x1024, broadcastInDim S1x8192x1024 ![1, 2] bcast_S8192x1024_S1x8192x1024_1_2 y0⟩,
    ⟨S1x8192x1024, broadcastInDim S1x8192x1024 ![1, 2] bcast_S8192x1024_S1x8192x1024_1_2 y1⟩,
    ⟨S1x8192x1024, broadcastInDim S1x8192x1024 ![1, 2] bcast_S8192x1024_S1x8192x1024_1_2 y2⟩,
    ⟨S1x8192x1024, broadcastInDim S1x8192x1024 ![1, 2] bcast_S8192x1024_S1x8192x1024_1_2 y3⟩] concatenates_S1x8192x1024_S1x8192x1024_S1x8192x1024_S1x8192x1024_S4x8192x1024_d0

/-- The branches as the kernel is given them. -/
theorem host_y : (V m c main_v9 : Vec F S4x8192x1024 .bf16) = stack (m ((c : Thread nD τ).loc main_arg1)) (m ((c : Thread nD τ).loc main_arg2)) (m ((c : Thread nD τ).loc main_arg3)) (m ((c : Thread nD τ).loc main_arg4)) := rfl
end

/-- The gates' weights read at a branch of the first layer. -/
theorem wg_apply (w : Vec Ideal S2x4x4096x4096 .f32) (b : Fin 4) (k l : Fin 4096) :
    (shapeCast S8x4096x4096 (truncf (F := Ideal) .bf16 w bitsLt_bf16_f32) shapeCasts_S2x4x4096x4096_S8x4096x4096 (ix3 ⟨b.val, by omega⟩ k l) : EReal) = w (ix4 0 b k l) := by
  have e : ∀ (p : Fin 2) (q : Fin 4), p.val = 0 → q.val = b.val → (w (ix4 p q k l) : EReal) = w (ix4 0 b k l) :=
    fun p q hp hq => by rw [show p = 0 from Fin.ext hp, show q = b from Fin.ext hq]
  pointwise
  exact e _ _ (by dsimp only; omega) (by dsimp only; omega)

/-- The branches' weights read at a branch of the first layer. -/
theorem wp_apply (w : Vec Ideal S2x4x1024x4096 .f32) (b : Fin 4) (k : Fin 1024) (l : Fin 4096) :
    (shapeCast S8x1024x4096 (truncf (F := Ideal) .bf16 w bitsLt_bf16_f32) shapeCasts_S2x4x1024x4096_S8x1024x4096 (ix3 ⟨b.val, by omega⟩ k l) : EReal) = w (ix4 0 b k l) := by
  have e : ∀ (p : Fin 2) (q : Fin 4), p.val = 0 → q.val = b.val → (w (ix4 p q k l) : EReal) = w (ix4 0 b k l) :=
    fun p q hp hq => by rw [show p = 0 from Fin.ext hp, show q = b from Fin.ext hq]
  pointwise
  exact e _ _ (by dsimp only; omega) (by dsimp only; omega)

/-- The gates' offsets read at a branch of the first layer. -/
theorem bg_apply (w : Vec Ideal S2x4x4096 .f32) (b : Fin 4) (l : Fin 4096) :
    shapeCast S8x1x4096 w shapeCasts_S2x4x4096_S8x1x4096 (ix3 ⟨b.val, by omega⟩ 0 l) = w (ix3 0 b l) := by
  have e : ∀ (p : Fin 2) (q : Fin 4), p.val = 0 → q.val = b.val → w (ix3 p q l) = w (ix3 0 b l) :=
    fun p q hp hq => by rw [show p = 0 from Fin.ext hp, show q = b from Fin.ext hq]
  pointwise
  exact e _ _ (by dsimp only; omega) (by dsimp only; omega)

/-- The stacked branches read at one of them. -/
theorem stack_apply (y0 y1 y2 y3 : Vec Ideal S8192x1024 .bf16) (b : Fin 4) (r : Fin 8192) (k : Fin 1024) :
    stack y0 y1 y2 y3 (ix3 b r k) = (![y0, y1, y2, y3] b) (ix2 r k) := by
  match b with
  | 0 => pointwise [stack]
  | 1 => pointwise [stack]
  | 2 => pointwise [stack]
  | 3 => pointwise [stack]

/-- The gated term of branch `b` at a row and a column: the logistic function of the gate's product and offset, times the branch's product. -/
def term (h : Vec Ideal S8192x4096 .bf16) (y : Fin 4 → Vec Ideal S8192x1024 .bf16) (wg : Vec Ideal S2x4x4096x4096 .f32) (bg : Vec Ideal S2x4x4096 .f32)
    (wp : Vec Ideal S2x4x1024x4096 .f32) (b : Fin 4) (r : Fin 8192) (l : Fin 4096) : EReal :=
  Ideal.div 1 (1 + Ideal.exp (-((∑ k : Fin 4096, (h (ix2 r k) * wg (ix4 0 b k l) : EReal)) + bg (ix3 0 b l))))
    * ∑ k : Fin 1024, (y b (ix2 r k) * wp (ix4 0 b k l) : EReal)

/-- The sum of the four branches' gated terms. -/
def merged (h : Vec Ideal S8192x4096 .bf16) (y : Fin 4 → Vec Ideal S8192x1024 .bf16) (wg : Vec Ideal S2x4x4096x4096 .f32) (bg : Vec Ideal S2x4x4096 .f32)
    (wp : Vec Ideal S2x4x1024x4096 .f32) : Vec Ideal S8192x4096 .bf16 := fun i =>
  (term h y wg bg wp 0 ⟨(i 0).val, (i 0).isLt⟩ ⟨(i 1).val, (i 1).isLt⟩ + term h y wg bg wp 1 ⟨(i 0).val, (i 0).isLt⟩ ⟨(i 1).val, (i 1).isLt⟩
    + term h y wg bg wp 2 ⟨(i 0).val, (i 0).isLt⟩ ⟨(i 1).val, (i 1).isLt⟩ + term h y wg bg wp 3 ⟨(i 0).val, (i 0).isLt⟩ ⟨(i 1).val, (i 1).isLt⟩ : EReal)

/-- One grid step's term, read at a row and a column of its block. -/
theorem pay2_apply (h : Vec Ideal S1024x4096 .bf16) (wg : Vec Ideal S1x4096x512 .bf16) (bg : Vec Ideal S1x1x512 .f32) (y : Vec Ideal S1x1024x1024 .bf16) (wp : Vec Ideal S1x1024x512 .bf16) (r : Fin 1024) (l : Fin 512) :
    k0_pay2 h wg bg y wp (ix2 r l) = (Ideal.div 1 (1 + Ideal.exp (-((∑ k : Fin 4096, (h (ix2 r k) * wg (ix3 0 k l) : EReal)) + bg (ix3 0 0 l))))
      * ∑ k : Fin 1024, (y (ix3 0 r k) * wp (ix3 0 k l) : EReal) : EReal) := by
  pointwise [k0_pay2]
  rw [zero_sub]

variable (m : (ℓ : Loc nD τ sig) → Buf (Elt Ideal) ℓ) (c : Dev nD)

/-- The block each window names at a point: the branch varies fastest, then the columns, then the rows. -/
theorem idx : ∀ t : Fin cfg0.N, win0_0.index t = ![t.val / 32, 0] ∧ win0_1.index t = ![t.val % 4, t.val / 32, 0]
    ∧ win0_2.index t = ![t.val % 4, 0, t.val / 4 % 8] ∧ win0_3.index t = ![t.val % 4, 0, t.val / 4 % 8]
    ∧ win0_4.index t = ![t.val % 4, 0, t.val / 4 % 8] ∧ win0_5.index t = ![t.val / 32, t.val / 4 % 8] :=
  (by decide +kernel : ∀ t : Fin grid0.N, _)

/-- There are 256 points. -/
theorem lt_N (t : Fin cfg0.N) : t.val < 256 := t.isLt

/-- The block of the hidden rows. -/
theorem read0 (t : Fin cfg0.N) (r : Fin 1024) (k : Fin 4096) : iblk m c 0 t (ix2 r k)
    = m ((c : Thread nD τ).loc main_arg0) (ix2 ⟨1024 * (t.val / 32) + r.val, by have := lt_N t; omega⟩ k) := by
  rw [← V_main_arg0 m c]
  blk_ext [iblk, idx t]

/-- The block of the branches. -/
theorem read1 (t : Fin cfg0.N) (r k : Fin 1024) : iblk m c 1 t (ix3 0 r k)
    = (V m c main_v9 : Vec Ideal S4x8192x1024 .bf16) (ix3 ⟨t.val % 4, by omega⟩ ⟨1024 * (t.val / 32) + r.val, by have := lt_N t; omega⟩ k) := by
  blk_ext [iblk, idx t]

/-- The block of the gates' weights. -/
theorem read2 (t : Fin cfg0.N) (k : Fin 4096) (l : Fin 512) : iblk m c 2 t (ix3 0 k l)
    = (V m c main_v1 : Vec Ideal S8x4096x4096 .bf16) (ix3 ⟨t.val % 4, by omega⟩ k ⟨512 * (t.val / 4 % 8) + l.val, by omega⟩) := by
  blk_ext [iblk, idx t]

/-- The block of the gates' offsets. -/
theorem read3 (t : Fin cfg0.N) (l : Fin 512) : iblk m c 3 t (ix3 0 0 l)
    = (V m c main_v4 : Vec Ideal S8x1x4096 .f32) (ix3 ⟨t.val % 4, by omega⟩ 0 ⟨512 * (t.val / 4 % 8) + l.val, by omega⟩) := by
  blk_ext [iblk, idx t]

/-- The block of the branches' weights. -/
theorem read4 (t : Fin cfg0.N) (k : Fin 1024) (l : Fin 512) : iblk m c 4 t (ix3 0 k l)
    = (V m c main_v3 : Vec Ideal S8x1024x4096 .bf16) (ix3 ⟨t.val % 4, by omega⟩ k ⟨512 * (t.val / 4 % 8) + l.val, by omega⟩) := by
  blk_ext [iblk, idx t]

/-- The branches' contents at the launch. -/
def ys : Fin 4 → Vec Ideal S8192x1024 .bf16 :=
  ![m ((c : Thread nD τ).loc main_arg1), m ((c : Thread nD τ).loc main_arg2), m ((c : Thread nD τ).loc main_arg3), m ((c : Thread nD τ).loc main_arg4)]

/-- The term of a branch, of the contents at the launch. -/
def termAt (b : Fin 4) (r : Fin 8192) (l : Fin 4096) : EReal :=
  term (m ((c : Thread nD τ).loc main_arg0)) (ys m c) (m ((c : Thread nD τ).loc main_arg5)) (m ((c : Thread nD τ).loc main_arg6)) (m ((c : Thread nD τ).loc main_arg7)) b r l

/-- A grid step's term is its branch's term at the rows and columns of its block. -/
theorem tile (t : Fin cfg0.N) (r : Fin 1024) (l : Fin 512) :
    k0_pay2 (iblk m c 0 t) (iblk m c 2 t) (iblk m c 3 t) (iblk m c 1 t) (iblk m c 4 t) (ix2 r l)
      = termAt m c ⟨t.val % 4, by omega⟩ ⟨1024 * (t.val / 32) + r.val, by have := lt_N t; omega⟩ ⟨512 * (t.val / 4 % 8) + l.val, by omega⟩ := by
  refine (pay2_apply (iblk m c 0 t) (iblk m c 2 t) (iblk m c 3 t) (iblk m c 1 t) (iblk m c 4 t) r l).trans ?_
  have e3 : iblk m c 3 t (ix3 0 0 l) = _ := (read3 m c t l).trans ((congrFun (host_bg c m) _).trans (bg_apply _ ⟨t.val % 4, by omega⟩ _))
  have e2 : ∀ k : Fin 4096, iblk m c 2 t (ix3 0 k l) = _ := fun k => (read2 m c t k l).trans ((congrFun (host_wg c m) _).trans (wg_apply _ ⟨t.val % 4, by omega⟩ k _))
  have e4 : ∀ k : Fin 1024, iblk m c 4 t (ix3 0 k l) = _ := fun k => (read4 m c t k l).trans ((congrFun (host_wp c m) _).trans (wp_apply _ ⟨t.val % 4, by omega⟩ k _))
  have e1 : ∀ k : Fin 1024, iblk m c 1 t (ix3 0 r k) = _ := fun k => (read1 m c t r k).trans ((congrFun (host_y c m) _).trans (stack_apply _ _ _ _ _ _ _))
  have e0 : ∀ k : Fin 4096, iblk m c 0 t (ix2 r k) = _ := fun k => read0 m c t r k
  simp only [e0, e1, e2, e3, e4]
  rfl

/-- The running sum after the first branch. -/
theorem acc_first (t : Fin cfg0.N) (h : t.val % 4 = 0) : (outsAt0 m c t.val t.isLt).2
    = k0_pay3 (iblk m c 0 t) (iblk m c 2 t) (iblk m c 3 t) (iblk m c 1 t) (iblk m c 4 t) := by
  rw [outsAt0_A m c t h (by omega) (by omega)]
  dsimp only
  rw [sout_first]

/-- The running sum after a middle branch. -/
theorem acc_mid (t : Fin cfg0.N) (h : t.val % 4 = 1 ∨ t.val % 4 = 2) : (outsAt0 m c t.val t.isLt).2
    = k0_pay4 (iblk m c 0 t) (iblk m c 2 t) (iblk m c 3 t) (iblk m c 1 t) (iblk m c 4 t) (outsAt0 m c (t.val - 1) (Nat.lt_of_le_of_lt (Nat.sub_le _ _) t.isLt)).2 := by
  rw [outsAt0_B m c t (by omega) (by omega) (by omega)]
  dsimp only
  rw [sout_mid]

/-- What the last branch's point writes back. -/
theorem flushed_last (t : Fin cfg0.N) (h : t.val % 4 = 3) : (dats m 0 c).flushed 5 t
    = (cfg0.win 5).cut (grid0.coords t) (k0_pay1 (k0_pay4 (iblk m c 0 t) (iblk m c 2 t) (iblk m c 3 t) (iblk m c 1 t) (iblk m c 4 t) (outsAt0 m c (t.val - 1) (Nat.lt_of_le_of_lt (Nat.sub_le _ _) t.isLt)).2)) := by
  rw [Value.flushed5_C m c t (by omega) (by omega) h]
  exact congrArg _ (out_last (F := Ideal) ..)

/-- A later branch adds its term. -/
theorem pay4_apply (h : Vec Ideal S1024x4096 .bf16) (wg : Vec Ideal S1x4096x512 .bf16) (bg : Vec Ideal S1x1x512 .f32) (y : Vec Ideal S1x1024x1024 .bf16) (wp : Vec Ideal S1x1024x512 .bf16) (s : Vec Ideal S1024x512 .f32) (r : Fin 1024) (l : Fin 512) :
    k0_pay4 h wg bg y wp s (ix2 r l) = (s (ix2 r l) + k0_pay2 h wg bg y wp (ix2 r l) : EReal) := by
  pointwise [k0_pay4]

/-- The first branch starts from its term. -/
theorem pay3_apply (h : Vec Ideal S1024x4096 .bf16) (wg : Vec Ideal S1x4096x512 .bf16) (bg : Vec Ideal S1x1x512 .f32) (y : Vec Ideal S1x1024x1024 .bf16) (wp : Vec Ideal S1x1024x512 .bf16) (r : Fin 1024) (l : Fin 512) :
    k0_pay3 h wg bg y wp (ix2 r l) = k0_pay2 h wg bg y wp (ix2 r l) := by
  pointwise [k0_pay3]

/-- The running sum at the points of one block of the output. -/
theorem acc_apply (t : Fin cfg0.N) (h : t.val % 4 = 2) (r : Fin 1024) (l : Fin 512) : (outsAt0 m c t.val t.isLt).2 (ix2 r l)
    = (termAt m c 0 ⟨1024 * (t.val / 32) + r.val, by have := lt_N t; omega⟩ ⟨512 * (t.val / 4 % 8) + l.val, by omega⟩
      + termAt m c 1 ⟨1024 * (t.val / 32) + r.val, by have := lt_N t; omega⟩ ⟨512 * (t.val / 4 % 8) + l.val, by omega⟩
      + termAt m c 2 ⟨1024 * (t.val / 32) + r.val, by have := lt_N t; omega⟩ ⟨512 * (t.val / 4 % 8) + l.val, by omega⟩ : EReal) := by
  have hN := lt_N t
  have e : ∀ (b b' : Fin 4) (r r' : Fin 8192) (l l' : Fin 4096), b.val = b'.val → r.val = r'.val → l.val = l'.val → termAt m c b r l = termAt m c b' r' l' :=
    fun b b' r r' l l' hb hr hl => by rw [Fin.ext hb, Fin.ext hr, Fin.ext hl]
  have t1 : t.val - 1 < cfg0.N := lt_of_le_of_lt (Nat.sub_le _ _) t.isLt
  have t0 : t.val - 1 - 1 < cfg0.N := lt_of_le_of_lt (Nat.sub_le _ _) t1
  have s0 := acc_first m c ⟨t.val - 1 - 1, t0⟩ (by dsimp only; omega)
  have s1 := acc_mid m c ⟨t.val - 1, t1⟩ (by dsimp only; omega)
  have s2 := acc_mid m c t (by omega)
  rw [s2, pay4_apply, s1, pay4_apply, s0, pay3_apply, tile, tile, tile]
  refine congrArg₂ (· + ·) (congrArg₂ (· + ·) (e _ _ _ _ _ _ ?_ ?_ ?_) (e _ _ _ _ _ _ ?_ ?_ ?_)) (e _ _ _ _ _ _ ?_ ?_ ?_)
  all_goals (first | rfl | omega | (dsimp only; omega))

/-- What a point that writes back writes, at a row and a column of its block. -/
theorem block_val (t : Fin cfg0.N) (h : t.val % 4 = 3) (r : Fin 1024) (l : Fin 512) : (dats m 0 c).flushed 5 t (ix2 r l)
    = merged (m ((c : Thread nD τ).loc main_arg0)) (ys m c) (m ((c : Thread nD τ).loc main_arg5)) (m ((c : Thread nD τ).loc main_arg6)) (m ((c : Thread nD τ).loc main_arg7))
        (ix2 ⟨1024 * (t.val / 32) + r.val, by have := lt_N t; omega⟩ ⟨512 * (t.val / 4 % 8) + l.val, by omega⟩) := by
  have hN := lt_N t
  have e : ∀ (b b' : Fin 4) (r r' : Fin 8192) (l l' : Fin 4096), b.val = b'.val → r.val = r'.val → l.val = l'.val → termAt m c b r l = termAt m c b' r' l' :=
    fun b b' r r' l l' hb hr hl => by rw [Fin.ext hb, Fin.ext hr, Fin.ext hl]
  have t1 : t.val - 1 < cfg0.N := lt_of_le_of_lt (Nat.sub_le _ _) t.isLt
  have s1 := acc_apply m c ⟨t.val - 1, t1⟩ (by dsimp only; omega) r l
  refine (congrFun (flushed_last m c t h) (ix2 r l)).trans ?_
  refine Eq.trans (b := k0_pay4 (iblk m c 0 t) (iblk m c 2 t) (iblk m c 3 t) (iblk m c 1 t) (iblk m c 4 t) (outsAt0 m c (t.val - 1) t1).2 (ix2 r l)) rfl ?_
  rw [pay4_apply, s1, tile]
  refine congrArg₂ (· + ·) (congrArg₂ (· + ·) (congrArg₂ (· + ·) (e _ _ _ _ _ _ ?_ ?_ ?_) (e _ _ _ _ _ _ ?_ ?_ ?_)) (e _ _ _ _ _ _ ?_ ?_ ?_)) (e _ _ _ _ _ _ ?_ ?_ ?_)
  all_goals (first | rfl | (show t.val % 4 = 3; omega) | (show 1024 * ((t.val - 1) / 32) + r.val = 1024 * (t.val / 32) + r.val; omega) | (show 512 * ((t.val - 1) / 4 % 8) + l.val = 512 * (t.val / 4 % 8) + l.val; omega))

/-- Only the last branch's points write back. -/
theorem flush_mod : ∀ t : Fin cfg0.N, (cfg0.win 5).flush t = true → t.val % 4 = 3 :=
  (by decide +kernel : ∀ t : Fin grid0.N, _)

/-- The kernel's result array after the run. -/
theorem final : (dats m 0 c).arrAt 5 cfg0.N
    = merged (m ((c : Thread nD τ).loc main_arg0)) (ys m c) (m ((c : Thread nD τ).loc main_arg5)) (m ((c : Thread nD τ).loc main_arg6)) (m ((c : Thread nD τ).loc main_arg7)) := by
  refine (dats m 0 c).arrAt_eq_of_covers 5 _ (by decide +kernel) fun t hf y => ?_
  refine Eq.trans (b := (dats m 0 c).flushed 5 t (ix2 ⟨(y 0).val, (y 0).isLt⟩ ⟨(y 1).val, (y 1).isLt⟩)) ?_ ((block_val m c t (flush_mod t hf) _ _).trans ?_)
  · refine congrArg ((dats m 0 c).flushed 5 t) (funext fun a => ?_)
    match a with
    | ⟨0, _⟩ => rfl
    | ⟨1, _⟩ => rfl
  · refine congrArg (merged _ _ _ _ _) (funext fun a => Fin.ext ?_)
    match a with
    | ⟨0, _⟩ => blk_simp [idx t]; show 1024 * (t.val / 32) + (y 0).val = t.val / 32 * 1024 + (y 0).val; omega
    | ⟨1, _⟩ => blk_simp [idx t]; show 512 * (t.val / 4 % 8) + (y 1).val = t.val / 4 % 8 * 512 + (y 1).val; omega
end Cert.MergeIdeal.Val

namespace Cert.MergeRefIdeal.Val
open Cert.MergeRefIdeal Cert.MergeRefIdeal.Gen Idealize.ShloMosaic Idealize.ShloMosaic.TcCoe Idealize.SL.Sem

section
variable {F : FTy → Type} [FloatOps F] [Named F]

/-- The gated term of a branch, of the branch's own weights. -/
def gated (h : Vec F S8192x4096 .bf16) (y : Vec F S8192x1024 .bf16) (wg : Vec F S4096x4096 .f32) (bg : Vec F S4096 .f32) (wp : Vec F S1024x4096 .f32) : Vec F S8192x4096 .f32 :=
  mulf (Host.divf (broadcastInDim S8192x4096 ![] bcast_S_S8192x4096 (constant S_ .f32 0x3F800000#32)) (addf (broadcastInDim S8192x4096 ![] bcast_S_S8192x4096 (constant S_ .f32 0x3F800000#32)) (Host.exp (Host.negf (addf (Host.dotGeneral (φ₂ := .f32) dot_S8192x4096_S4096x4096_S8192x4096_1_0_0_1_n_n none (extf .f32 h bitsLt_bf16_f32) wg)
    (broadcastInDim S8192x4096 ![0, 1] bcast_S1x4096_S8192x4096_0_1 (broadcastInDim S1x4096 ![1] bcast_S4096_S1x4096_1 bg)))))))
    (Host.dotGeneral (φ₂ := .f32) dot_S8192x1024_S1024x4096_S8192x4096_1_0_0_1_n_n none (extf .f32 y bitsLt_bf16_f32) wp)

/-- The weights of the gates of the first layer's branches. -/
def gateW (w : Vec F S2x4x4096x4096 .f32) : Fin 4 → Vec F S4096x4096 .f32
  | 0 => shapeCast _ (extractStridedSlice S1x1x4096x4096 ![0, 0, 0, 0] w slices_S2x4x4096x4096_S1x1x4096x4096_0_0_0_0) shapeCasts_S1x1x4096x4096_S4096x4096
  | 1 => shapeCast _ (extractStridedSlice S1x1x4096x4096 ![0, 1, 0, 0] w slices_S2x4x4096x4096_S1x1x4096x4096_0_1_0_0) shapeCasts_S1x1x4096x4096_S4096x4096
  | 2 => shapeCast _ (extractStridedSlice S1x1x4096x4096 ![0, 2, 0, 0] w slices_S2x4x4096x4096_S1x1x4096x4096_0_2_0_0) shapeCasts_S1x1x4096x4096_S4096x4096
  | 3 => shapeCast _ (extractStridedSlice S1x1x4096x4096 ![0, 3, 0, 0] w slices_S2x4x4096x4096_S1x1x4096x4096_0_3_0_0) shapeCasts_S1x1x4096x4096_S4096x4096

/-- The offsets of the gates of the first layer's branches. -/
def gateB (w : Vec F S2x4x4096 .f32) : Fin 4 → Vec F S4096 .f32
  | 0 => shapeCast _ (extractStridedSlice S1x1x4096 ![0, 0, 0] w slices_S2x4x4096_S1x1x4096_0_0_0) shapeCasts_S1x1x4096_S4096
  | 1 => shapeCast _ (extractStridedSlice S1x1x4096 ![0, 1, 0] w slices_S2x4x4096_S1x1x4096_0_1_0) shapeCasts_S1x1x4096_S4096
  | 2 => shapeCast _ (extractStridedSlice S1x1x4096 ![0, 2, 0] w slices_S2x4x4096_S1x1x4096_0_2_0) shapeCasts_S1x1x4096_S4096
  | 3 => shapeCast _ (extractStridedSlice S1x1x4096 ![0, 3, 0] w slices_S2x4x4096_S1x1x4096_0_3_0) shapeCasts_S1x1x4096_S4096

/-- The weights of the first layer's branches. -/
def branchW (w : Vec F S2x4x1024x4096 .f32) : Fin 4 → Vec F S1024x4096 .f32
  | 0 => shapeCast _ (extractStridedSlice S1x1x1024x4096 ![0, 0, 0, 0] w slices_S2x4x1024x4096_S1x1x1024x4096_0_0_0_0) shapeCasts_S1x1x1024x4096_S1024x4096
  | 1 => shapeCast _ (extractStridedSlice S1x1x1024x4096 ![0, 1, 0, 0] w slices_S2x4x1024x4096_S1x1x1024x4096_0_1_0_0) shapeCasts_S1x1x1024x4096_S1024x4096
  | 2 => shapeCast _ (extractStridedSlice S1x1x1024x4096 ![0, 2, 0, 0] w slices_S2x4x1024x4096_S1x1x1024x4096_0_2_0_0) shapeCasts_S1x1x1024x4096_S1024x4096
  | 3 => shapeCast _ (extractStridedSlice S1x1x1024x4096 ![0, 3, 0, 0] w slices_S2x4x1024x4096_S1x1x1024x4096_0_3_0_0) shapeCasts_S1x1x1024x4096_S1024x4096

/-- The sum, from zero, of the four branches' gated terms. -/
def total (h : Vec F S8192x4096 .bf16) (y0 y1 y2 y3 : Vec F S8192x1024 .bf16) (wg : Vec F S2x4x4096x4096 .f32) (bg : Vec F S2x4x4096 .f32) (wp : Vec F S2x4x1024x4096 .f32) : Vec F S8192x4096 .bf16 :=
  truncf .bf16 (addf (addf (addf (addf (broadcastInDim S8192x4096 ![] bcast_S_S8192x4096 (constant S_ .f32 0x00000000#32)) (gated h y0 (gateW wg 0) (gateB bg 0) (branchW wp 0)))
    (gated h y1 (gateW wg 1) (gateB bg 1) (branchW wp 1))) (gated h y2 (gateW wg 2) (gateB bg 2) (branchW wp 2))) (gated h y3 (gateW wg 3) (gateB bg 3) (branchW wp 3))) bitsLt_bf16_f32

/-- The reference's result is that sum. -/
theorem stages (m : (ℓ : Loc nD τ sig) → Buf (Elt F) ℓ) (c : Dev nD) : Value.res_main_v82 m c
    = total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl
end

/-- A branch's gated term, read at a row and a column. -/
theorem gated_apply (h : Vec Ideal S8192x4096 .bf16) (y : Vec Ideal S8192x1024 .bf16) (wg : Vec Ideal S4096x4096 .f32) (bg : Vec Ideal S4096 .f32) (wp : Vec Ideal S1024x4096 .f32) (r : Fin 8192) (l : Fin 4096) :
    gated h y wg bg wp (ix2 r l) = (Ideal.div 1 (1 + Ideal.exp (-((∑ k : Fin 4096, (h (ix2 r k) * wg (ix2 k l) : EReal)) + bg (ix1 l))))
      * ∑ k : Fin 1024, (y (ix2 r k) * wp (ix2 k l) : EReal) : EReal) := by
  pointwise [gated]

/-- The gates' weights, read at an index. -/
theorem gateW_apply (w : Vec Ideal S2x4x4096x4096 .f32) (b : Fin 4) (k l : Fin 4096) : gateW w b (ix2 k l) = w (ix4 0 b k l) := by
  match b with
  | 0 => pointwise [gateW]
  | 1 => pointwise [gateW]
  | 2 => pointwise [gateW]
  | 3 => pointwise [gateW]

/-- The gates' offsets, read at an index. -/
theorem gateB_apply (w : Vec Ideal S2x4x4096 .f32) (b : Fin 4) (l : Fin 4096) : gateB w b (ix1 l) = w (ix3 0 b l) := by
  match b with
  | 0 => pointwise [gateB]
  | 1 => pointwise [gateB]
  | 2 => pointwise [gateB]
  | 3 => pointwise [gateB]

/-- The branches' weights, read at an index. -/
theorem branchW_apply (w : Vec Ideal S2x4x1024x4096 .f32) (b : Fin 4) (k : Fin 1024) (l : Fin 4096) : branchW w b (ix2 k l) = w (ix4 0 b k l) := by
  match b with
  | 0 => pointwise [branchW]
  | 1 => pointwise [branchW]
  | 2 => pointwise [branchW]
  | 3 => pointwise [branchW]

/-- The reference's sum is the same function of the arguments. -/
theorem total_eq (h : Vec Ideal S8192x4096 .bf16) (y0 y1 y2 y3 : Vec Ideal S8192x1024 .bf16) (wg : Vec Ideal S2x4x4096x4096 .f32) (bg : Vec Ideal S2x4x4096 .f32) (wp : Vec Ideal S2x4x1024x4096 .f32) :
    total h y0 y1 y2 y3 wg bg wp = Cert.MergeIdeal.Val.merged h ![y0, y1, y2, y3] wg bg wp := by
  funext i
  obtain ⟨r, l, rfl⟩ : ∃ (r : Fin 8192) (l : Fin 4096), i = ix2 r l := ⟨i 0, i 1, funext fun a => by
    match a with
    | ⟨0, _⟩ => rfl
    | ⟨1, _⟩ => rfl⟩
  have e : ∀ (y : Vec Ideal S8192x1024 .bf16) (b : Fin 4), ![y0, y1, y2, y3] b = y →
      gated h y (gateW wg b) (gateB bg b) (branchW wp b) (ix2 r l) = Cert.MergeIdeal.Val.term h ![y0, y1, y2, y3] wg bg wp b r l := by
    intro y b hy
    subst hy
    rw [gated_apply]
    simp only [gateW_apply, gateB_apply, branchW_apply]
    rfl
  refine Eq.trans (b := ((((0 : EReal) + gated h y0 (gateW wg 0) (gateB bg 0) (branchW wp 0) (ix2 r l)) + gated h y1 (gateW wg 1) (gateB bg 1) (branchW wp 1) (ix2 r l))
    + gated h y2 (gateW wg 2) (gateB bg 2) (branchW wp 2) (ix2 r l)) + gated h y3 (gateW wg 3) (gateB bg 3) (branchW wp 3) (ix2 r l)) ?_ ?_
  · pointwise [total]
  · rw [e y0 0 rfl, e y1 1 rfl, e y2 2 rfl, e y3 3 rfl, zero_add]
    rfl
end Cert.MergeRefIdeal.Val

namespace Cert.Proof
open Idealize.ShloMosaic Idealize.ShloMosaic.TcCoe Idealize.SL.Sem

/-- The gated merge as written runs, keeps its arguments and leaves every semaphore at zero. -/
theorem merge_frame : quiescent_Merge (hMerge := Cert.Merge.Gen.facts) := fun m ρ _ => Cert.Merge.Gen.frame m ρ

/-- So does it over the extended reals. -/
theorem merge_frame_ideal : quiescent_MergeIdeal (hMergeIdeal := Cert.MergeIdeal.Gen.facts) := fun m ρ _ => Cert.MergeIdeal.Gen.frame m ρ

/-- The reference of the gated merge runs, keeps its arguments and leaves every semaphore at zero. -/
theorem merge_frame_ref : quiescent_MergeRefIdeal (hMergeRefIdeal := Cert.MergeRefIdeal.Gen.facts) := fun m ρ _ =>
  (θ_run (Cert.MergeRefIdeal.defs (F := Ideal)) _ _).mono
    (fun r h => ⟨fun c => (h c).2, sem_eq_zero_of_no_sems (by decide) r.2⟩) (Cert.MergeRefIdeal.Value.run m ρ)

/-- From arguments that agree, the gated merge and its reference end with the same array. -/
theorem merge_algebraic : algebraic_MergeIdeal_MergeRefIdeal (hMergeIdeal := Cert.MergeIdeal.Gen.facts)
    (hMergeRefIdeal := Cert.MergeRefIdeal.Gen.facts) := by
  intro m ρ m' ρ' _ hagree
  refine ⟨fun c => Cert.MergeIdeal.Val.merged (m ((c.tc : Thread Cert.MergeIdeal.nD Cert.MergeIdeal.τ).loc Cert.MergeIdeal.main_arg0)) (Cert.MergeIdeal.Val.ys m c)
    (m ((c.tc : Thread Cert.MergeIdeal.nD Cert.MergeIdeal.τ).loc Cert.MergeIdeal.main_arg5)) (m ((c.tc : Thread Cert.MergeIdeal.nD Cert.MergeIdeal.τ).loc Cert.MergeIdeal.main_arg6))
    (m ((c.tc : Thread Cert.MergeIdeal.nD Cert.MergeIdeal.τ).loc Cert.MergeIdeal.main_arg7)), ?_, ?_⟩
  · exact (θ_run (Cert.MergeIdeal.defs (F := Ideal)) _ _).mono
      (fun _ h c => ⟨(h c).1.trans (Cert.MergeIdeal.Val.final m c), (h c).2⟩) (Cert.MergeIdeal.Value.run_blocks m ρ)
  · refine (θ_run (Cert.MergeRefIdeal.defs (F := Ideal)) _ _).mono (fun _ h c => ⟨(h c).1.trans ?_, (h c).2⟩) (Cert.MergeRefIdeal.Value.run m' ρ')
    obtain ⟨h0, h1, h2, h3, h4, h5, h6, h7⟩ := hagree c
    refine (Cert.MergeRefIdeal.Val.stages m' c).trans ((Cert.MergeRefIdeal.Val.total_eq _ _ _ _ _ _ _ _).trans ?_)
    rw [h0, h1, h2, h3, h4, h5, h6, h7]
    rfl
end Cert.Proof
-- ==== Proof.InProj.lean ====
/- The product of the hidden rows and the combined projection's weights, without the rotary-key and step-size columns: the tiled kernel and the plain product are one array. -/
module
public import proofs.«01_k».proof.Defs
public import proofs.«01_k».proof.Proof.Gen.InProj.Frame
public import proofs.«01_k».proof.Proof.Gen.InProjIdeal.Value
public import proofs.«01_k».proof.Proof.Gen.InProjRefIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
namespace Cert.InProjIdeal.Val
open Cert.InProjIdeal Cert.InProjIdeal.Gen Idealize.ShloMosaic Idealize.ShloMosaic.TcCoe Idealize.SL.Sem

/-- The block each window names at a point: rows vary fastest. -/
theorem idx : ∀ t : Fin cfg0.N, win0_0.index t = ![t.val % 16, 0] ∧ win0_1.index t = ![0, 0, t.val / 16]
    ∧ win0_2.index t = ![t.val % 16, t.val / 16] :=
  (by decide +kernel : ∀ t : Fin grid0.N, _)

/-- There are 160 points. -/
theorem lt_N (t : Fin cfg0.N) : t.val < 160 := t.isLt

/-- An offset of zeros, of two axes. -/
theorem zero2 : (![0, 0] : Fin 2 → ℕ) = fun _ => 0 := by decide

/-- An offset of zeros, of three axes. -/
theorem zero3 : (![0, 0, 0] : Fin 3 → ℕ) = fun _ => 0 := by decide

/-- The column of the combined projection that is column `l` of the kept part: the 16 step-size columns at 3072 and the
    64 rotary-key columns at 7184 are left out. -/
def col (l : Fin 10240) : Fin 10320 := ⟨if l.val < 3072 then l.val else if l.val < 7168 then l.val + 16 else l.val + 80, by split_ifs <;> omega⟩

section
variable {F : FTy → Type} [FloatOps F] (m : (ℓ : Loc nD τ sig) → Buf (Elt F) ℓ) (c : Dev nD)

/-- The kept columns of the weights, side by side. -/
def kept (w : Vec F S2x4096x10320 .f32) : Vec F S2x4096x10240 .f32 :=
  concatenate S2x4096x10240 2 [⟨S2x4096x3072, extractStridedSlice S2x4096x3072 ![0, 0, 0] w slices_S2x4096x10320_S2x4096x3072_0_0_0⟩,
    ⟨S2x4096x4096, extractStridedSlice S2x4096x4096 ![0, 0, 3088] w slices_S2x4096x10320_S2x4096x4096_0_0_3088⟩,
    ⟨S2x4096x3072, extractStridedSlice S2x4096x3072 ![0, 0, 7248] w slices_S2x4096x10320_S2x4096x3072_0_0_7248⟩]
    concatenates_S2x4096x3072_S2x4096x4096_S2x4096x3072_S2x4096x10240_d2

/-- The weights the kernel is given: the kept columns in the narrower format. -/
theorem host0 : (V m c main_v4 : Vec F S2x4096x10240 .bf16) = truncf .bf16 (kept (m ((c : Thread nD τ).loc main_arg1))) bitsLt_bf16_f32 := rfl
end

/-- The kept columns, read at an index. -/
theorem kept_apply (w : Vec Ideal S2x4096x10320 .f32) (b : Fin 2) (k : Fin 4096) (l : Fin 10240) :
    kept w (ix3 b k l) = w (ix3 b k (col l)) := by
  have e : ∀ n : Fin 10320, n.val = (col l).val → w (ix3 b k n) = w (ix3 b k (col l)) := fun n h => by rw [Fin.ext h]
  pointwise [kept]
  repeat' split
  all_goals (refine e _ ?_; simp only [col]; split_ifs <;> omega)

variable (m : (ℓ : Loc nD τ sig) → Buf (Elt Ideal) ℓ) (c : Dev nD)

/-- The block of the left factor. -/
theorem read0 (t : Fin cfg0.N) (r : Fin 512) (k : Fin 4096) : iblk m c 0 t (ix2 r k)
    = m ((c : Thread nD τ).loc main_arg0) (ix2 ⟨512 * (t.val % 16) + r.val, by omega⟩ k) := by
  rw [← V_main_arg0 m c]
  blk_ext [iblk, idx t]

/-- The block of the weights. -/
theorem read1 (t : Fin cfg0.N) (k : Fin 4096) (l : Fin 1024) : iblk m c 1 t (ix3 0 k l)
    = (V m c main_v4 : Vec Ideal S2x4096x10240 .bf16) (ix3 0 k ⟨1024 * (t.val / 16) + l.val, by have := lt_N t; omega⟩) := by
  blk_ext [iblk, idx t]

/-- The product of a matrix and the first layer's kept weight columns, at a row and a column. -/
def product (x : Vec Ideal S8192x4096 .bf16) (w : Vec Ideal S2x4096x10320 .f32) : Vec Ideal S8192x10240 .f32 :=
  fun i => ∑ k : Fin 4096, (x (ix2 ⟨(i 0).val, (i 0).isLt⟩ k) * w (ix3 0 k (col ⟨(i 1).val, (i 1).isLt⟩)) : EReal)

/-- One block of the product. -/
theorem out_apply (x : Vec Ideal S512x4096 .bf16) (w : Vec Ideal S1x4096x1024 .bf16) (r : Fin 512) (l : Fin 1024) :
    out0_2 x w (ix2 r l) = ∑ k : Fin 4096, (x (ix2 r k) * w (ix3 0 k l) : EReal) := by
  unfold out0_2 r0_2 r0_0 r0_1
  rw [View.canon_unit_zero zero2]
  simp only [View.ld_unit_zero (S := S512x4096) zero2, View.ld_unit_zero (S := S1x4096x1024) zero3]
  pointwise [k0_pay1]

/-- What a point writes back, at a row and a column of its block. -/
theorem block_val (t : Fin cfg0.N) (r : Fin 512) (l : Fin 1024) : (dats m 0 c).flushed 2 t (ix2 r l)
    = product (m ((c : Thread nD τ).loc main_arg0)) (m ((c : Thread nD τ).loc main_arg1))
        (ix2 ⟨512 * (t.val % 16) + r.val, by omega⟩ ⟨1024 * (t.val / 16) + l.val, by have := lt_N t; omega⟩) := by
  rw [Value.flushed2]
  refine (out_apply (iblk m c 0 t) (iblk m c 1 t) r l).trans (Finset.sum_congr rfl fun k _ => ?_)
  rw [read0, read1, host0]
  exact congrArg (fun z : EReal => (_ * z : EReal)) (kept_apply _ _ _ _)

/-- The kernel's result array after the run. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  refine Eq.trans (b := (dats m 0 c).flushed 2 t (ix2 ⟨(y 0).val, (y 0).isLt⟩ ⟨(y 1).val, (y 1).isLt⟩)) ?_ ((block_val m c t _ _).trans ?_)
  · refine congrArg ((dats m 0 c).flushed 2 t) (funext fun a => ?_)
    match a with
    | ⟨0, _⟩ => rfl
    | ⟨1, _⟩ => rfl
  · refine congrArg (product _ _) (funext fun a => Fin.ext ?_)
    match a with
    | ⟨0, _⟩ => blk_simp [idx t]; show 512 * (t.val % 16) + (y 0).val = t.val % 16 * 512 + (y 0).val; omega
    | ⟨1, _⟩ => blk_simp [idx t]; show 1024 * (t.val / 16) + (y 1).val = t.val / 16 * 1024 + (y 1).val; omega
end Cert.InProjIdeal.Val

namespace Cert.InProjRefIdeal.Val
open Cert.InProjRefIdeal Cert.InProjRefIdeal.Gen Idealize.ShloMosaic Idealize.ShloMosaic.TcCoe Idealize.SL.Sem

section
variable {F : FTy → Type} [FloatOps F] [Named F]

/-- The whole product. -/
def whole (x : Vec F S8192x4096 .bf16) (w : Vec F S2x4096x10320 .f32) : Vec F S8192x10320 .f32 :=
  Host.dotGeneral (φ₂ := .f32) dot_S8192x4096_S4096x10320_S8192x10320_1_0_0_1_n_n none (extf .f32 x bitsLt_bf16_f32) (shapeCast S4096x10320 (extractStridedSlice S1x4096x10320 ![0, 0, 0] w slices_S2x4096x10320_S1x4096x10320_0_0_0) shapeCasts_S1x4096x10320_S4096x10320)

/-- The kept parts of the split product, side by side. -/
def parts (u : Vec F S8192x10320 .f32) : Vec F S8192x10240 .f32 :=
  concatenate S8192x10240 1 [⟨S8192x1024, extractStridedSlice S8192x1024 ![0, 0] u slices_S8192x10320_S8192x1024_0_0⟩,
    ⟨S8192x2048, extractStridedSlice S8192x2048 ![0, 1024] u slices_S8192x10320_S8192x2048_0_1024⟩,
    ⟨S8192x1024, extractStridedSlice S8192x1024 ![0, 3088] u slices_S8192x10320_S8192x1024_0_3088⟩,
    ⟨S8192x1024, extractStridedSlice S8192x1024 ![0, 4112] u slices_S8192x10320_S8192x1024_0_4112⟩,
    ⟨S8192x1024, extractStridedSlice S8192x1024 ![0, 5136] u slices_S8192x10320_S8192x1024_0_5136⟩,
    ⟨S8192x768, extractStridedSlice S8192x768 ![0, 6160] u slices_S8192x10320_S8192x768_0_6160⟩,
    ⟨S8192x256, extractStridedSlice S8192x256 ![0, 6928] u slices_S8192x10320_S8192x256_0_6928⟩,
    ⟨S8192x1024, extractStridedSlice S8192x1024 ![0, 7248] u slices_S8192x10320_S8192x1024_0_7248⟩,
    ⟨S8192x1024, extractStridedSlice S8192x1024 ![0, 8272] u slices_S8192x10320_S8192x1024_0_8272⟩,
    ⟨S8192x1024, extractStridedSlice S8192x1024 ![0, 9296] u slices_S8192x10320_S8192x1024_0_9296⟩]
    concatenates_S8192x1024_S8192x2048_S8192x1024_S8192x1024_S8192x1024_S8192x768_S8192x256_S8192x1024_S8192x1024_S8192x1024_S8192x10240_d1

/-- The reference's result, in two stages. -/
theorem stages (m : (ℓ : Loc nD τ sig) → Buf (Elt F) ℓ) (c : Dev nD) : Value.res_main_v16 m c
    = parts (whole (m ((c.tc : Thread nD τ).loc main_arg0)) (m ((c.tc : Thread nD τ).loc main_arg1))) := rfl
end

/-- The kept parts, read at an index. -/
theorem parts_apply (u : Vec Ideal S8192x10320 .f32) (r : Fin 8192) (l : Fin 10240) :
    parts u (ix2 r l) = u (ix2 r (Cert.InProjIdeal.Val.col l)) := by
  have e : ∀ n : Fin 10320, n.val = (Cert.InProjIdeal.Val.col l).val → u (ix2 r n) = u (ix2 r (Cert.InProjIdeal.Val.col l)) :=
    fun n h => by rw [Fin.ext h]
  pointwise [parts]
  repeat' split
  all_goals (refine e _ ?_; simp only [Cert.InProjIdeal.Val.col]; split_ifs <;> omega)

/-- The whole product, read at an index. -/
theorem whole_apply (x : Vec Ideal S8192x4096 .bf16) (w : Vec Ideal S2x4096x10320 .f32) (r : Fin 8192) (l : Fin 10320) :
    whole x w (ix2 r l) = ∑ k : Fin 4096, (x (ix2 r k) * w (ix3 0 k l) : EReal) := by
  pointwise [whole]

/-- The reference's product is the same function of the arguments. -/
theorem product_eq (x : Vec Ideal S8192x4096 .bf16) (w : Vec Ideal S2x4096x10320 .f32) :
    parts (whole x w) = Cert.InProjIdeal.Val.product x w := by
  funext i
  obtain ⟨r, l, rfl⟩ : ∃ (r : Fin 8192) (l : Fin 10240), i = ix2 r l := ⟨i 0, i 1, funext fun a => by
    match a with
    | ⟨0, _⟩ => rfl
    | ⟨1, _⟩ => rfl⟩
  rw [parts_apply, whole_apply]
  rfl
end Cert.InProjRefIdeal.Val

namespace Cert.Proof
open Idealize.ShloMosaic Idealize.ShloMosaic.TcCoe Idealize.SL.Sem

/-- The input projection as written runs, keeps its arguments and leaves every semaphore at zero. -/
theorem inproj_frame : quiescent_InProj (hInProj := Cert.InProj.Gen.facts) := fun m ρ _ => Cert.InProj.Gen.frame m ρ

/-- So does it over the extended reals. -/
theorem inproj_frame_ideal : quiescent_InProjIdeal (hInProjIdeal := Cert.InProjIdeal.Gen.facts) := fun m ρ _ => Cert.InProjIdeal.Gen.frame m ρ

/-- The reference of the input projection runs, keeps its arguments and leaves every semaphore at zero. -/
theorem inproj_frame_ref : quiescent_InProjRefIdeal (hInProjRefIdeal := Cert.InProjRefIdeal.Gen.facts) := fun m ρ _ =>
  (θ_run (Cert.InProjRefIdeal.defs (F := Ideal)) _ _).mono
    (fun r h => ⟨fun c => (h c).2, sem_eq_zero_of_no_sems (by decide) r.2⟩) (Cert.InProjRefIdeal.Value.run m ρ)

/-- From arguments that agree, the input projection and its reference end with the same array. -/
theorem inproj_algebraic : algebraic_InProjIdeal_InProjRefIdeal (hInProjIdeal := Cert.InProjIdeal.Gen.facts)
    (hInProjRefIdeal := Cert.InProjRefIdeal.Gen.facts) := by
  intro m ρ m' ρ' _ hagree
  refine ⟨fun c => Cert.InProjIdeal.Val.product (m ((c.tc : Thread Cert.InProjIdeal.nD Cert.InProjIdeal.τ).loc Cert.InProjIdeal.main_arg0)) (m ((c.tc : Thread Cert.InProjIdeal.nD Cert.InProjIdeal.τ).loc Cert.InProjIdeal.main_arg1)), ?_, ?_⟩
  · exact (θ_run (Cert.InProjIdeal.defs (F := Ideal)) _ _).mono
      (fun _ h c => ⟨(h c).1.trans (Cert.InProjIdeal.Val.final m c), (h c).2⟩) (Cert.InProjIdeal.Value.run_blocks m ρ)
  · refine (θ_run (Cert.InProjRefIdeal.defs (F := Ideal)) _ _).mono (fun _ h c => ⟨(h c).1.trans ?_, (h c).2⟩) (Cert.InProjRefIdeal.Value.run m' ρ')
    obtain ⟨h0, h1⟩ := hagree c
    refine (Cert.InProjRefIdeal.Val.stages m' c).trans ((Cert.InProjRefIdeal.Val.product_eq _ _).trans ?_)
    rw [h0, h1]
end Cert.Proof
-- ==== Proof.OutProj.lean ====
/- The product of the merged branches and the output weights: the tiled kernel and the plain product are one array. -/
module
public import proofs.«01_k».proof.Defs
public import proofs.«01_k».proof.Proof.Gen.OutProj.Frame
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
namespace Cert.OutProjIdeal.Val
open Cert.OutProjIdeal Cert.OutProjIdeal.Gen Idealize.ShloMosaic Idealize.ShloMosaic.TcCoe Idealize.SL.Sem

/-- The block each window names at a point: rows vary fastest. -/
theorem idx : ∀ t : Fin cfg0.N, win0_0.index t = ![t.val % 8, 0] ∧ win0_1.index t = ![0, 0, t.val / 8]
    ∧ win0_2.index t = ![t.val % 8, t.val / 8] :=
  (by decide +kernel : ∀ t : Fin grid0.N, _)

/-- There are 32 points. -/
theorem lt_N (t : Fin cfg0.N) : t.val < 32 := t.isLt

/-- An offset of zeros, of two axes. -/
theorem zero2 : (![0, 0] : Fin 2 → ℕ) = fun _ => 0 := by decide

/-- An offset of zeros, of three axes. -/
theorem zero3 : (![0, 0, 0] : Fin 3 → ℕ) = fun _ => 0 := by decide

section
variable {F : FTy → Type} [FloatOps F] (m : (ℓ : Loc nD τ sig) → Buf (Elt F) ℓ) (c : Dev nD)
/-- The weights the kernel is given: the argument in the narrower format. -/
theorem host0 : (V m c main_v0 : Vec F S2x4096x4096 .bf16) = truncf .bf16 (m ((c : Thread nD τ).loc main_arg1)) bitsLt_bf16_f32 := rfl
end

variable (m : (ℓ : Loc nD τ sig) → Buf (Elt Ideal) ℓ) (c : Dev nD)

/-- The block of the left factor. -/
theorem read0 (t : Fin cfg0.N) (r : Fin 1024) (k : Fin 4096) : iblk m c 0 t (ix2 r k)
    = m ((c : Thread nD τ).loc main_arg0) (ix2 ⟨1024 * (t.val % 8) + r.val, by omega⟩ k) := by
  rw [← V_main_arg0 m c]
  blk_ext [iblk, idx t]

/-- The block of the weights. -/
theorem read1 (t : Fin cfg0.N) (k : Fin 4096) (l : Fin 1024) : iblk m c 1 t (ix3 0 k l)
    = (V m c main_v0 : Vec Ideal S2x4096x4096 .bf16) (ix3 0 k ⟨1024 * (t.val / 8) + l.val, by have := lt_N t; omega⟩) := by
  blk_ext [iblk, idx t]

/-- The product of a matrix and the first layer's weights, at a row and a column. -/
def product (x : Vec Ideal S8192x4096 .bf16) (w : Vec Ideal S2x4096x4096 .f32) : Vec Ideal S8192x4096 .f32 :=
  fun i => ∑ k : Fin 4096, (x (ix2 ⟨(i 0).val, (i 0).isLt⟩ k) * w (ix3 0 k ⟨(i 1).val, (i 1).isLt⟩) : EReal)

/-- One block of the product. -/
theorem out_apply (x : Vec Ideal S1024x4096 .bf16) (w : Vec Ideal S1x4096x1024 .bf16) (r l : Fin 1024) :
    out0_2 x w (ix2 r l) = ∑ k : Fin 4096, (x (ix2 r k) * w (ix3 0 k l) : EReal) := by
  unfold out0_2 r0_2 r0_0 r0_1
  rw [View.canon_unit_zero zero2]
  simp only [View.ld_unit_zero (S := S1024x4096) zero2, View.ld_unit_zero (S := S1x4096x1024) zero3]
  pointwise [k0_pay1]

/-- What a point writes back, at a row and a column of its block. -/
theorem block_val (t : Fin cfg0.N) (r l : Fin 1024) : (dats m 0 c).flushed 2 t (ix2 r l)
    = product (m ((c : Thread nD τ).loc main_arg0)) (m ((c : Thread nD τ).loc main_arg1))
        (ix2 ⟨1024 * (t.val % 8) + r.val, by omega⟩ ⟨1024 * (t.val / 8) + l.val, by have := lt_N t; omega⟩) := by
  rw [Value.flushed2]
  refine (out_apply (iblk m c 0 t) (iblk m c 1 t) r l).trans (Finset.sum_congr rfl fun k _ => ?_)
  rw [read0, read1, host0]
  rfl

/-- The kernel's result array after the run. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  refine Eq.trans (b := (dats m 0 c).flushed 2 t (ix2 ⟨(y 0).val, (y 0).isLt⟩ ⟨(y 1).val, (y 1).isLt⟩)) ?_ ((block_val m c t _ _).trans ?_)
  · refine congrArg ((dats m 0 c).flushed 2 t) (funext fun a => ?_)
    match a with
    | ⟨0, _⟩ => rfl
    | ⟨1, _⟩ => rfl
  · refine congrArg (product _ _) (funext fun a => Fin.ext ?_)
    match a with
    | ⟨0, _⟩ => blk_simp [idx t]; show 1024 * (t.val % 8) + (y 0).val = t.val % 8 * 1024 + (y 0).val; omega
    | ⟨1, _⟩ => blk_simp [idx t]; show 1024 * (t.val / 8) + (y 1).val = t.val / 8 * 1024 + (y 1).val; omega
end Cert.OutProjIdeal.Val

namespace Cert.OutProjRefIdeal.Val
open Cert.OutProjRefIdeal Cert.OutProjRefIdeal.Gen Idealize.ShloMosaic Idealize.ShloMosaic.TcCoe Idealize.SL.Sem

/-- The reference's product is the same function of the arguments. -/
theorem product_eq (x : Vec Ideal S8192x4096 .bf16) (w : Vec Ideal S2x4096x4096 .f32) :
    (Host.dotGeneral (F := Ideal) (φ₂ := .f32) dot_S8192x4096_S4096x4096_S8192x4096_1_0_0_1_n_n none (extf .f32 x bitsLt_bf16_f32)
      (shapeCast S4096x4096 (extractStridedSlice S1x4096x4096 ![0, 0, 0] w slices_S2x4096x4096_S1x4096x4096_0_0_0) shapeCasts_S1x4096x4096_S4096x4096 : Vec Ideal S4096x4096 .f32) : Vec Ideal S8192x4096 .f32)
      = Cert.OutProjIdeal.Val.product x w := by
  funext i
  obtain ⟨r, l, rfl⟩ : ∃ (r : Fin 8192) (l : Fin 4096), i = ix2 r l := ⟨i 0, i 1, funext fun a => by
    match a with
    | ⟨0, _⟩ => rfl
    | ⟨1, _⟩ => rfl⟩
  pointwise
  rfl
end Cert.OutProjRefIdeal.Val

namespace Cert.Proof
open Idealize.ShloMosaic Idealize.ShloMosaic.TcCoe Idealize.SL.Sem

/-- The output projection as written runs, keeps its arguments and leaves every semaphore at zero. -/
theorem outproj_frame : quiescent_OutProj (hOutProj := Cert.OutProj.Gen.facts) := fun m ρ _ => Cert.OutProj.Gen.frame m ρ

/-- So does it over the extended reals. -/
theorem outproj_frame_ideal : quiescent_OutProjIdeal (hOutProjIdeal := Cert.OutProjIdeal.Gen.facts) := fun m ρ _ => Cert.OutProjIdeal.Gen.frame m ρ

/-- The reference of the output projection runs, keeps its arguments and leaves every semaphore at zero. -/
theorem outproj_frame_ref : quiescent_OutProjRefIdeal (hOutProjRefIdeal := Cert.OutProjRefIdeal.Gen.facts) := fun m ρ _ =>
  (θ_run (Cert.OutProjRefIdeal.defs (F := Ideal)) _ _).mono
    (fun r h => ⟨fun c => (h c).2, sem_eq_zero_of_no_sems (by decide) r.2⟩) (Cert.OutProjRefIdeal.Value.run m ρ)

/-- From arguments that agree, the output projection and its reference end with the same array. -/
theorem outproj_algebraic : algebraic_OutProjIdeal_OutProjRefIdeal (hOutProjIdeal := Cert.OutProjIdeal.Gen.facts)
    (hOutProjRefIdeal := Cert.OutProjRefIdeal.Gen.facts) := by
  intro m ρ m' ρ' _ hagree
  refine ⟨fun c => Cert.OutProjIdeal.Val.product (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)), ?_, ?_⟩
  · exact (θ_run (Cert.OutProjIdeal.defs (F := Ideal)) _ _).mono
      (fun _ h c => ⟨(h c).1.trans (Cert.OutProjIdeal.Val.final m c), (h c).2⟩) (Cert.OutProjIdeal.Value.run_blocks m ρ)
  · refine (θ_run (Cert.OutProjRefIdeal.defs (F := Ideal)) _ _).mono (fun _ h c => ⟨(h c).1.trans ?_, (h c).2⟩) (Cert.OutProjRefIdeal.Value.run m' ρ')
    obtain ⟨h0, h1⟩ := hagree c
    refine (Cert.OutProjRefIdeal.Val.product_eq _ _).trans ?_
    rw [h0, h1]
end Cert.Proof
-- ==== Proof.QUp.lean ====
/- The product of the compressed queries and the up-projection's weights, the plain parts of all heads before the rotary parts: the tiled kernel and the plain product are one array. -/
module
public import proofs.«01_k».proof.Defs
public import proofs.«01_k».proof.Proof.Gen.QUp.Frame
public import proofs.«01_k».proof.Proof.Gen.QUpIdeal.Value
public import proofs.«01_k».proof.Proof.Gen.QUpRefIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
namespace Cert.QUpIdeal.Val
open Cert.QUpIdeal Cert.QUpIdeal.Gen Idealize.ShloMosaic Idealize.ShloMosaic.TcCoe Idealize.SL.Sem

/-- The block each window names at a point: rows vary fastest. -/
theorem idx : ∀ t : Fin cfg0.N, win0_0.index t = ![t.val % 8, 0] ∧ win0_1.index t = ![0, 0, t.val / 8]
    ∧ win0_2.index t = ![t.val % 8, t.val / 8] :=
  (by decide +kernel : ∀ t : Fin grid0.N, _)

/-- There are 24 points. -/
theorem lt_N (t : Fin cfg0.N) : t.val < 24 := t.isLt

/-- An offset of zeros, of two axes. -/
theorem zero2 : (![0, 0] : Fin 2 → ℕ) = fun _ => 0 := by decide

/-- An offset of zeros, of three axes. -/
theorem zero3 : (![0, 0, 0] : Fin 3 → ℕ) = fun _ => 0 := by decide

/-- The column of the weights that is column `l` of the regrouped weights: each head's 192 columns are its 128 plain and then
    its 64 rotary ones; regrouped, the plain ones of all eight heads come first. -/
def col (l : Fin 1536) : Fin 1536 := ⟨if l.val < 1024 then 192 * (l.val / 128) + l.val % 128 else 192 * ((l.val - 1024) / 64) + 128 + (l.val - 1024) % 64, by split_ifs <;> omega⟩

section
variable {F : FTy → Type} [FloatOps F] (m : (ℓ : Loc nD τ sig) → Buf (Elt F) ℓ) (c : Dev nD)

/-- The weights with their columns regrouped. -/
def kept (w : Vec F S2x768x1536 .f32) : Vec F S2x768x1536 .f32 :=
  concatenate S2x768x1536 2 [⟨S2x768x1024, shapeCast S2x768x1024 (extractStridedSlice S2x768x8x128 ![0, 0, 0, 0] (shapeCast S2x768x8x192 w shapeCasts_S2x768x1536_S2x768x8x192) slices_S2x768x8x192_S2x768x8x128_0_0_0_0) shapeCasts_S2x768x8x128_S2x768x1024⟩,
    ⟨S2x768x512, shapeCast S2x768x512 (extractStridedSlice S2x768x8x64 ![0, 0, 0, 128] (shapeCast S2x768x8x192 w shapeCasts_S2x768x1536_S2x768x8x192) slices_S2x768x8x192_S2x768x8x64_0_0_0_128) shapeCasts_S2x768x8x64_S2x768x512⟩]
    concatenates_S2x768x1024_S2x768x512_S2x768x1536_d2

/-- The weights the kernel is given: the regrouped columns in the narrower format. -/
theorem host0 : (V m c main_v6 : Vec F S2x768x1536 .bf16) = truncf .bf16 (kept (m ((c : Thread nD τ).loc main_arg1))) bitsLt_bf16_f32 := rfl
end

/-- The regrouped columns, read at an index. -/
theorem kept_apply (w : Vec Ideal S2x768x1536 .f32) (b : Fin 2) (k : Fin 768) (l : Fin 1536) :
    kept w (ix3 b k l) = w (ix3 b k (col l)) := by
  have e : ∀ n : Fin 1536, n.val = (col l).val → w (ix3 b k n) = w (ix3 b k (col l)) := fun n h => by rw [Fin.ext h]
  pointwise [kept]
  repeat' split
  all_goals (refine e _ ?_; simp only [col]; split_ifs <;> omega)

variable (m : (ℓ : Loc nD τ sig) → Buf (Elt Ideal) ℓ) (c : Dev nD)

/-- The block of the left factor. -/
theorem read0 (t : Fin cfg0.N) (r : Fin 1024) (k : Fin 768) : iblk m c 0 t (ix2 r k)
    = m ((c : Thread nD τ).loc main_arg0) (ix2 ⟨1024 * (t.val % 8) + r.val, by omega⟩ k) := by
  rw [← V_main_arg0 m c]
  blk_ext [iblk, idx t]

/-- The block of the weights. -/
theorem read1 (t : Fin cfg0.N) (k : Fin 768) (l : Fin 512) : iblk m c 1 t (ix3 0 k l)
    = (V m c main_v6 : Vec Ideal S2x768x1536 .bf16) (ix3 0 k ⟨512 * (t.val / 8) + l.val, by have := lt_N t; omega⟩) := by
  blk_ext [iblk, idx t]

/-- The product of a matrix and the first layer's regrouped weight columns, at a row and a column. -/
def product (x : Vec Ideal S8192x768 .bf16) (w : Vec Ideal S2x768x1536 .f32) : Vec Ideal S8192x1536 .f32 :=
  fun i => ∑ k : Fin 768, (x (ix2 ⟨(i 0).val, (i 0).isLt⟩ k) * w (ix3 0 k (col ⟨(i 1).val, (i 1).isLt⟩)) : EReal)

/-- One block of the product. -/
theorem out_apply (x : Vec Ideal S1024x768 .bf16) (w : Vec Ideal S1x768x512 .bf16) (r : Fin 1024) (l : Fin 512) :
    out0_2 x w (ix2 r l) = ∑ k : Fin 768, (x (ix2 r k) * w (ix3 0 k l) : EReal) := by
  unfold out0_2 r0_2 r0_0 r0_1
  rw [View.canon_unit_zero zero2]
  simp only [View.ld_unit_zero (S := S1024x768) zero2, View.ld_unit_zero (S := S1x768x512) zero3]
  pointwise [k0_pay1]

/-- What a point writes back, at a row and a column of its block. -/
theorem block_val (t : Fin cfg0.N) (r : Fin 1024) (l : Fin 512) : (dats m 0 c).flushed 2 t (ix2 r l)
    = product (m ((c : Thread nD τ).loc main_arg0)) (m ((c : Thread nD τ).loc main_arg1))
        (ix2 ⟨1024 * (t.val % 8) + r.val, by omega⟩ ⟨512 * (t.val / 8) + l.val, by have := lt_N t; omega⟩) := by
  rw [Value.flushed2]
  refine (out_apply (iblk m c 0 t) (iblk m c 1 t) r l).trans (Finset.sum_congr rfl fun k _ => ?_)
  rw [read0, read1, host0]
  exact congrArg (fun z : EReal => (_ * z : EReal)) (kept_apply _ _ _ _)

/-- The kernel's result array after the run. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  refine Eq.trans (b := (dats m 0 c).flushed 2 t (ix2 ⟨(y 0).val, (y 0).isLt⟩ ⟨(y 1).val, (y 1).isLt⟩)) ?_ ((block_val m c t _ _).trans ?_)
  · refine congrArg ((dats m 0 c).flushed 2 t) (funext fun a => ?_)
    match a with
    | ⟨0, _⟩ => rfl
    | ⟨1, _⟩ => rfl
  · refine congrArg (product _ _) (funext fun a => Fin.ext ?_)
    match a with
    | ⟨0, _⟩ => blk_simp [idx t]; show 1024 * (t.val % 8) + (y 0).val = t.val % 8 * 1024 + (y 0).val; omega
    | ⟨1, _⟩ => blk_simp [idx t]; show 512 * (t.val / 8) + (y 1).val = t.val / 8 * 512 + (y 1).val; omega
end Cert.QUpIdeal.Val

namespace Cert.QUpRefIdeal.Val
open Cert.QUpRefIdeal Cert.QUpRefIdeal.Gen Idealize.ShloMosaic Idealize.ShloMosaic.TcCoe Idealize.SL.Sem

section
variable {F : FTy → Type} [FloatOps F] [Named F]

/-- The whole product. -/
def whole (x : Vec F S8192x768 .bf16) (w : Vec F S2x768x1536 .f32) : Vec F S8192x1536 .f32 :=
  Host.dotGeneral (φ₂ := .f32) dot_S8192x768_S768x1536_S8192x1536_1_0_0_1_n_n none (extf .f32 x bitsLt_bf16_f32) (shapeCast S768x1536 (extractStridedSlice S1x768x1536 ![0, 0, 0] w slices_S2x768x1536_S1x768x1536_0_0_0) shapeCasts_S1x768x1536_S768x1536)

/-- The two parts of every head, each part of all the heads side by side. -/
def parts (u : Vec F S8192x1536 .f32) : Vec F S8192x1536 .f32 :=
  concatenate S8192x1536 1 [⟨S8192x1024, shapeCast S8192x1024 (extractStridedSlice S8192x8x128 ![0, 0, 0] (shapeCast S8192x8x192 u shapeCasts_S8192x1536_S8192x8x192) slices_S8192x8x192_S8192x8x128_0_0_0) shapeCasts_S8192x8x128_S8192x1024⟩,
    ⟨S8192x512, shapeCast S8192x512 (extractStridedSlice S8192x8x64 ![0, 0, 128] (shapeCast S8192x8x192 u shapeCasts_S8192x1536_S8192x8x192) slices_S8192x8x192_S8192x8x64_0_0_128) shapeCasts_S8192x8x64_S8192x512⟩]
    concatenates_S8192x1024_S8192x512_S8192x1536_d1
end

/-- The regrouped product, read at an index. -/
theorem parts_apply (u : Vec Ideal S8192x1536 .f32) (r : Fin 8192) (l : Fin 1536) :
    (parts u (ix2 r l) : EReal) = u (ix2 r (Cert.QUpIdeal.Val.col l)) := by
  have e : ∀ n : Fin 1536, n.val = (Cert.QUpIdeal.Val.col l).val → (u (ix2 r n) : EReal) = u (ix2 r (Cert.QUpIdeal.Val.col l)) :=
    fun n h => by rw [Fin.ext h]
  pointwise [parts]
  repeat' split
  all_goals (refine e _ ?_; simp only [Cert.QUpIdeal.Val.col]; split_ifs <;> omega)

/-- The whole product, read at an index. -/
theorem whole_apply (x : Vec Ideal S8192x768 .bf16) (w : Vec Ideal S2x768x1536 .f32) (r : Fin 8192) (l : Fin 1536) :
    whole x w (ix2 r l) = ∑ k : Fin 768, (x (ix2 r k) * w (ix3 0 k l) : EReal) := by
  pointwise [whole]

/-- The reference's product is the same function of the arguments. -/
theorem product_eq (x : Vec Ideal S8192x768 .bf16) (w : Vec Ideal S2x768x1536 .f32) :
    parts (whole x w) = Cert.QUpIdeal.Val.product x w := by
  funext i
  obtain ⟨r, l, rfl⟩ : ∃ (r : Fin 8192) (l : Fin 1536), i = ix2 r l := ⟨i 0, i 1, funext fun a => by
    match a with
    | ⟨0, _⟩ => rfl
    | ⟨1, _⟩ => rfl⟩
  refine (parts_apply _ _ _).trans ((whole_apply _ _ _ _).trans ?_)
  rfl
end Cert.QUpRefIdeal.Val

namespace Cert.Proof
open Idealize.ShloMosaic Idealize.ShloMosaic.TcCoe Idealize.SL.Sem

/-- The query up-projection as written runs, keeps its arguments and leaves every semaphore at zero. -/
theorem qup_frame : quiescent_QUp (hQUp := Cert.QUp.Gen.facts) := fun m ρ _ => Cert.QUp.Gen.frame m ρ

/-- So does it over the extended reals. -/
theorem qup_frame_ideal : quiescent_QUpIdeal (hQUpIdeal := Cert.QUpIdeal.Gen.facts) := fun m ρ _ => Cert.QUpIdeal.Gen.frame m ρ

/-- The reference of the query up-projection runs, keeps its arguments and leaves every semaphore at zero. -/
theorem qup_frame_ref : quiescent_QUpRefIdeal (hQUpRefIdeal := Cert.QUpRefIdeal.Gen.facts) := fun m ρ _ =>
  (θ_run (Cert.QUpRefIdeal.defs (F := Ideal)) _ _).mono
    (fun r h => ⟨fun c => (h c).2, sem_eq_zero_of_no_sems (by decide) r.2⟩) (Cert.QUpRefIdeal.Value.run m ρ)

/-- From arguments that agree, the query up-projection and its reference end with the same array. -/
theorem qup_algebraic : algebraic_QUpIdeal_QUpRefIdeal (hQUpIdeal := Cert.QUpIdeal.Gen.facts)
    (hQUpRefIdeal := Cert.QUpRefIdeal.Gen.facts) := by
  intro m ρ m' ρ' _ hagree
  refine ⟨fun c => Cert.QUpIdeal.Val.product (m ((c.tc : Thread Cert.QUpIdeal.nD Cert.QUpIdeal.τ).loc Cert.QUpIdeal.main_arg0)) (m ((c.tc : Thread Cert.QUpIdeal.nD Cert.QUpIdeal.τ).loc Cert.QUpIdeal.main_arg1)), ?_, ?_⟩
  · exact (θ_run (Cert.QUpIdeal.defs (F := Ideal)) _ _).mono
      (fun _ h c => ⟨(h c).1.trans (Cert.QUpIdeal.Val.final m c), (h c).2⟩) (Cert.QUpIdeal.Value.run_blocks m ρ)
  · refine (θ_run (Cert.QUpRefIdeal.defs (F := Ideal)) _ _).mono (fun _ h c => ⟨(h c).1.trans ?_, (h c).2⟩) (Cert.QUpRefIdeal.Value.run m' ρ')
    obtain ⟨h0, h1, h2⟩ := hagree c
    refine (Cert.QUpRefIdeal.Val.product_eq _ _).trans ?_
    rw [h0, h1]
end Cert.Proof
-- ==== Proof.KvUp.lean ====
/- The product of the compressed keys and values and the up-projection's weights, the keys of all heads before the values: the tiled kernel and the plain product are one array. -/
module
public import proofs.«01_k».proof.Defs
public import proofs.«01_k».proof.Proof.Gen.KvUp.Frame
public import proofs.«01_k».proof.Proof.Gen.KvUpIdeal.Value
public import proofs.«01_k».proof.Proof.Gen.KvUpRefIdeal.Run
public import Idealize.ShloMosaic.Lib.Pipeline.ValueKit
public import Idealize.ShloMosaic.Lib.Pointwise
public import Idealize.ShloMosaic.Adequacy
public import Idealize.ShloMosaic.Init
@[expose] public section
set_option maxRecDepth 16384
noncomputable section
namespace Cert.KvUpIdeal.Val
open Cert.KvUpIdeal Cert.KvUpIdeal.Gen Idealize.ShloMosaic Idealize.ShloMosaic.TcCoe Idealize.SL.Sem

/-- The block each window names at a point: rows vary fastest. -/
theorem idx : ∀ t : Fin cfg0.N, win0_0.index t = ![t.val % 8, 0] ∧ win0_1.index t = ![0, 0, t.val / 8]
    ∧ win0_2.index t = ![t.val % 8, t.val / 8] :=
  (by decide +kernel : ∀ t : Fin grid0.N, _)

/-- There are 16 points. -/
theorem lt_N (t : Fin cfg0.N) : t.val < 16 := t.isLt

/-- An offset of zeros, of two axes. -/
theorem zero2 : (![0, 0] : Fin 2 → ℕ) = fun _ => 0 := by decide

/-- An offset of zeros, of three axes. -/
theorem zero3 : (![0, 0, 0] : Fin 3 → ℕ) = fun _ => 0 := by decide

/-- The column of the weights that is column `l` of the regrouped weights: each head's 256 columns are its 128 key and then
    its 128 value columns; regrouped, the keys of all eight heads come first. -/
def col (l : Fin 2048) : Fin 2048 := ⟨if l.val < 1024 then 256 * (l.val / 128) + l.val % 128 else 256 * ((l.val - 1024) / 128) + 128 + (l.val - 1024) % 128, by split_ifs <;> omega⟩

section
variable {F : FTy → Type} [FloatOps F] (m : (ℓ : Loc nD τ sig) → Buf (Elt F) ℓ) (c : Dev nD)

/-- The weights with their columns regrouped. -/
def kept (w : Vec F S2x256x2048 .f32) : Vec F S2x256x2048 .f32 :=
  concatenate S2x256x2048 2 [⟨S2x256x1024, shapeCast S2x256x1024 (extractStridedSlice S2x256x8x128 ![0, 0, 0, 0] (shapeCast S2x256x8x256 w shapeCasts_S2x256x2048_S2x256x8x256) slices_S2x256x8x256_S2x256x8x128_0_0_0_0) shapeCasts_S2x256x8x128_S2x256x1024⟩,
    ⟨S2x256x1024, shapeCast S2x256x1024 (extractStridedSlice S2x256x8x128 ![0, 0, 0, 128] (shapeCast S2x256x8x256 w shapeCasts_S2x256x2048_S2x256x8x256) slices_S2x256x8x256_S2x256x8x128_0_0_0_128) shapeCasts_S2x256x8x128_S2x256x1024⟩]
    concatenates_S2x256x1024_S2x256x1024_S2x256x2048_d2

/-- The weights the kernel is given: the regrouped columns in the narrower format. -/
theorem host0 : (V m c main_v13 : Vec F S2x256x2048 .bf16) = truncf .bf16 (kept (m ((c : Thread nD τ).loc main_arg2))) bitsLt_bf16_f32 := rfl
end

/-- The regrouped columns, read at an index. -/
theorem kept_apply (w : Vec Ideal S2x256x2048 .f32) (b : Fin 2) (k : Fin 256) (l : Fin 2048) :
    kept w (ix3 b k l) = w (ix3 b k (col l)) := by
  have e : ∀ n : Fin 2048, n.val = (col l).val → w (ix3 b k n) = w (ix3 b k (col l)) := fun n h => by rw [Fin.ext h]
  pointwise [kept]
  repeat' split
  all_goals (refine e _ ?_; simp only [col]; split_ifs <;> omega)

variable (m : (ℓ : Loc nD τ sig) → Buf (Elt Ideal) ℓ) (c : Dev nD)

/-- The block of the left factor. -/
theorem read0 (t : Fin cfg0.N) (r : Fin 1024) (k : Fin 256) : iblk m c 0 t (ix2 r k)
    = m ((c : Thread nD τ).loc main_arg0) (ix2 ⟨1024 * (t.val % 8) + r.val, by omega⟩ k) := by
  rw [← V_main_arg0 m c]
  blk_ext [iblk, idx t]

/-- The block of the weights. -/
theorem read1 (t : Fin cfg0.N) (k : Fin 256) (l : Fin 1024) : iblk m c 1 t (ix3 0 k l)
    = (V m c main_v13 : Vec Ideal S2x256x2048 .bf16) (ix3 0 k ⟨1024 * (t.val / 8) + l.val, by have := lt_N t; omega⟩) := by
  blk_ext [iblk, idx t]

/-- The product of a matrix and the first layer's regrouped weight columns, at a row and a column. -/
def product (x : Vec Ideal S8192x256 .bf16) (w : Vec Ideal S2x256x2048 .f32) : Vec Ideal S8192x2048 .bf16 :=
  fun i => ∑ k : Fin 256, (x (ix2 ⟨(i 0).val, (i 0).isLt⟩ k) * w (ix3 0 k (col ⟨(i 1).val, (i 1).isLt⟩)) : EReal)

/-- One block of the product. -/
theorem out_apply (x : Vec Ideal S1024x256 .bf16) (w : Vec Ideal S1x256x1024 .bf16) (r : Fin 1024) (l : Fin 1024) :
    out0_2 x w (ix2 r l) = ∑ k : Fin 256, (x (ix2 r k) * w (ix3 0 k l) : EReal) := by
  unfold out0_2 r0_2 r0_0 r0_1
  rw [View.canon_unit_zero zero2]
  simp only [View.ld_unit_zero (S := S1024x256) zero2, View.ld_unit_zero (S := S1x256x1024) zero3]
  pointwise [k0_pay1]

/-- What a point writes back, at a row and a column of its block. -/
theorem block_val (t : Fin cfg0.N) (r : Fin 1024) (l : Fin 1024) : (dats m 0 c).flushed 2 t (ix2 r l)
    = product (m ((c : Thread nD τ).loc main_arg0)) (m ((c : Thread nD τ).loc main_arg2))
        (ix2 ⟨1024 * (t.val % 8) + r.val, by omega⟩ ⟨1024 * (t.val / 8) + l.val, by have := lt_N t; omega⟩) := by
  rw [Value.flushed2]
  refine (out_apply (iblk m c 0 t) (iblk m c 1 t) r l).trans (Finset.sum_congr rfl fun k _ => ?_)
  rw [read0, read1, host0]
  exact congrArg (fun z : EReal => (_ * z : EReal)) (kept_apply _ _ _ _)

/-- The kernel's result array after the run. -/
theorem final : (dats m 0 c).arrAt 2 cfg0.N = product (m ((c : Thread nD τ).loc main_arg0)) (m ((c : Thread nD τ).loc main_arg2)) := by
  refine (dats m 0 c).arrAt_eq_of_covers 2 _ (by decide +kernel) fun t hf y => ?_
  refine Eq.trans (b := (dats m 0 c).flushed 2 t (ix2 ⟨(y 0).val, (y 0).isLt⟩ ⟨(y 1).val, (y 1).isLt⟩)) ?_ ((block_val m c t _ _).trans ?_)
  · refine congrArg ((dats m 0 c).flushed 2 t) (funext fun a => ?_)
    match a with
    | ⟨0, _⟩ => rfl
    | ⟨1, _⟩ => rfl
  · refine congrArg (product _ _) (funext fun a => Fin.ext ?_)
    match a with
    | ⟨0, _⟩ => blk_simp [idx t]; show 1024 * (t.val % 8) + (y 0).val = t.val % 8 * 1024 + (y 0).val; omega
    | ⟨1, _⟩ => blk_simp [idx t]; show 1024 * (t.val / 8) + (y 1).val = t.val / 8 * 1024 + (y 1).val; omega
end Cert.KvUpIdeal.Val

namespace Cert.KvUpRefIdeal.Val
open Cert.KvUpRefIdeal Cert.KvUpRefIdeal.Gen Idealize.ShloMosaic Idealize.ShloMosaic.TcCoe Idealize.SL.Sem

section
variable {F : FTy → Type} [FloatOps F] [Named F]

/-- The whole product. -/
def whole (x : Vec F S8192x256 .bf16) (w : Vec F S2x256x2048 .f32) : Vec F S8192x2048 .f32 :=
  Host.dotGeneral (φ₂ := .f32) dot_S8192x256_S256x2048_S8192x2048_1_0_0_1_n_n none (extf .f32 x bitsLt_bf16_f32) (shapeCast S256x2048 (extractStridedSlice S1x256x2048 ![0, 0, 0] w slices_S2x256x2048_S1x256x2048_0_0_0) shapeCasts_S1x256x2048_S256x2048)

/-- The two parts of every head, each part of all the heads side by side. -/
def parts (u : Vec F S8192x2048 .f32) : Vec F S8192x2048 .bf16 :=
  truncf .bf16 (concatenate S8192x2048 1 [⟨S8192x1024, shapeCast S8192x1024 (extractStridedSlice S8192x8x128 ![0, 0, 0] (shapeCast S8192x8x256 u shapeCasts_S8192x2048_S8192x8x256) slices_S8192x8x256_S8192x8x128_0_0_0) shapeCasts_S8192x8x128_S8192x1024⟩,
    ⟨S8192x1024, shapeCast S8192x1024 (extractStridedSlice S8192x8x128 ![0, 0, 128] (shapeCast S8192x8x256 u shapeCasts_S8192x2048_S8192x8x256) slices_S8192x8x256_S8192x8x128_0_0_128) shapeCasts_S8192x8x128_S8192x1024⟩]
    concatenates_S8192x1024_S8192x1024_S8192x2048_d1) bitsLt_bf16_f32
end

/-- The regrouped product, read at an index. -/
theorem parts_apply (u : Vec Ideal S8192x2048 .f32) (r : Fin 8192) (l : Fin 2048) :
    (parts u (ix2 r l) : EReal) = u (ix2 r (Cert.KvUpIdeal.Val.col l)) := by
  have e : ∀ n : Fin 2048, n.val = (Cert.KvUpIdeal.Val.col l).val → (u (ix2 r n) : EReal) = u (ix2 r (Cert.KvUpIdeal.Val.col l)) :=
    fun n h => by rw [Fin.ext h]
  pointwise [parts]
  repeat' split
  all_goals (refine e _ ?_; simp only [Cert.KvUpIdeal.Val.col]; split_ifs <;> omega)

/-- The whole product, read at an index. -/
theorem whole_apply (x : Vec Ideal S8192x256 .bf16) (w : Vec Ideal S2x256x2048 .f32) (r : Fin 8192) (l : Fin 2048) :
    whole x w (ix2 r l) = ∑ k : Fin 256, (x (ix2 r k) * w (ix3 0 k l) : EReal) := by
  pointwise [whole]

/-- The reference's product is the same function of the arguments. -/
theorem product_eq (x : Vec Ideal S8192x256 .bf16) (w : Vec Ideal S2x256x2048 .f32) :
    parts (whole x w) = Cert.KvUpIdeal.Val.product x w := by
  funext i
  obtain ⟨r, l, rfl⟩ : ∃ (r : Fin 8192) (l : Fin 2048), i = ix2 r l := ⟨i 0, i 1, funext fun a => by
    match a with
    | ⟨0, _⟩ => rfl
    | ⟨1, _⟩ => rfl⟩
  refine (parts_apply _ _ _).trans ((whole_apply _ _ _ _).trans ?_)
  rfl
end Cert.KvUpRefIdeal.Val

namespace Cert.Proof
open Idealize.ShloMosaic Idealize.ShloMosaic.TcCoe Idealize.SL.Sem

/-- The key-value up-projection as written runs, keeps its arguments and leaves every semaphore at zero. -/
theorem kvup_frame : quiescent_KvUp (hKvUp := Cert.KvUp.Gen.facts) := fun m ρ _ => Cert.KvUp.Gen.frame m ρ

/-- So does it over the extended reals. -/
theorem kvup_frame_ideal : quiescent_KvUpIdeal (hKvUpIdeal := Cert.KvUpIdeal.Gen.facts) := fun m ρ _ => Cert.KvUpIdeal.Gen.frame m ρ

/-- The reference of the key-value up-projection runs, keeps its arguments and leaves every semaphore at zero. -/
theorem kvup_frame_ref : quiescent_KvUpRefIdeal (hKvUpRefIdeal := Cert.KvUpRefIdeal.Gen.facts) := fun m ρ _ =>
  (θ_run (Cert.KvUpRefIdeal.defs (F := Ideal)) _ _).mono
    (fun r h => ⟨fun c => (h c).2, sem_eq_zero_of_no_sems (by decide) r.2⟩) (Cert.KvUpRefIdeal.Value.run m ρ)

/-- From arguments that agree, the key-value up-projection and its reference end with the same array. -/
theorem kvup_algebraic : algebraic_KvUpIdeal_KvUpRefIdeal (hKvUpIdeal := Cert.KvUpIdeal.Gen.facts)
    (hKvUpRefIdeal := Cert.KvUpRefIdeal.Gen.facts) := by
  intro m ρ m' ρ' _ hagree
  refine ⟨fun c => Cert.KvUpIdeal.Val.product (m ((c.tc : Thread Cert.KvUpIdeal.nD Cert.KvUpIdeal.τ).loc Cert.KvUpIdeal.main_arg0)) (m ((c.tc : Thread Cert.KvUpIdeal.nD Cert.KvUpIdeal.τ).loc Cert.KvUpIdeal.main_arg2)), ?_, ?_⟩
  · exact (θ_run (Cert.KvUpIdeal.defs (F := Ideal)) _ _).mono
      (fun _ h c => ⟨(h c).1.trans (Cert.KvUpIdeal.Val.final m c), (h c).2⟩) (Cert.KvUpIdeal.Value.run_blocks m ρ)
  · refine (θ_run (Cert.KvUpRefIdeal.defs (F := Ideal)) _ _).mono (fun _ h c => ⟨(h c).1.trans ?_, (h c).2⟩) (Cert.KvUpRefIdeal.Value.run m' ρ')
    obtain ⟨h0, h1, h2⟩ := hagree c
    refine (Cert.KvUpRefIdeal.Val.product_eq _ _).trans ?_
    rw [h0, h2]
end Cert.Proof
-- ==== Proof.ExpertsPre.lean ====
/- The precondition of the experts kernel read back, and the arithmetic on its tables of numbers. -/
module
public import proofs.«01_k».proof.Pre_ranges
public import proofs.«01_k».proof.Proof.Gen.Pre_ranges
public import Idealize.ShloMosaic.Lib.Routing.OpsSearch
public import Idealize.ShloMosaic.Lib.Routing.OpsSet
public import Idealize.ShloMosaic.Lib.Pointwise
public import Idealize.ShloMosaic.Lib.WordCmp
public import Idealize.ShloMosaic.Lib.ReduceAll
@[expose] public section
set_option maxRecDepth 16384
noncomputable section
namespace Cert.Pre_ranges.Val
open Cert.Pre_ranges Cert.Pre_ranges.Facts Idealize.ShloMosaic Idealize.ShloMosaic.TcCoe Idealize.ShloMosaic.Routing

/-- A conjunction of two words that is one has both words one. -/
theorem both (a b : BitVec 1) (h : IntOp.andi a b = 1#1) : a = 1#1 ∧ b = 1#1 := by
  revert a b; decide

/-- A word that is, as a signed number, at least `lo` and below `hi` has its number between them. -/
theorem between (x : BitVec 32) {lo hi : ℕ} (hl : lo < 2 ^ 31) (hh : hi < 2 ^ 31)
    (h : IntOp.andi (IntOp.cmpi .sge x (BitVec.ofNat 32 lo)) (IntOp.cmpi .slt x (BitVec.ofNat 32 hi)) = 1#1) : lo ≤ x.toNat ∧ x.toNat < hi := by
  obtain ⟨h1, h2⟩ := both _ _ h
  have e1 : (BitVec.ofNat 32 lo).toInt = lo := StableHlo.Predicate.toInt_ofNat_small lo hl
  have e2 : (BitVec.ofNat 32 hi).toInt = hi := StableHlo.Predicate.toInt_ofNat_small hi hh
  have g1 : (BitVec.ofNat 32 lo).sle x = true := by
    have : BitVec.ofBool ((BitVec.ofNat 32 lo).sle x) = 1#1 := h1
    revert this
    cases (BitVec.ofNat 32 lo).sle x <;> simp
  have g2 : x.slt (BitVec.ofNat 32 hi) = true := by
    have : BitVec.ofBool (x.slt (BitVec.ofNat 32 hi)) = 1#1 := h2
    revert this
    cases x.slt (BitVec.ofNat 32 hi) <;> simp
  have i1 : (lo : ℤ) ≤ x.toInt := by rw [← e1]; exact of_decide_eq_true g1
  have i2 : x.toInt < (hi : ℤ) := by rw [← e2]; exact of_decide_eq_true g2
  have ht := toNat_lt_of_toInt_nonneg x (by omega)
  rw [StableHlo.Predicate.toInt_eq_toNat_of_lt ht] at i1 i2
  omega

/-- The tables of numbers are in range: each tile's expert, the count of tiles, and each row's number. -/
structure Ranges (te : IVec S96 32) (nt : IVec S1 32) (src : IVec S24576 32) : Prop where
  te : ∀ i : Fin 96, (te (ix1 i)).toNat < 32
  pos : 1 ≤ (nt (ix1 0)).toNat
  le : (nt (ix1 0)).toNat < 97
  src : ∀ i : Fin 24576, (src (ix1 i)).toNat < 8192

/-- The precondition says that the tables are in range. -/
theorem decode {F : FTy → Type} [FloatOps F] [Facts] (x0 : IVec S96 32) (x1 : IVec S1 32) (x2 : IVec S24576 32) (x3 : FVec F S8192x4096 .f32)
    (x4 x5 : FVec F S2x4x8x4096x512 .f32) (x6 : FVec F S2x4x8x512x4096 .f32) (h : fn (F := F) x0 x1 x2 x3 x4 x5 x6 = fun _ => 1#1) : Ranges x0 x1 x2 := by
  have h0 := congrFun h ix0
  unfold fn fn_part1 at h0
  dsimp only at h0
  obtain ⟨h1, e2⟩ := both _ _ h0
  obtain ⟨e0, e1⟩ := both _ _ h1
  have b0 : ∀ i : Fin 96, 0 ≤ (x0 (ix1 i)).toNat ∧ (x0 (ix1 i)).toNat < 32 := fun i => between _ (by norm_num) (by norm_num) (Host.reduce_andi_all _ _ _ _ _ e0 (ix1 i))
  have b1 := between _ (lo := 1) (hi := 97) (by norm_num) (by norm_num) (Host.reduce_andi_all _ _ _ _ _ e1 (ix1 (0 : Fin 1)))
  have b2 : ∀ i : Fin 24576, 0 ≤ (x2 (ix1 i)).toNat ∧ (x2 (ix1 i)).toNat < 8192 := fun i => between _ (by norm_num) (by norm_num) (Host.reduce_andi_all _ _ _ _ _ e2 (ix1 i))
  exact ⟨fun i => (b0 i).2, b1.1, b1.2, fun i => (b2 i).2⟩

/-- The word of a word's number is the word. -/
theorem ofNat_toNat (x : BitVec 32) : x = BitVec.ofNat 32 x.toNat := by simp

/-- The lesser of a number and one below a count. -/
theorem last_word {i n : ℕ} (hi : i < 2 ^ 31) (h0 : 1 ≤ n) (hn : n < 2 ^ 31) :
    IntOp.minsi (BitVec.ofNat 32 i) (BitVec.ofNat 32 n - 1#32) = BitVec.ofNat 32 (min i (n - 1)) := by
  have e : BitVec.ofNat 32 n - 1#32 = BitVec.ofNat 32 (n - 1) := ofNat32_sub h0
  unfold IntOp.minsi
  rw [e, slt_ofNat32 hi (by omega)]
  by_cases h : i < n - 1
  · rw [if_pos (by simpa using h), min_eq_left h.le]
  · rw [if_neg (by simpa using h), min_eq_right (by omega)]

/-- A number that is not negative is not wrapped around. -/
theorem wrap_word {a : ℕ} (ha : a < 2 ^ 31) (y : BitVec 32) :
    Scalar.select (IntOp.cmpi .slt (BitVec.ofNat 32 a) (0#32)) y (BitVec.ofNat 32 a) = BitVec.ofNat 32 a := by
  have e : IntOp.cmpi .slt (BitVec.ofNat 32 a) (0#32) = 0#1 := by
    show BitVec.ofBool ((BitVec.ofNat 32 a).slt (BitVec.ofNat 32 0)) = 0#1
    rw [slt_ofNat32 ha (by norm_num)]
    simp
  rw [e]
  rfl
end Cert.Pre_ranges.Val
end
-- ==== Proof.ExpertsIdealRow.lean ====
/- The experts kernel copies rows of the hidden array, named by a table, into one of two slots of its scratch: a row of a slot as a set of indices, what a copy leaves there, and the copy as a step of a proof. -/
module
public import proofs.«01_k».proof.Proof.Gen.ExpertsIdeal.Launch
public import proofs.«01_k».proof.Proof.Gen.ExpertsIdeal.Skeleton
public import Idealize.ShloMosaic.Lib.Pipeline.Frame
public import Idealize.ShloMosaic.Lib.Batch
public import Idealize.ShloMosaic.Lib.ValueLayout
public import Idealize.ShloMosaic.Lib.Pointwise
@[expose] public section
set_option maxRecDepth 16384
noncomputable section
namespace Cert.ExpertsIdeal.Hand
open Cert.ExpertsIdeal Cert.ExpertsIdeal.Gen Idealize.ShloMosaic Idealize.ShloMosaic.TcCoe
open Idealize.SL Idealize.SL.RA Idealize.SL.BI
open scoped Idealize.SL.BI
open Idealize.SL.BI.BIBase Idealize.SL.Sem
open Idealize.ShloMosaic.Transfers

variable {F : FTy → Type} [FloatOps F]

/-- The propositions of the proof. -/
abbrev MM (F : FTy → Type) : Type := MT nD τ sig Unit (Elt F) ℕ (Pipeline.UD sig nD τ) ℕ

/-- Row `r` of slot `s` of the scratch the rows are gathered in. -/
def rowSet (s r : ℕ) : Finset S2x256x4096.Idx := Finset.univ.filter fun y => (y 0).val = s ∧ (y 1).val = r

/-- Slot `s` of that scratch. -/
def slotSet (s : ℕ) : Finset S2x256x4096.Idx := Finset.univ.filter fun y => (y 0).val = s

/-- A slot is its 256 rows. -/
theorem slot_rows (s : ℕ) : slotSet s = (Finset.univ : Finset (Fin 256)).biUnion fun r => rowSet s r.val := by
  ext y
  simp only [slotSet, rowSet, Finset.mem_filter, Finset.mem_univ, true_and, Finset.mem_biUnion]
  exact ⟨fun h => ⟨⟨(y 1).val, (y 1).isLt⟩, h, rfl⟩, fun ⟨_, h, _⟩ => h⟩

/-- Two rows of a slot have no index in common. -/
theorem rows_disjoint (s : ℕ) (r r' : Fin 256) (h : r ≠ r') : Disjoint (rowSet s r.val) (rowSet s r'.val) := by
  rw [Finset.disjoint_left]
  intro y hy hy'
  simp only [rowSet, Finset.mem_filter, Finset.mem_univ, true_and] at hy hy'
  exact h (Fin.ext (hy.2.symm.trans hy'.2))

/-- Everything but slot 0 is slot 1. -/
theorem slot_compl : (Finset.univ : Finset S2x256x4096.Idx) \ slotSet 0 = slotSet 1 := by
  ext y
  have hy := (y 0).isLt
  have h2 : S2x256x4096.size 0 = 2 := rfl
  simp only [slotSet, Finset.mem_sdiff, Finset.mem_filter, Finset.mem_univ, true_and]
  omega

/-- A row of a slot, as the kernel names it. -/
abbrev rowM (o : Fin 3 → ℕ) (ho : ∀ a, o a + S1x256x4096.size a ≤ S2x256x4096.size a) (p : Fin 2 → ℕ) (hp : ∀ a, p a + S1x4096.size a ≤ S256x4096.size a) :
    Memref sig .tc .vmem S1x4096 .f32 :=
  (((Memref.whole cc0_scratch0).slice (Rect.unit (s := S2x256x4096) o S1x256x4096.size ho) (fun _ => rfl)).squeeze S256x4096 squeezes_S1x256x4096_S256x4096).slice
    (Rect.unit (s := S256x4096) p S1x4096.size hp) (fun _ => rfl)

/-- A row of the hidden array, as the kernel names it. -/
abbrev srcM (p : Fin 2 → ℕ) (hp : ∀ a, p a + S1x4096.size a ≤ S8192x4096.size a) : Memref sig .tc .hbm S1x4096 .f32 :=
  (Memref.whole main_arg3).slice (Rect.unit (s := S8192x4096) p S1x4096.size hp) (fun _ => rfl)

/-- Where the elements of a row lie in the scratch. -/
theorem row_emb {o : Fin 3 → ℕ} {ho} {p : Fin 2 → ℕ} {hp} (s : Fin 2) (j : Fin 256) (h : o = ![s.val, 0, 0]) (h' : p = ![j.val, 0])
    (u : Fin 1) (l : Fin 4096) : (rowM o ho p hp).view.emb (ix2 u l) = (ix3 s j l : S2x256x4096.Idx) := by
  subst h h'
  have e1 : (Rect.unit (s := S256x4096) ![j.val, 0] S1x4096.size hp).emb (ix2 u l) = (ix2 j l : S256x4096.Idx) := by
    exact funext fun a => Fin.ext ((Rect.emb_apply _ _ a).trans (by fin_cases a <;> simp [Rect.unit]))
  have e2 : Shape.reshapeEquiv squeezes_S1x256x4096_S256x4096.numel_eq (ix2 j l : S256x4096.Idx) = (ix3 (0 : Fin 1) j l : S1x256x4096.Idx) :=
    ValueIdx.reshapeEquiv_ix2_1ab _ j l
  show (Rect.unit (s := S2x256x4096) ![s.val, 0, 0] S1x256x4096.size ho).emb (Shape.reshapeEquiv squeezes_S1x256x4096_S256x4096.numel_eq
    ((Rect.unit (s := S256x4096) ![j.val, 0] S1x4096.size hp).emb (ix2 u l))) = _
  rw [e1, e2]
  exact funext fun a => Fin.ext ((Rect.emb_apply _ _ a).trans (by fin_cases a <;> simp [Rect.unit]))

/-- Where the elements of a row lie in the hidden array. -/
theorem src_emb {p : Fin 2 → ℕ} {hp} (k : Fin 8192) (h : p = ![k.val, 0]) (u : Fin 1) (l : Fin 4096) :
    (srcM p hp).view.emb (ix2 u l) = (ix2 k l : S8192x4096.Idx) := by
  subst h
  show (Rect.unit (s := S8192x4096) ![k.val, 0] S1x4096.size hp).emb (ix2 u l) = _
  exact funext fun a => Fin.ext ((Rect.emb_apply _ _ a).trans (by fin_cases a <;> simp [Rect.unit]))

/-- A row's elements lie in its set. -/
theorem row_sub {o : Fin 3 → ℕ} {ho} {p : Fin 2 → ℕ} {hp} (s : Fin 2) (j : Fin 256) (h : o = ![s.val, 0, 0]) (h' : p = ![j.val, 0]) :
    (rowM o ho p hp).view.set ⊆ rowSet s.val j.val := by
  intro y hy
  obtain ⟨x, -, rfl⟩ := Finset.mem_map.1 hy
  obtain ⟨u, l, rfl⟩ : ∃ (u : Fin 1) (l : Fin 4096), x = ix2 u l := ⟨x 0, x 1, eq_ix2 x⟩
  rw [row_emb s j h h' u l]
  simp [rowSet]

/-- The rows the table names for tile `t`, in place of a slot. -/
def gath (src : Vec F S24576 .i32) (H : Vec F S8192x4096 .f32) (t : ℕ) : Vec F S2x256x4096 .f32 := fun y =>
  H (ix2 (Fin.ofNat 8192 (src (ix1 (Fin.ofNat 24576 (256 * t + (y 1).val)))).toNat) (⟨(y 2).val, (y 2).isLt⟩ : Fin 4096))

/-- What a copy leaves in a row is what the table says. -/
theorem row_write {o : Fin 3 → ℕ} {ho} {p : Fin 2 → ℕ} {hp} {p' : Fin 2 → ℕ} {hp'} (s : Fin 2) (j : Fin 256) (t : ℕ) (k : Fin 8192)
    (src : Vec F S24576 .i32) (H : Vec F S8192x4096 .f32) (f : Vec F S2x256x4096 .f32)
    (h : o = ![s.val, 0, 0]) (h' : p = ![j.val, 0]) (hk : p' = ![k.val, 0])
    (hv : Fin.ofNat 8192 (src (ix1 (Fin.ofNat 24576 (256 * t + j.val)))).toNat = k) (y : S2x256x4096.Idx) (hy : y ∈ rowSet s.val j.val) :
    ((rowM o ho p hp).view.write (Elt F) f ((srcM p' hp').view.read (Elt F) H) Finset.univ : Vec F S2x256x4096 .f32) y = gath src H t y := by
  obtain ⟨a, b, l, rfl⟩ : ∃ (a : Fin 2) (b : Fin 256) (l : Fin 4096), y = ix3 a b l := ⟨y 0, y 1, y 2, eq_ix3 y⟩
  simp only [rowSet, Finset.mem_filter, Finset.mem_univ, true_and] at hy
  obtain rfl : a = s := Fin.ext hy.1
  obtain rfl : b = j := Fin.ext hy.2
  have e := View.write_emb_of_mem (v := (rowM o ho p hp).view) (Val := Elt F) f ((srcM p' hp').view.read (Elt F) H) (M := Finset.univ) (x := (ix2 (0 : Fin 1) l)) (Finset.mem_univ _)
  rw [row_emb a b h h' 0 l] at e
  refine e.trans ?_
  show H ((srcM p' hp').view.emb (ix2 (0 : Fin 1) l)) = _
  rw [src_emb k hk 0 l]
  show _ = H (ix2 (Fin.ofNat 8192 (src (ix1 (Fin.ofNat 24576 (256 * t + b.val)))).toNat) l)
  rw [hv]

/-- The transfers' counters. -/
abbrev CC (F : FTy → Type) : UEmb Counters (MM F) := countersEmb

/-- The semaphore of slot 0, and of slot 1. -/
abbrev semM (o : Fin 1 → ℕ) (ho : ∀ a, o a + S1.size a ≤ S2.size a) : DmaSem sig :=
  ((cc0_scratch2.slice (Rect.unit (s := S2) o S1.size ho)).squeeze S_ squeezes_S1_S_).sem

/-- Slot `s`'s semaphore. -/
def slotSem (s : ℕ) : DmaSem sig := if s = 0 then (5 : Fin 7) else (6 : Fin 7)

/-- The kernel's name for a slot's semaphore. -/
theorem semM_eq {o : Fin 1 → ℕ} {ho} (s : Fin 2) (h : o = ![s.val]) : semM o ho = slotSem s.val := by
  subst h
  exact (by decide +kernel : ∀ s : Fin 2, semM ![s.val] (by revert s; decide) = slotSem s.val) s

/-- The units one row is worth. -/
def rowUnits : ℕ := (rowM ![0, 0, 0] (by decide) ![0, 0] (by decide)).view.dmaCredit

/-- Every row is worth the same. -/
theorem row_units {o : Fin 3 → ℕ} {ho} {p : Fin 2 → ℕ} {hp} : (rowM o ho p hp).view.dmaCredit = rowUnits := rfl

/-- A row is worth something. -/
theorem rowUnits_pos : 0 < rowUnits := View.dmaCredit_pos _ (by decide)

variable (c : Dev nD)

/-- The gathered-rows scratch on indices `S`, holding `f`. -/
abbrev xAt (S : Finset S2x256x4096.Idx) (f : Vec F S2x256x4096 .f32) : sProp (MM F) := ((c : Thread nD τ).loc cc0_scratch0) ↦[S]{fullShare} f

/-- A share of the hidden array. -/
abbrev hAt (q : PosShare TreeShare) (H : Vec F S8192x4096 .f32) : sProp (MM F) := ((c : Thread nD τ).loc main_arg3) ↦{q} H

/-- What the copy of row `j` of tile `t` into slot `s` delivers: the row as the table says, and its share of the hidden array. -/
def deliv (q : PosShare TreeShare) (src : Vec F S24576 .i32) (H : Vec F S8192x4096 .f32) (s t : ℕ) (j : Fin 256) : sProp (MM F) :=
  iprop(xAt c (rowSet s j.val) (gath src H t) ∗ hAt c (shareTokN q j.val) H)

instance (q : PosShare TreeShare) (src : Vec F S24576 .i32) (H : Vec F S8192x4096 .f32) (s t : ℕ) (j : Fin 256) :
    Storable (upEmb : UEmb _ (MM F)) (deliv c q src H s t j) := by unfold deliv; infer_instance

/-- The 256 copies of tile `t` into slot `s`, `k` of them begun and `u` units waited for. -/
abbrev flight (q : PosShare TreeShare) (src : Vec F S24576 .i32) (H : Vec F S8192x4096 .f32) (s t k u : ℕ) : sProp (MM F) :=
  Batch (CC F) (c : Thread nD τ) (.dma (slotSem s)) () rowUnits (deliv c q src H s t) k u

/-- Beginning one copy of a batch, with something kept aside that its delivery also needs. -/
theorem wp_copy {Λ : Labels} {defs : Defs nD τ sig (Elt F) Λ} (𝒱 : Variants) (bd : Option 𝒱.V) {α : Type} {Q : α → sProp (MM F)}
    {sp sp' : Space} {sh : Shape} {e : EltTy} {src : Memref sig .tc sp sh e} {dst : Memref sig .tc sp' sh e} {sm : DmaSem sig} {hsrc hdst hsem}
    {kk : PUnit → Prog (TpuEff nD τ sig (Elt F) Λ (c : Thread nD τ).2) α} {q : PosShare TreeShare} {fs : Buf (Elt F) (src.view.loc (c : Thread nD τ))}
    {Sd : Finset (Idx (dst.view.loc (c : Thread nD τ)))} {fd : Buf (Elt F) (dst.view.loc (c : Thread nD τ))} {n : ℕ} {D : Fin n → sProp (MM F)} (j : Fin n) (N : ℕ)
    (hN : dst.view.dmaCredit = N) (hSd : dst.view.set ⊆ Sd) (put : sProp (MM F))
    (hD : iprop(put ∗ ((dst.view.loc (c : Thread nD τ) ↦[Sd]{fullShare} (dst.view.write (Elt F) fd (src.view.read (Elt F) fs) Finset.univ))
      ∗ (src.view.loc (c : Thread nD τ) ↦[src.view.set]{q} fs))) ⊢ D j) :
    iprop((src.view.loc (c : Thread nD τ) ↦[src.view.set]{q} fs) ∗ (dst.view.loc (c : Thread nD τ) ↦[Sd]{fullShare} fd) ∗ put
        ∗ Batch (CC F) (c : Thread nD τ) (.dma sm) () N D j.val 0)
      ⊢ iprop((Batch (CC F) (c : Thread nD τ) (.dma sm) () N D (j.val + 1) 0 -∗ wp frame (wpE defs 𝒱 (c : Thread nD τ) bd) Set.univ (kk ⟨⟩) Q)
          -∗ wp frame (wpE defs 𝒱 (c : Thread nD τ) bd) Set.univ (.op (.enqueueDma src (.here dst) (.dma sm) hsrc hdst hsem) kk) Q) := by
  unfold Batch
  iintro ⟨Hs, Hd, Hr, ⟨%γ, %γ₀, %κ, #Hinv, HI, H0, Hcred⟩⟩ Hk
  ihave HI' := (show bigSep (pending j.val) (fun t => count (CC F) (γ t) 0) ⊢ iprop(count (CC F) (γ j) 0 ∗ bigSep (pending (j.val + 1)) (fun t => count (CC F) (γ t) 0))
    from Entails.of_eq (by rw [pending_succ j.isLt, bigSep_insert (not_mem_pending_succ j.isLt)]; rfl)) $$ HI
  icases HI' with ⟨Hg, HI⟩
  iapply (wp_enqueueDma 𝒱 (c : Thread nD τ) bd Set.univ () N (dst := dst) (sem := .dma sm) hN) $$ [Hs Hd] [Hg Hr]
  · isplitl [Hs]; · iexact Hs
    iapply (pointsTo_writeUpdate (c : Thread nD τ) hSd) $$ Hd
  · iapply (batch_creditUpdate_with (CC F) j hD)
    isplitr; · iexact Hinv
    isplitl [Hg]; · iexact Hg
    iexact Hr
  iintro Hcred'
  iapply Hk
  iexists γ, γ₀, κ
  isplitr; · iexact Hinv
  isplitl [HI]; · iexact HI
  isplitl [H0]; · iexact H0
  rw [show (j.val + 1) * N - 0 = (j.val * N - 0) + N by rw [Nat.succ_mul]; omega, ← tallyAt_add]
  icombine Hcred Hcred' as H
  iexact H

/-- Beginning a copy: a row of the slot and the next share of the hidden array go into the flight. -/
theorem wp_row {Λ : Labels} {defs : Defs nD τ sig (Elt F) Λ} (𝒱 : Variants) (bd : Option 𝒱.V) {α : Type} {Q : α → sProp (MM F)}
    {o : Fin 3 → ℕ} {ho} {p : Fin 2 → ℕ} {hp} {p' : Fin 2 → ℕ} {hp'} {sm : DmaSem sig} {hsrc hdst hsem}
    {kk : PUnit → Prog (TpuEff nD τ sig (Elt F) Λ (c : Thread nD τ).2) α}
    (q : PosShare TreeShare) (src : Vec F S24576 .i32) (H : Vec F S8192x4096 .f32) (f : Vec F S2x256x4096 .f32) (s : Fin 2) (t : ℕ) (j : Fin 256) (k : Fin 8192)
    (h : o = ![s.val, 0, 0]) (h' : p = ![j.val, 0]) (hk : p' = ![k.val, 0]) (hm : sm = slotSem s.val)
    (hv : Fin.ofNat 8192 (src (ix1 (Fin.ofNat 24576 (256 * t + j.val)))).toNat = k) :
    iprop(hAt c (shareDrop q j.val) H ∗ xAt c (rowSet s.val j.val) f ∗ flight c q src H s.val t j.val 0)
      ⊢ iprop((iprop(hAt c (shareDrop q (j.val + 1)) H ∗ flight c q src H s.val t (j.val + 1) 0)
            -∗ wp frame (wpE defs 𝒱 (c : Thread nD τ) bd) Set.univ (kk ⟨⟩) Q)
          -∗ wp frame (wpE defs 𝒱 (c : Thread nD τ) bd) Set.univ
              (.op (.enqueueDma (srcM p' hp') (.here (rowM o ho p hp)) (.dma sm) hsrc hdst hsem) kk) Q) := by
  subst hm
  have hw : ((rowM o ho p hp).view.loc (c : Thread nD τ) ↦[rowSet s.val j.val]{fullShare} ((rowM o ho p hp).view.write (Elt F) f ((srcM p' hp').view.read (Elt F) H) Finset.univ) : sProp (MM F))
      = xAt c (rowSet s.val j.val) (gath src H t) := pointsTo_congr (row_write s j t k src H f h h' hk hv)
  have hj : iprop(((srcM p' hp').view.loc (c : Thread nD τ) ↦[(srcM p' hp').view.set]{shareTokN q j.val} H)
      ∗ ((c : Thread nD τ).loc main_arg3 ↦[Finset.univ \ (srcM p' hp').view.set]{shareTokN q j.val} H)) ⊢ hAt c (shareTokN q j.val) H :=
    (pointsTo_split_subset (Finset.subset_univ (srcM p' hp').view.set)).2
  have hj' : hAt c (shareTokN q j.val) H ⊢ iprop(((srcM p' hp').view.loc (c : Thread nD τ) ↦[(srcM p' hp').view.set]{shareTokN q j.val} H)
      ∗ ((c : Thread nD τ).loc main_arg3 ↦[Finset.univ \ (srcM p' hp').view.set]{shareTokN q j.val} H)) :=
    (pointsTo_split_subset (Finset.subset_univ (srcM p' hp').view.set)).1
  have hD : iprop(((c : Thread nD τ).loc main_arg3 ↦[Finset.univ \ (srcM p' hp').view.set]{shareTokN q j.val} H)
      ∗ ((rowM o ho p hp).view.loc (c : Thread nD τ) ↦[rowSet s.val j.val]{fullShare} ((rowM o ho p hp).view.write (Elt F) f ((srcM p' hp').view.read (Elt F) H) Finset.univ))
      ∗ ((srcM p' hp').view.loc (c : Thread nD τ) ↦[(srcM p' hp').view.set]{shareTokN q j.val} H)) ⊢ deliv c q src H s.val t j := by
    unfold deliv
    rw [hw]
    iintro ⟨Hr, Hx, Hs⟩
    isplitl [Hx]; · iexact Hx
    iapply hj
    isplitl [Hs]; · iexact Hs
    iexact Hr
  have key := wp_copy (F := F) c (defs := defs) 𝒱 bd (Q := Q) (src := srcM p' hp') (dst := rowM o ho p hp) (sm := slotSem s.val) (hsrc := hsrc) (hdst := hdst) (hsem := hsem)
    (kk := kk) (fd := f) j rowUnits row_units (row_sub s j h h') _ hD
  iintro ⟨Hh, Hd, HB⟩ Hk
  ihave Hh2 := (show hAt c (shareDrop q j.val) H ⊢ iprop(hAt c (shareDrop q (j.val + 1)) H ∗ hAt c (shareTokN q j.val) H)
    from (pointsTo_share (PosShare.mem_left_op_right _)).1) $$ Hh
  icases Hh2 with ⟨Hh, Ht⟩
  ihave Ht2 := hj' $$ Ht
  icases Ht2 with ⟨Hs, Hr⟩
  iapply key $$ [Hs Hd Hr HB]
  · isplitl [Hs]; · iexact Hs
    isplitl [Hd]; · iexact Hd
    isplitl [Hr]; · iexact Hr
    iexact HB
  iintro HB
  iapply Hk
  isplitl [Hh]; · iexact Hh
  iexact HB
end Cert.ExpertsIdeal.Hand
-- ==== Proof.ExpertsIdealLoop.lean ====
/- The experts kernel's three loops: two that begin the 256 row copies of a tile, one that waits for them. -/
module
public import proofs.«01_k».proof.Proof.ExpertsIdealRow
@[expose] public section
set_option maxRecDepth 16384
noncomputable section
namespace Cert.ExpertsIdeal.Hand
open Cert.ExpertsIdeal Cert.ExpertsIdeal.Gen Idealize.ShloMosaic Idealize.ShloMosaic.TcCoe
open Idealize.SL Idealize.SL.RA Idealize.SL.BI
open scoped Idealize.SL.BI
open Idealize.SL.BI.BIBase Idealize.SL.Sem
open Idealize.ShloMosaic.Transfers

variable {F : FTy → Type} [FloatOps F]

/-- The loops have 256 trips. -/
theorem trips1 : k0_t1_loop.trips = 256 := by decide +kernel
theorem trips2 : k0_t2_loop.trips = 256 := by decide +kernel
theorem trips3 : k0_t3_loop.trips = 256 := by decide +kernel

/-- The table entry read at a trip that begins the next tile's copies. -/
theorem off5_eq : ∀ (i : grid0.Coords) (k0_t2 : Fin k0_t2_loop.trips), k0_off5 i k0_t2 = ![256 * ((i 0).val + 1) + k0_t2.val] := by
  intro i k0_t2
  have r_i0 : (i 0).val < 96 := (i 0).isLt
  have h_arg0 : Affine.IsInt (BitVec.ofNat 32 (i 0).val) (((i 0).val : Int)) := Affine.ofNat _ (by omega)
  have h_one : Affine.IsInt 1#32 (1) := Affine.ofNat _ (by omega)
  have h_next : Affine.IsInt _ (((i 0).val : Int) + 1) := Affine.addi h_arg0 h_one (by omega)
  have h_256 : Affine.IsInt 256#32 (256) := Affine.ofNat _ (by omega)
  have h_base : Affine.IsInt _ (256 * (((i 0).val : Int) + 1)) := Affine.muli h_next h_256 (by omega)
  have h_zero : Affine.IsInt 0#32 (0) := Affine.ofNat _ (by omega)
  have r_k : k0_t2.val < 256 := Nat.lt_of_lt_of_le k0_t2.isLt k0_t2_abs.2.1
  have h_iv : Affine.IsInt _ ((k0_t2.val : Int)) := Affine.iv h_zero h_one k0_t2.val (by omega)
  have h_sum : Affine.IsInt _ (256 * (((i 0).val : Int) + 1) + (k0_t2.val : Int)) := Affine.addi h_base h_iv (by omega)
  have h_ix : Affine.IsInt _ (256 * (((i 0).val : Int) + 1) + (k0_t2.val : Int)) := Affine.indexCast h_sum
  exact Affine.vec_cons h_ix (by omega) <| Affine.vec_nil

/-- The slot and the semaphore of the next tile, and of this one. -/
theorem off6_eq : ∀ i : grid0.Coords, k0_off6 i = ![((i 0).val + 1) % 2] := by decide +kernel
theorem off7_eq : ∀ i : grid0.Coords, k0_off7 i = ![((i 0).val + 1) % 2, 0, 0] := by decide +kernel
theorem off11_eq : ∀ i : grid0.Coords, k0_off11 i = ![(i 0).val % 2] := by decide +kernel
theorem off12_eq : ∀ i : grid0.Coords, k0_off12 i = ![(i 0).val % 2, 0, 0] := by decide +kernel
theorem off15_eq : ∀ i : grid0.Coords, k0_off15 i = ![(i 0).val % 2, 0, 0] := by decide +kernel

variable (c : Dev nD)

/-- The table of row numbers, at some share. -/
abbrev tAt (q : PosShare TreeShare) (src : Vec F S24576 .i32) : sProp (MM F) := ((c : Thread nD τ).loc main_arg2) ↦{q} src

/-- A row number of the table lies within the hidden array. -/
def InRange (src : Vec F S24576 .i32) : Prop := ∀ x, (src x : BitVec 32).toNat < 8192

/-- The table's word at a place. -/
theorem table_read (src : Vec F S24576 .i32) {o : Fin 1 → ℕ} {ho : ∀ a, o a + S1.size a ≤ S24576.size a} (n : ℕ) (h : o = ![n]) (hn : n < 24576) (x) :
    (((Memref.whole main_arg2).access (Rect.unit (s := S24576) o S1.size ho)).read (Elt F) src x : BitVec 32) = src (ix1 (Fin.ofNat 24576 n)) := by
  subst h
  refine congrArg (α := S24576.Idx) src (funext fun a : Fin 1 => Fin.ext ?_)
  have hx : (x a).val = 0 := Nat.lt_one_iff.1 (lt_of_lt_of_eq (x a).isLt (by fin_cases a; rfl))
  refine (Rect.emb_apply (Rect.unit (s := S24576) ![n] S1.size ho) x a).trans ?_
  rw [hx]
  fin_cases a
  show n + 1 * 0 = n % 24576
  omega

section
variable (q qt : PosShare TreeShare) (src : Vec F S24576 .i32) (H : Vec F S8192x4096 .f32)

/-- Before trip `k` of a loop that begins copies of tile `t` into slot `s`: `k` of them begun, the other rows of the slot still held. -/
def issuing (f : Vec F S2x256x4096 .f32) (s t k : ℕ) : sProp (MM F) :=
  iprop(tAt c qt src ∗ hAt c (shareDrop q k) H ∗ bigSep (pending k) (fun j : Fin 256 => xAt c (rowSet s j.val) f) ∗ flight c q src H s t k 0)

/-- A row number of the table names a row of the hidden array. -/
theorem src_inb (v : BitVec 32) (hv : v.toNat < 8192) : ∀ a, (![v.toNat, 0] : Fin 2 → ℕ) a + S1x4096.size a ≤ S8192x4096.size a := by
  intro a
  fin_cases a
  · show v.toNat + 1 ≤ 8192; omega
  · show 0 + 4096 ≤ 4096; omega

omit [FloatOps F] in
/-- A row number of the table, as the row it names. -/
theorem table_row (x) (hv : (src x : BitVec 32).toNat < 8192) : Fin.ofNat 8192 (src x : BitVec 32).toNat = ⟨(src x : BitVec 32).toNat, hv⟩ :=
  Fin.ext (Nat.mod_eq_of_lt hv)

/-- A slot held is its rows held. -/
theorem rows_of_slot (s : ℕ) (f : Vec F S2x256x4096 .f32) :
    (xAt c (slotSet s) f : sProp (MM F)) = bigSep (pending 0) (fun j : Fin 256 => xAt c (rowSet s j.val) f) := by
  rw [slot_rows, ← bigSep_pending_zero]
  exact pointsTo_biUnion _ _ fun t _ t' _ h => rows_disjoint s t t' h

/-- Trip `k` of the first loop. -/
theorem trip1 (hr : InRange src) (f : Vec F S2x256x4096 .f32) (i : grid0.Coords) (arg2 : Memref sig .tc .smem S96 .i32) (harg2 : arg2.IsWhole) (arg3 : Memref sig .tc .smem S1 .i32) (harg3 : arg3.IsWhole)
    (arg6 : Memref sig .tc .vmem S1x4096x512 .f32) (harg6 : arg6.IsWhole) (arg7 : Memref sig .tc .vmem S1x4096x512 .f32) (harg7 : arg7.IsWhole) (arg8 : Memref sig .tc .vmem S1x512x4096 .f32) (harg8 : arg8.IsWhole) (arg9 : Memref sig .tc .vmem S256x4096 .f32) (harg9 : arg9.IsWhole)
    (arg11 : Memref sig .tc .vmem S256x4096 .bf16) (harg11 : arg11.IsWhole)
    (h1 : k0_cond1 i = 1#1) (k : Fin k0_t1_loop.trips) (acc : Unit) :
    issuing c q qt src H f 0 0 k.val ⊢ wp frame (wpE (defs₀ (F := F)) Variants.none (c : Thread nD τ) none) Set.univ
      (k0_t1_body i arg2 harg2 arg3 harg3 (Memref.whole main_arg2) (Memref.isWhole_whole _) (Memref.whole main_arg3) (Memref.isWhole_whole _) arg6 harg6 arg7 harg7 arg8 harg8 arg9 harg9
        (Memref.whole cc0_scratch0) (Memref.isWhole_whole _) arg11 harg11 cc0_scratch2 h1 k acc)
      (fun _ => issuing c q qt src H f 0 0 (k.val + 1)) := by
  have hk : k.val < 256 := trips1 ▸ k.isLt
  skip
  unfold issuing k0_t1_body smemLoad
  iintro ⟨Ht, Hh, Hx, HF⟩
  rw [wp_bind]
  iapply (wp_smemLoadElt Variants.none (c : Thread nD τ) none Set.univ (m := Memref.whole main_arg2) (r := Rect.unit (s := S24576) (k0_off2 k) S1.size (k0_off2_inb i k h1)) (S := Finset.univ) (Finset.subset_univ _)) $$ Ht
  iintro Ht
  rw [wp_ret]
  imodintro
  rw [table_read src (k.val) (k0_off2_eq k) (by omega)]
  rw [wp_bind]
  have hv := hr (ix1 (Fin.ofNat 24576 (k.val)))
  iapply (wp_assume Variants.none (c : Thread nD τ) none Set.univ (show k0_chk1 i _ from fun _ => src_inb _ hv))
  rw [wp_ret]
  imodintro
  rw [wp_bind]
  ihave Hx2 := (Entails.of_eq (bigSep_pending_step (fun j : Fin 256 => xAt c (rowSet (0) j.val) f) k.val hk)) $$ Hx
  icases Hx2 with ⟨Hr, Hx⟩
  iapply (wp_row c Variants.none none q src H f 0 (0) ⟨k.val, hk⟩ ⟨_, hv⟩ rfl (k0_off3_eq k) rfl (semM_eq 0 rfl) (by rw [show 256 * 0 + k.val = k.val by omega]; exact table_row src _ hv)) $$ [Hh Hr HF]
  · isplitl [Hh]; · iexact Hh
    isplitl [Hr]; · iexact Hr
    iexact HF
  iintro ⟨Hh, HF⟩
  rw [wp_ret]
  imodintro
  rw [show (Pure.pure PUnit.unit : Prog (TpuEff nD τ sig (Elt F) Λ₀ .tc) PUnit) = Prog.ret PUnit.unit from rfl, wp_ret]
  imodintro
  isplitl [Ht]; · iexact Ht
  isplitl [Hh]; · iexact Hh
  isplitl [Hx]; · iexact Hx
  iexact HF

/-- The whole of the first loop: a slot and a share of the hidden array go into a flight. -/
theorem loop1 (hr : InRange src) (f : Vec F S2x256x4096 .f32) (i : grid0.Coords) (arg2 : Memref sig .tc .smem S96 .i32) (harg2 : arg2.IsWhole) (arg3 : Memref sig .tc .smem S1 .i32) (harg3 : arg3.IsWhole)
    (arg6 : Memref sig .tc .vmem S1x4096x512 .f32) (harg6 : arg6.IsWhole) (arg7 : Memref sig .tc .vmem S1x4096x512 .f32) (harg7 : arg7.IsWhole) (arg8 : Memref sig .tc .vmem S1x512x4096 .f32) (harg8 : arg8.IsWhole) (arg9 : Memref sig .tc .vmem S256x4096 .f32) (harg9 : arg9.IsWhole)
    (arg11 : Memref sig .tc .vmem S256x4096 .bf16) (harg11 : arg11.IsWhole)
    (h1 : k0_cond1 i = 1#1) :
    iprop(tAt c qt src ∗ hAt c q H ∗ xAt c (slotSet (0)) f ∗ semVal ((c : Thread nD τ), .dma (slotSem (0))) 0) ⊢ wp frame (wpE (defs₀ (F := F)) Variants.none (c : Thread nD τ) none) Set.univ
      (Scf.Loop.for k0_t1_loop (k0_t1_ok i h1) ⟨⟩ (k0_t1_body i arg2 harg2 arg3 harg3 (Memref.whole main_arg2) (Memref.isWhole_whole _) (Memref.whole main_arg3) (Memref.isWhole_whole _) arg6 harg6 arg7 harg7 arg8 harg8 arg9 harg9
        (Memref.whole cc0_scratch0) (Memref.isWhole_whole _) arg11 harg11 cc0_scratch2 h1))
      (fun _ => iprop(tAt c qt src ∗ hAt c (shareDrop q 256) H ∗ flight c q src H (0) (0) 256 0)) := by
  iintro ⟨Ht, Hh, Hx, Hs⟩
  imod (batch_alloc' (CC F) (c : Thread nD τ) () rowUnits (deliv c q src H (0) (0)) (E := Set.univ)) $$ Hs with HF
  ihave Hx2 := (Entails.of_eq (rows_of_slot c (0) f)) $$ Hx
  unfold Scf.Loop.for
  iapply (Scf.wp_for _ _ _ _ _ _ _ _ _ (fun k _ => issuing c q qt src H f (0) (0) k) (fun k acc => trip1 c q qt src H hr f i arg2 harg2 arg3 harg3 arg6 harg6 arg7 harg7 arg8 harg8 arg9 harg9 arg11 harg11 h1 k acc))
  isplitl [Ht Hh Hx2 HF]
  · unfold issuing
    isplitl [Ht]; · iexact Ht
    isplitl [Hh]; · iexact Hh
    isplitl [Hx2]; · iexact Hx2
    iexact HF
  iintro %acc HI
  rw [show Scf.trips k0_t1_loop.lb k0_t1_loop.ub k0_t1_loop.st = 256 from trips1]
  unfold issuing
  icases HI with ⟨Ht, Hh, Hx, HF⟩
  isplitl [Ht]; · iexact Ht
  isplitl [Hh]; · iexact Hh
  iexact HF

/-- Trip `k` of the second loop. -/
theorem trip2 (hr : InRange src) (f : Vec F S2x256x4096 .f32) (i : grid0.Coords) (arg2 : Memref sig .tc .smem S96 .i32) (harg2 : arg2.IsWhole) (arg3 : Memref sig .tc .smem S1 .i32) (harg3 : arg3.IsWhole)
    (arg6 : Memref sig .tc .vmem S1x4096x512 .f32) (harg6 : arg6.IsWhole) (arg7 : Memref sig .tc .vmem S1x4096x512 .f32) (harg7 : arg7.IsWhole) (arg8 : Memref sig .tc .vmem S1x512x4096 .f32) (harg8 : arg8.IsWhole) (arg9 : Memref sig .tc .vmem S256x4096 .f32) (harg9 : arg9.IsWhole)
    (arg11 : Memref sig .tc .vmem S256x4096 .bf16) (harg11 : arg11.IsWhole)
    (v0 : Elt F .i32) (hw : k0_chk2 i v0) (h2 : k0_cond2 i v0 = 1#1) (hi : (i 0).val + 1 < 96) (k : Fin k0_t2_loop.trips) (acc : Unit) :
    issuing c q qt src H f (((i 0).val + 1) % 2) ((i 0).val + 1) k.val ⊢ wp frame (wpE (defs₀ (F := F)) Variants.none (c : Thread nD τ) none) Set.univ
      (k0_t2_body i arg2 harg2 arg3 harg3 (Memref.whole main_arg2) (Memref.isWhole_whole _) (Memref.whole main_arg3) (Memref.isWhole_whole _) arg6 harg6 arg7 harg7 arg8 harg8 arg9 harg9
        (Memref.whole cc0_scratch0) (Memref.isWhole_whole _) arg11 harg11 cc0_scratch2 v0 hw h2 k acc)
      (fun _ => issuing c q qt src H f (((i 0).val + 1) % 2) ((i 0).val + 1) (k.val + 1)) := by
  have hk : k.val < 256 := trips2 ▸ k.isLt
  skip
  unfold issuing k0_t2_body smemLoad
  iintro ⟨Ht, Hh, Hx, HF⟩
  rw [wp_bind]
  iapply (wp_smemLoadElt Variants.none (c : Thread nD τ) none Set.univ (m := Memref.whole main_arg2) (r := Rect.unit (s := S24576) (k0_off5 i k) S1.size (k0_off5_inb i v0 hw k h2)) (S := Finset.univ) (Finset.subset_univ _)) $$ Ht
  iintro Ht
  rw [wp_ret]
  imodintro
  rw [table_read src (256 * ((i 0).val + 1) + k.val) (off5_eq i k) (by omega)]
  rw [wp_bind]
  have hv := hr (ix1 (Fin.ofNat 24576 (256 * ((i 0).val + 1) + k.val)))
  iapply (wp_assume Variants.none (c : Thread nD τ) none Set.univ (show k0_chk3 i v0 _ from fun _ => src_inb _ hv))
  rw [wp_ret]
  imodintro
  rw [wp_bind]
  ihave Hx2 := (Entails.of_eq (bigSep_pending_step (fun j : Fin 256 => xAt c (rowSet ((((i 0).val + 1) % 2)) j.val) f) k.val hk)) $$ Hx
  icases Hx2 with ⟨Hr, Hx⟩
  iapply (wp_row c Variants.none none q src H f ⟨((i 0).val + 1) % 2, Nat.mod_lt _ (by omega)⟩ (((i 0).val + 1)) ⟨k.val, hk⟩ ⟨_, hv⟩ (off7_eq i) (k0_off8_eq k) rfl (semM_eq ⟨((i 0).val + 1) % 2, Nat.mod_lt _ (by omega)⟩ (off6_eq i)) (table_row src _ hv)) $$ [Hh Hr HF]
  · isplitl [Hh]; · iexact Hh
    isplitl [Hr]; · iexact Hr
    iexact HF
  iintro ⟨Hh, HF⟩
  rw [wp_ret]
  imodintro
  rw [show (Pure.pure PUnit.unit : Prog (TpuEff nD τ sig (Elt F) Λ₀ .tc) PUnit) = Prog.ret PUnit.unit from rfl, wp_ret]
  imodintro
  isplitl [Ht]; · iexact Ht
  isplitl [Hh]; · iexact Hh
  isplitl [Hx]; · iexact Hx
  iexact HF

/-- The whole of the second loop: a slot and a share of the hidden array go into a flight. -/
theorem loop2 (hr : InRange src) (f : Vec F S2x256x4096 .f32) (i : grid0.Coords) (arg2 : Memref sig .tc .smem S96 .i32) (harg2 : arg2.IsWhole) (arg3 : Memref sig .tc .smem S1 .i32) (harg3 : arg3.IsWhole)
    (arg6 : Memref sig .tc .vmem S1x4096x512 .f32) (harg6 : arg6.IsWhole) (arg7 : Memref sig .tc .vmem S1x4096x512 .f32) (harg7 : arg7.IsWhole) (arg8 : Memref sig .tc .vmem S1x512x4096 .f32) (harg8 : arg8.IsWhole) (arg9 : Memref sig .tc .vmem S256x4096 .f32) (harg9 : arg9.IsWhole)
    (arg11 : Memref sig .tc .vmem S256x4096 .bf16) (harg11 : arg11.IsWhole)
    (v0 : Elt F .i32) (hw : k0_chk2 i v0) (h2 : k0_cond2 i v0 = 1#1) (hi : (i 0).val + 1 < 96) :
    iprop(tAt c qt src ∗ hAt c q H ∗ xAt c (slotSet ((((i 0).val + 1) % 2))) f ∗ semVal ((c : Thread nD τ), .dma (slotSem ((((i 0).val + 1) % 2)))) 0) ⊢ wp frame (wpE (defs₀ (F := F)) Variants.none (c : Thread nD τ) none) Set.univ
      (Scf.Loop.for k0_t2_loop k0_t2_ok ⟨⟩ (k0_t2_body i arg2 harg2 arg3 harg3 (Memref.whole main_arg2) (Memref.isWhole_whole _) (Memref.whole main_arg3) (Memref.isWhole_whole _) arg6 harg6 arg7 harg7 arg8 harg8 arg9 harg9
        (Memref.whole cc0_scratch0) (Memref.isWhole_whole _) arg11 harg11 cc0_scratch2 v0 hw h2))
      (fun _ => iprop(tAt c qt src ∗ hAt c (shareDrop q 256) H ∗ flight c q src H ((((i 0).val + 1) % 2)) (((i 0).val + 1)) 256 0)) := by
  iintro ⟨Ht, Hh, Hx, Hs⟩
  imod (batch_alloc' (CC F) (c : Thread nD τ) () rowUnits (deliv c q src H ((((i 0).val + 1) % 2)) (((i 0).val + 1))) (E := Set.univ)) $$ Hs with HF
  ihave Hx2 := (Entails.of_eq (rows_of_slot c ((((i 0).val + 1) % 2)) f)) $$ Hx
  unfold Scf.Loop.for
  iapply (Scf.wp_for _ _ _ _ _ _ _ _ _ (fun k _ => issuing c q qt src H f ((((i 0).val + 1) % 2)) (((i 0).val + 1)) k) (fun k acc => trip2 c q qt src H hr f i arg2 harg2 arg3 harg3 arg6 harg6 arg7 harg7 arg8 harg8 arg9 harg9 arg11 harg11 v0 hw h2 hi k acc))
  isplitl [Ht Hh Hx2 HF]
  · unfold issuing
    isplitl [Ht]; · iexact Ht
    isplitl [Hh]; · iexact Hh
    isplitl [Hx2]; · iexact Hx2
    iexact HF
  iintro %acc HI
  rw [show Scf.trips k0_t2_loop.lb k0_t2_loop.ub k0_t2_loop.st = 256 from trips2]
  unfold issuing
  icases HI with ⟨Ht, Hh, Hx, HF⟩
  isplitl [Ht]; · iexact Ht
  isplitl [Hh]; · iexact Hh
  iexact HF

/-- Before trip `k` of the loop that waits for the copies of tile `t` in slot `s`. -/
def waiting (s t k : ℕ) : sProp (MM F) :=
  iprop(tAt c qt src ∗ flight c q src H s t 256 (k * rowUnits) ∗ ∃ W, owes (c : Thread nD τ) 0 W)

/-- Trip `k` of the third loop. -/
theorem trip3 (hr : InRange src) (i : grid0.Coords) (arg2 : Memref sig .tc .smem S96 .i32) (harg2 : arg2.IsWhole) (arg3 : Memref sig .tc .smem S1 .i32) (harg3 : arg3.IsWhole)
    (arg6 : Memref sig .tc .vmem S1x4096x512 .f32) (harg6 : arg6.IsWhole) (arg7 : Memref sig .tc .vmem S1x4096x512 .f32) (harg7 : arg7.IsWhole) (arg8 : Memref sig .tc .vmem S1x512x4096 .f32) (harg8 : arg8.IsWhole) (arg9 : Memref sig .tc .vmem S256x4096 .f32) (harg9 : arg9.IsWhole)
    (arg11 : Memref sig .tc .vmem S256x4096 .bf16) (harg11 : arg11.IsWhole)
    (v0 : Elt F .i32) (h3 : k0_cond3 i v0 = 1#1) (h4 : k0_cond4 i = 1#1) (k : Fin k0_t3_loop.trips) (acc : Unit) :
    waiting c q qt src H ((i 0).val % 2) (i 0).val k.val ⊢ wp frame (wpE (defs₀ (F := F)) Variants.none (c : Thread nD τ) none) Set.univ
      (k0_t3_body i arg2 harg2 arg3 harg3 (Memref.whole main_arg2) (Memref.isWhole_whole _) (Memref.whole main_arg3) (Memref.isWhole_whole _) arg6 harg6 arg7 harg7 arg8 harg8 arg9 harg9
        (Memref.whole cc0_scratch0) (Memref.isWhole_whole _) arg11 harg11 cc0_scratch2 v0 h3 h4 k acc)
      (fun _ => waiting c q qt src H ((i 0).val % 2) (i 0).val (k.val + 1)) := by
  have hk : k.val < 256 := trips3 ▸ k.isLt
  have hi : (i 0).val < 96 := (i 0).isLt
  unfold waiting k0_t3_body smemLoad
  iintro ⟨Ht, HF, ⟨%W, Ho⟩⟩
  rw [wp_bind]
  iapply (wp_smemLoadElt Variants.none (c : Thread nD τ) none Set.univ (m := Memref.whole main_arg2) (r := Rect.unit (s := S24576) (k0_off10 i k) S1.size (k0_off10_inb i k h4)) (S := Finset.univ) (Finset.subset_univ _)) $$ Ht
  iintro Ht
  rw [wp_ret]
  imodintro
  rw [table_read src (256 * (i 0).val + k.val) (k0_off10_eq i k) (by omega)]
  rw [wp_bind]
  have hv := hr (ix1 (Fin.ofNat 24576 (256 * (i 0).val + k.val)))
  iapply (wp_assume Variants.none (c : Thread nD τ) none Set.univ (show k0_chk4 i v0 _ from fun _ _ => src_inb _ hv))
  rw [wp_ret]
  imodintro
  rw [wp_bind]
  have hm := semM_eq (ho := k0_off11_inb i h4) ⟨(i 0).val % 2, Nat.mod_lt _ (by omega)⟩ (off11_eq i)
  have key := fun (kk : PUnit → Prog (TpuEff nD τ sig (Elt F) Λ₀ (c : Thread nD τ).2) PUnit) (Q : PUnit → sProp (MM F)) => wp_waitBatchMul (defs := defs₀ (F := F)) (CC F) Variants.none (c : Thread nD τ) none (k := kk) (Q := Q) () (N := rowUnits) 1
    (sem := semM (k0_off11 i) (k0_off11_inb i h4)) (srcw := srcM (k0_off14 (src (ix1 (Fin.ofNat 24576 (256 * (i 0).val + k.val))))) (src_inb _ hv))
    (dstw := rowM (k0_off12 i) (k0_off12_inb i h4) (k0_off13 k) (k0_off13_inb i k h4)) (hsrc := View.wordExact_bits rfl) (hdst := View.wordExact_bits rfl)
    (row_units.trans (Nat.one_mul _).symm) (D := deliv c q src H ((i 0).val % 2) (i 0).val) (j := 256) (u := k.val * rowUnits) (by
      rw [← Nat.add_mul, Nat.mul_comm]; exact Nat.mul_le_mul_left _ (by omega)) (W := W)
  iapply (key _ _) $$ [HF Ho]
  · isplitl [HF]
    · rw [hm]; iexact HF
    iexact Ho
  iintro ⟨HF, Ho⟩
  rw [wp_ret]
  imodintro
  rw [show (Pure.pure PUnit.unit : Prog (TpuEff nD τ sig (Elt F) Λ₀ .tc) PUnit) = Prog.ret PUnit.unit from rfl, wp_ret]
  imodintro
  isplitl [Ht]; · iexact Ht
  isplitl [HF]
  · rw [hm, ← Nat.add_mul]; iexact HF
  iexists _; iexact Ho

/-- The whole of the third loop: the flight comes home as the slot, its rows those the table names, and the share of the hidden array. -/
theorem loop3 (hr : InRange src) (i : grid0.Coords) (arg2 : Memref sig .tc .smem S96 .i32) (harg2 : arg2.IsWhole) (arg3 : Memref sig .tc .smem S1 .i32) (harg3 : arg3.IsWhole)
    (arg6 : Memref sig .tc .vmem S1x4096x512 .f32) (harg6 : arg6.IsWhole) (arg7 : Memref sig .tc .vmem S1x4096x512 .f32) (harg7 : arg7.IsWhole) (arg8 : Memref sig .tc .vmem S1x512x4096 .f32) (harg8 : arg8.IsWhole) (arg9 : Memref sig .tc .vmem S256x4096 .f32) (harg9 : arg9.IsWhole)
    (arg11 : Memref sig .tc .vmem S256x4096 .bf16) (harg11 : arg11.IsWhole)
    (v0 : Elt F .i32) (h3 : k0_cond3 i v0 = 1#1) (h4 : k0_cond4 i = 1#1) :
    iprop(tAt c qt src ∗ hAt c (shareDrop q 256) H ∗ flight c q src H ((i 0).val % 2) (i 0).val 256 0 ∗ ∃ W, owes (c : Thread nD τ) 0 W) ⊢ wp frame (wpE (defs₀ (F := F)) Variants.none (c : Thread nD τ) none) Set.univ
      (Scf.Loop.for k0_t3_loop (k0_t3_ok i h4) ⟨⟩ (k0_t3_body i arg2 harg2 arg3 harg3 (Memref.whole main_arg2) (Memref.isWhole_whole _) (Memref.whole main_arg3) (Memref.isWhole_whole _) arg6 harg6 arg7 harg7 arg8 harg8 arg9 harg9
        (Memref.whole cc0_scratch0) (Memref.isWhole_whole _) arg11 harg11 cc0_scratch2 v0 h3 h4))
      (fun _ => iprop(tAt c qt src ∗ hAt c q H ∗ xAt c (slotSet ((i 0).val % 2)) (gath src H (i 0).val) ∗ semVal ((c : Thread nD τ), .dma (slotSem ((i 0).val % 2))) 0 ∗ ∃ W, owes (c : Thread nD τ) 0 W)) := by
  iintro ⟨Ht, Hh, HF, Ho⟩
  iapply (wp_fupd _ _)
  unfold Scf.Loop.for
  iapply (Scf.wp_for _ _ _ _ _ _ _ _ _ (fun k _ => waiting c q qt src H ((i 0).val % 2) (i 0).val k) (fun k acc => trip3 c q qt src H hr i arg2 harg2 arg3 harg3 arg6 harg6 arg7 harg7 arg8 harg8 arg9 harg9 arg11 harg11 v0 h3 h4 k acc))
  isplitl [Ht HF Ho]
  · unfold waiting
    isplitl [Ht]; · iexact Ht
    isplitl [HF]; · rw [Nat.zero_mul]; iexact HF
    iexact Ho
  iintro %acc HI
  rw [show Scf.trips k0_t3_loop.lb k0_t3_loop.ub k0_t3_loop.st = 256 from trips3]
  unfold waiting
  icases HI with ⟨Ht, HF, Ho⟩
  rw [Nat.mul_comm 256 rowUnits]
  imod (batch_collect' (CC F) (c : Thread nD τ) rowUnits_pos) $$ HF with ⟨HD, Hs⟩
  unfold deliv
  ihave HD2 := (Entails.of_eq (bigSep_sep' Finset.univ (fun j : Fin 256 => xAt c (rowSet ((i 0).val % 2) j.val) (gath src H (i 0).val)) (fun j : Fin 256 => hAt c (shareTokN q j.val) H))) $$ HD
  icases HD2 with ⟨Hx, Hq⟩
  imodintro
  isplitl [Ht]; · iexact Ht
  isplitl [Hh Hq]
  · iapply (pointsTo_toks_join q 256)
    isplitl [Hh]; · iexact Hh
    iexact Hq
  isplitl [Hx]
  · rw [rows_of_slot, ← bigSep_pending_zero]; iexact Hx
  isplitl [Hs]; · iexact Hs
  iexact Ho
end
end Cert.ExpertsIdeal.Hand
-- ==== Proof.ExpertsIdealCond.lean ====
/- When each branch of the experts kernel runs, in terms of the point and the count of tiles. -/
module
public import proofs.«01_k».proof.Proof.ExpertsIdealLoop
@[expose] public section
set_option maxRecDepth 16384
noncomputable section
namespace Cert.ExpertsIdeal.Hand
open Cert.ExpertsIdeal Cert.ExpertsIdeal.Gen Idealize.ShloMosaic Idealize.ShloMosaic.TcCoe
open Idealize.SL Idealize.SL.RA Idealize.SL.BI
open scoped Idealize.SL.BI
open Idealize.SL.BI.BIBase Idealize.SL.Sem
open Idealize.ShloMosaic.Transfers

variable {F : FTy → Type} [FloatOps F]

/-- The first copies are sent for at the first point alone. -/
theorem cond1_iff : ∀ i : grid0.Coords, k0_cond1 i = 1#1 ↔ (i 0).val = 0 := by decide +kernel
theorem cond4_true : ∀ i : grid0.Coords, k0_cond4 i = 1#1 := by decide +kernel
theorem cond5_true : ∀ i : grid0.Coords, k0_cond5 i = 1#1 := by decide +kernel
theorem cond6_false : ∀ i : grid0.Coords, ¬ k0_cond6 i = 1#1 := by decide +kernel
theorem cond2_ofNat : ∀ (i : grid0.Coords) (n : Fin 97), k0_cond2 i (BitVec.ofNat 32 n.val) = 1#1 ↔ (i 0).val + 1 < n.val := by decide +kernel
theorem cond3_ofNat : ∀ (i : grid0.Coords) (n : Fin 97), k0_cond3 i (BitVec.ofNat 32 n.val) = 1#1 ↔ (i 0).val < n.val := by decide +kernel
theorem cond7_ofNat : ∀ (i : grid0.Coords) (n : Fin 97), k0_cond7 i (BitVec.ofNat 32 n.val) = 1#1 ↔ n.val ≤ (i 0).val := by decide +kernel

section
variable (v0 : BitVec 32) (hv : v0.toNat ≤ 96)
include hv
theorem word_ofNat : v0 = BitVec.ofNat 32 (⟨v0.toNat, by omega⟩ : Fin 97).val := BitVec.eq_of_toNat_eq (by
  rw [BitVec.toNat_ofNat]; exact (Nat.mod_eq_of_lt v0.isLt).symm)
/-- The next tile's rows are sent for when there is a next tile. -/
theorem cond2_iff (i : grid0.Coords) : k0_cond2 i v0 = 1#1 ↔ (i 0).val + 1 < v0.toNat := by
  have h := cond2_ofNat i ⟨v0.toNat, by omega⟩
  rwa [← word_ofNat v0 hv] at h
/-- A point below the count of tiles works on one, -/
theorem cond3_iff (i : grid0.Coords) : k0_cond3 i v0 = 1#1 ↔ (i 0).val < v0.toNat := by
  have h := cond3_ofNat i ⟨v0.toNat, by omega⟩
  rwa [← word_ofNat v0 hv] at h
/-- and any other stores zeros. -/
theorem cond7_iff (i : grid0.Coords) : k0_cond7 i v0 = 1#1 ↔ v0.toNat ≤ (i 0).val := by
  have h := cond7_ofNat i ⟨v0.toNat, by omega⟩
  rwa [← word_ofNat v0 hv] at h
theorem chk2_holds (i : grid0.Coords) : k0_chk2 i v0 := by
  intro k h a
  have hi := (cond2_iff v0 hv i).1 h
  have hk : k.val < 256 := trips2 ▸ k.isLt
  rw [off5_eq]
  fin_cases a
  show 256 * ((i 0).val + 1) + k.val + 1 ≤ 24576
  omega
end

end Cert.ExpertsIdeal.Hand
end
-- ==== Proof.ExpertsIdealBody.lean ====
/- What the experts kernel does at a point of its grid: it sends for the rows of the next tile, waits for those of its own, and stores the block of the result they make. -/
module
public import proofs.«01_k».proof.Proof.ExpertsIdealCond
public import Idealize.ShloMosaic.Lib.VecWindow
public import Idealize.ShloMosaic.Lib.Writes
@[expose] public section
set_option maxRecDepth 16384
noncomputable section
namespace Cert.ExpertsIdeal.Hand
open Cert.ExpertsIdeal Cert.ExpertsIdeal.Gen Idealize.ShloMosaic Idealize.ShloMosaic.TcCoe
open Idealize.SL Idealize.SL.RA Idealize.SL.BI
open scoped Idealize.SL.BI
open Idealize.SL.BI.BIBase Idealize.SL.Sem
open Idealize.ShloMosaic.Transfers

variable {F : FTy → Type} [FloatOps F]

variable (c : Dev nD)

/-- The kernel's load of a slot reads the slot alone. -/
theorem slot_read_sub (i : grid0.Coords) {ho} : ((Memref.whole cc0_scratch0).access (Rect.unit (s := S2x256x4096) (k0_off15 i) S1x256x4096.size ho)).set ⊆ slotSet ((i 0).val % 2) := by
  intro y hy
  obtain ⟨x, -, rfl⟩ := Finset.mem_map.1 hy
  simp only [slotSet, Finset.mem_filter, Finset.mem_univ, true_and]
  have hx : (x 0).val = 0 := Nat.lt_one_iff.1 (lt_of_lt_of_eq (x 0).isLt (by rfl))
  refine (Rect.emb_apply (Rect.unit (s := S2x256x4096) (k0_off15 i) S1x256x4096.size ho) x 0).trans ?_
  rw [hx]
  show k0_off15 i 0 + 1 * 0 = _
  rw [off15_eq]
  rfl

section rules
variable {Q : PUnit → sProp (MM F)}

/-- The weakest precondition of a program of the kernel. -/
abbrev wpk {α : Type} (p : Prog (TpuEff nD τ sig (Elt F) Λ₀ .tc) α) (Q : α → sProp (MM F)) : sProp (MM F) :=
  wp frame (wpE (defs₀ (F := F)) Variants.none (c : Thread nD τ) none) Set.univ p Q

/-- A branch that runs a piece of program or nothing, and then what follows either way. -/
theorem branch_seq {P : Prop} [Decidable P] {A : P → Prog (TpuEff nD τ sig (Elt F) Λ₀ .tc) PUnit} {B : Prog (TpuEff nD τ sig (Elt F) Λ₀ .tc) PUnit} (R M : sProp (MM F))
    (hA : ∀ h, R ⊢ wpk c (A h) (fun _ => M)) (hN : ¬ P → R ⊢ M) :
    iprop(R ∗ (M -∗ wpk c B Q)) ⊢ wpk c (if h : P then (A h >>= fun _ => B) else B) Q := by
  by_cases h : P
  · rw [dif_pos h]
    unfold wpk
    rw [wp_bind]
    iintro ⟨HR, HB⟩
    iapply (wp_wand_r _ _ _ (Q := fun _ => M))
    isplitl [HR]; · iapply (hA h); iexact HR
    iintro %a HM
    iapply HB
    iexact HM
  · rw [dif_neg h]
    iintro ⟨HR, HB⟩
    iapply HB
    iapply (hN h)
    iexact HR

/-- A branch taken, -/
theorem branch_pos {P : Prop} [Decidable P] {A : P → Prog (TpuEff nD τ sig (Elt F) Λ₀ .tc) PUnit} {B : ¬ P → Prog (TpuEff nD τ sig (Elt F) Λ₀ .tc) PUnit} (h : P) :
    wpk c (A h) Q ⊢ wpk c (if h : P then A h else B h) Q := by rw [dif_pos h]

/-- and one not taken. -/
theorem branch_neg {P : Prop} [Decidable P] {A : P → Prog (TpuEff nD τ sig (Elt F) Λ₀ .tc) PUnit} {B : ¬ P → Prog (TpuEff nD τ sig (Elt F) Λ₀ .tc) PUnit} (h : ¬ P) :
    wpk c (B h) Q ⊢ wpk c (if h : P then A h else B h) Q := by rw [dif_neg h]

/-- A piece of program, and then another. -/
theorem seq_step {α : Type} {A : Prog (TpuEff nD τ sig (Elt F) Λ₀ .tc) α} {B : α → Prog (TpuEff nD τ sig (Elt F) Λ₀ .tc) PUnit} :
    wpk c A (fun a => wpk c (B a) Q) ⊢ wpk c (A >>= B) Q := by unfold wpk; rw [wp_bind]

/-- What a program leaves may be weakened. -/
theorem wand_step {α : Type} {A : Prog (TpuEff nD τ sig (Elt F) Λ₀ .tc) α} {R R' : α → sProp (MM F)} :
    iprop(wpk c A R ∗ (∀ a, R a -∗ R' a)) ⊢ wpk c A R' := wp_wand_r _ _ _

/-- A load of a whole block. -/
theorem load_step {sp : CoreSpace} {s : Shape} {e : EltTy} {m : Memref sig .tc sp s e} {q : PosShare TreeShare} {x : s.Idx → Elt F e} {off : Fin s.rank → ℕ} {inb : ∀ a, off a + s.size a ≤ s.size a}
    {hl : m.view.LoadsAt (Rect.unit off s.size inb).toLoadRect} {B : (s.Idx → Elt F e) → Prog (TpuEff nD τ sig (Elt F) Λ₀ .tc) PUnit} :
    iprop(owns (c : Thread nD τ) m q x ∗ (owns (c : Thread nD τ) m q x -∗ wpk c (B x) Q)) ⊢ wpk c (Prog.lift (TpuEff.load m (Rect.unit off s.size inb).toLoadRect hl) >>= B) Q := by
  unfold wpk owns
  rw [wp_bind]
  iintro ⟨⟨%f, %hf, Hm⟩, HB⟩
  iapply (wp_load Variants.none (c : Thread nD τ) none Set.univ (m := m) (r := (Rect.unit off s.size inb).toLoadRect) (View.setOn_subset_set _ _)) $$ Hm
  iintro Hm
  rw [wp_ret]
  imodintro
  rw [View.readAt_full, hf]
  iapply HB
  iexists f
  isplitr; · ipureintro; exact hf
  iexact Hm

/-- A store of a whole block. -/
theorem store_step {sp : CoreSpace} {s : Shape} {e : EltTy} {m : Memref sig .tc sp s e} {off : Fin s.rank → ℕ} {inb : ∀ a, off a + s.size a ≤ s.size a}
    {w : s.Idx → Elt F e} {hx : (m.access (Rect.unit off s.size inb)).Stores Finset.univ} {hm} {B : PUnit → Prog (TpuEff nD τ sig (Elt F) Λ₀ .tc) PUnit} :
    iprop((∃ d, owns (c : Thread nD τ) m fullShare d) ∗ (owns (c : Thread nD τ) m fullShare w -∗ wpk c (B ⟨⟩) Q))
      ⊢ wpk c (Prog.lift (TpuEff.store m (Rect.unit off s.size inb) w Finset.univ hx hm) >>= B) Q := by
  unfold wpk owns
  rw [wp_bind]
  iintro ⟨⟨%d, %f, %hf, Hm⟩, HB⟩
  iapply (wp_store Variants.none (c : Thread nD τ) none Set.univ (m := m) (r := Rect.unit off s.size inb) (Memref.setOn_access_subset _ _ _)) $$ Hm
  iintro Hm
  rw [wp_ret]
  imodintro
  iapply HB
  iexists _
  isplitr
  swap; · iexact Hm
  ipureintro
  exact View.read_writes_full m.view f inb w []

/-- The end of the program. -/
theorem ret_step : Q ⟨⟩ ⊢ wpk c (Pure.pure PUnit.unit) Q := by
  unfold wpk
  rw [show (Pure.pure PUnit.unit : Prog (TpuEff nD τ sig (Elt F) Λ₀ .tc) PUnit) = Prog.ret PUnit.unit from rfl, wp_ret]
  iintro HQ
  imodintro
  iexact HQ

/-- The load of a slot that is held alone. -/
theorem load_slot (i : grid0.Coords) (f : Vec F S2x256x4096 .f32) {ho} {hl} {B : (S1x256x4096.Idx → Elt F .f32) → Prog (TpuEff nD τ sig (Elt F) Λ₀ .tc) PUnit} :
    iprop(xAt c (slotSet ((i 0).val % 2)) f ∗ (xAt c (slotSet ((i 0).val % 2)) f -∗ wpk c (B (((Memref.whole cc0_scratch0).access (Rect.unit (s := S2x256x4096) (k0_off15 i) S1x256x4096.size ho)).read (Elt F) f)) Q))
      ⊢ wpk c (Prog.lift (TpuEff.load (Memref.whole cc0_scratch0) (Rect.unit (s := S2x256x4096) (k0_off15 i) S1x256x4096.size ho).toLoadRect hl) >>= B) Q := by
  unfold wpk
  rw [wp_bind]
  iintro ⟨Hx, HB⟩
  iapply (wp_load_rect Variants.none (c : Thread nD τ) none Set.univ (m := Memref.whole cc0_scratch0) (r := Rect.unit (s := S2x256x4096) (k0_off15 i) S1x256x4096.size ho) (S := slotSet ((i 0).val % 2)) (slot_read_sub i)) $$ Hx
  iintro Hx
  rw [wp_ret]
  imodintro
  iapply HB
  iexact Hx

end rules

/-- The table that holds the count of tiles, held. -/
abbrev nAt (q : PosShare TreeShare) (nv : Vec F S1 .i32) : sProp (MM F) := ((c : Thread nD τ).loc main_arg1) ↦{q} nv

/-- What the load of the count reads. -/
theorem count_read (nv : Vec F S1 .i32) {ho : ∀ a, (![0] : Fin 1 → ℕ) a + S1.size a ≤ S1.size a} (x) :
    (((Memref.whole main_arg1).access (Rect.unit (s := S1) ![0] S1.size ho)).read (Elt F) nv x : BitVec 32) = nv (ix1 0) := by
  refine congrArg (α := S1.Idx) nv (funext fun a : Fin 1 => Fin.ext ?_)
  have hx : (x a).val = 0 := Nat.lt_one_iff.1 (lt_of_lt_of_eq (x a).isLt (by fin_cases a; rfl))
  refine (Rect.emb_apply (Rect.unit (s := S1) ![0] S1.size ho) x a).trans ?_
  rw [hx]
  fin_cases a
  rfl

/-- The share of the hidden array that goes with a slot. -/
def slotShare (s : ℕ) : PosShare TreeShare := if s = 0 then fullShare.left else fullShare.right

variable (qt qn : PosShare TreeShare) (src : Vec F S24576 .i32) (H : Vec F S8192x4096 .f32)

/-- A slot nothing is on its way to. -/
def free (s : ℕ) : sProp (MM F) :=
  iprop((∃ f, xAt c (slotSet s) f) ∗ hAt c (slotShare s) H ∗ semVal ((c : Thread nD τ), .dma (slotSem s)) 0)

/-- A slot the rows of tile `t` are on their way to. -/
def flying (s t : ℕ) : sProp (MM F) :=
  iprop(hAt c (shareDrop (slotShare s) 256) H ∗ flight c (slotShare s) src H s t 256 0)

/-- The slot of tile `t`, sent for if the tile is one of the `n`. -/
def sent (n t : ℕ) : sProp (MM F) := if t < n then flying c src H (t % 2) t else free c H (t % 2)

theorem sent_pos (n t : ℕ) (h : t < n) : sent c src H n t ⊢ iprop(hAt c (shareDrop (slotShare (t % 2)) 256) H ∗ flight c (slotShare (t % 2)) src H (t % 2) t 256 0) := by
  unfold sent flying
  rw [if_pos h]

theorem sent_neg (n t : ℕ) (h : ¬ t < n) : sent c src H n t ⊢ free c H (t % 2) := by
  unfold sent
  rw [if_neg h]

/-- The two slots before point `t`: that of the first tile is not sent for before the first point. -/
def slots (n t : ℕ) : sProp (MM F) :=
  iprop((if t = 0 then free c H 0 else sent c src H n t) ∗ free c H ((t + 1) % 2))

/-- The first point sends for the rows of the first tile. -/
theorem first_sent (hr : InRange src) (v0 : BitVec 32) (hn0 : 0 < v0.toNat) (i : grid0.Coords)
    (arg2 : Memref sig .tc .smem S96 .i32) (harg2 : arg2.IsWhole) (arg3 : Memref sig .tc .smem S1 .i32) (harg3 : arg3.IsWhole)
    (arg6 : Memref sig .tc .vmem S1x4096x512 .f32) (harg6 : arg6.IsWhole) (arg7 : Memref sig .tc .vmem S1x4096x512 .f32) (harg7 : arg7.IsWhole) (arg8 : Memref sig .tc .vmem S1x512x4096 .f32) (harg8 : arg8.IsWhole) (arg9 : Memref sig .tc .vmem S256x4096 .f32) (harg9 : arg9.IsWhole)
    (arg11 : Memref sig .tc .vmem S256x4096 .bf16) (harg11 : arg11.IsWhole)
    (h1 : k0_cond1 i = 1#1) :
    iprop(tAt c qt src ∗ (if (i 0).val = 0 then free c H 0 else sent c src H v0.toNat (i 0).val)) ⊢ wpk c
      (Scf.Loop.for k0_t1_loop (k0_t1_ok i h1) ⟨⟩ (k0_t1_body i arg2 harg2 arg3 harg3 (Memref.whole main_arg2) (Memref.isWhole_whole _) (Memref.whole main_arg3) (Memref.isWhole_whole _) arg6 harg6 arg7 harg7 arg8 harg8 arg9 harg9
        (Memref.whole cc0_scratch0) (Memref.isWhole_whole _) arg11 harg11 cc0_scratch2 h1))
      (fun _ => iprop(tAt c qt src ∗ sent c src H v0.toNat (i 0).val)) := by
  have h0 := (cond1_iff i).1 h1
  rw [h0, if_pos rfl]
  unfold sent free
  rw [if_pos hn0]
  unfold flying
  iintro ⟨Ht, ⟨%f, Hx⟩, Hh, Hsem⟩
  iapply (wand_step c)
  isplitl [Ht Hx Hh Hsem]
  · iapply (loop1 c (slotShare 0) qt src H hr f i arg2 harg2 arg3 harg3 arg6 harg6 arg7 harg7 arg8 harg8 arg9 harg9 arg11 harg11 h1)
    isplitl [Ht]; · iexact Ht
    isplitl [Hh]; · iexact Hh
    isplitl [Hx]; · iexact Hx
    iexact Hsem
  iintro %_ ⟨Ht, Hd, HF⟩
  isplitl [Ht]; · iexact Ht
  isplitl [Hd]; · iexact Hd
  iexact HF

/-- A point sends for the rows of the next tile. -/
theorem next_sent (hr : InRange src) (v0 : BitVec 32) (hn : v0.toNat ≤ 96) (i : grid0.Coords)
    (arg2 : Memref sig .tc .smem S96 .i32) (harg2 : arg2.IsWhole) (arg3 : Memref sig .tc .smem S1 .i32) (harg3 : arg3.IsWhole)
    (arg6 : Memref sig .tc .vmem S1x4096x512 .f32) (harg6 : arg6.IsWhole) (arg7 : Memref sig .tc .vmem S1x4096x512 .f32) (harg7 : arg7.IsWhole) (arg8 : Memref sig .tc .vmem S1x512x4096 .f32) (harg8 : arg8.IsWhole) (arg9 : Memref sig .tc .vmem S256x4096 .f32) (harg9 : arg9.IsWhole)
    (arg11 : Memref sig .tc .vmem S256x4096 .bf16) (harg11 : arg11.IsWhole)
    (hw : k0_chk2 i v0) (h2 : k0_cond2 i v0 = 1#1) :
    iprop(tAt c qt src ∗ free c H (((i 0).val + 1) % 2)) ⊢ wpk c
      (Scf.Loop.for k0_t2_loop k0_t2_ok ⟨⟩ (k0_t2_body i arg2 harg2 arg3 harg3 (Memref.whole main_arg2) (Memref.isWhole_whole _) (Memref.whole main_arg3) (Memref.isWhole_whole _) arg6 harg6 arg7 harg7 arg8 harg8 arg9 harg9
        (Memref.whole cc0_scratch0) (Memref.isWhole_whole _) arg11 harg11 cc0_scratch2 v0 hw h2))
      (fun _ => iprop(tAt c qt src ∗ sent c src H v0.toNat ((i 0).val + 1))) := by
  have h0 := (cond2_iff v0 hn i).1 h2
  unfold sent free
  rw [if_pos h0]
  unfold flying
  iintro ⟨Ht, ⟨%f, Hx⟩, Hh, Hsem⟩
  iapply (wand_step c)
  isplitl [Ht Hx Hh Hsem]
  · iapply (loop2 c (slotShare (((i 0).val + 1) % 2)) qt src H hr f i arg2 harg2 arg3 harg3 arg6 harg6 arg7 harg7 arg8 harg8 arg9 harg9 arg11 harg11 v0 hw h2 (by omega))
    isplitl [Ht]; · iexact Ht
    isplitl [Hh]; · iexact Hh
    isplitl [Hx]; · iexact Hx
    iexact Hsem
  iintro %_ ⟨Ht, Hd, HF⟩
  isplitl [Ht]; · iexact Ht
  isplitl [Hd]; · iexact Hd
  iexact HF

/-- The block a point stores, from its gathered rows and the three weight blocks. -/
def outRows (n t : ℕ) (rows : Vec F S1x256x4096 .f32) (x0 x1 : Vec F S1x4096x512 .f32) (x2 : Vec F S1x512x4096 .f32) : Vec F S256x4096 .f32 :=
  if t < n then k0_pay2 (k0_pay1 rows) x0 x1 x2 else k0_pay4

/-- The rows of the tile, as the kernel loads them from their slot. -/
def tileRows (i : grid0.Coords) : Vec F S1x256x4096 .f32 :=
  ((Memref.whole cc0_scratch0).access (Rect.unit (s := S2x256x4096) (k0_off15 i) S1x256x4096.size (k0_off15_inb i (cond4_true i)))).read (Elt F) (gath src H (i 0).val)

/-- The body at a point. -/
theorem body_point (hr : InRange src) (nv : Vec F S1 .i32) (hn : (nv (ix1 0) : BitVec 32).toNat ≤ 96) (hn0 : 0 < (nv (ix1 0) : BitVec 32).toNat) (i : grid0.Coords)
    (arg2 : Memref sig .tc .smem S96 .i32) (harg2 : arg2.IsWhole)
    (arg6 : Memref sig .tc .vmem S1x4096x512 .f32) (harg6 : arg6.IsWhole) (arg7 : Memref sig .tc .vmem S1x4096x512 .f32) (harg7 : arg7.IsWhole) (arg8 : Memref sig .tc .vmem S1x512x4096 .f32) (harg8 : arg8.IsWhole) (arg9 : Memref sig .tc .vmem S256x4096 .f32) (harg9 : arg9.IsWhole)
    (arg11 : Memref sig .tc .vmem S256x4096 .bf16) (harg11 : arg11.IsWhole)
    (x0 x1 : Vec F S1x4096x512 .f32) (x2 : Vec F S1x512x4096 .f32) :
    iprop(slots c src H (nv (ix1 0) : BitVec 32).toNat (i 0).val ∗ tAt c qt src ∗ nAt c qn nv ∗ (∃ g, owns (c : Thread nD τ) arg11 fullShare g) ∗ (∃ W, owes (c : Thread nD τ) 0 W)
        ∗ owns (c : Thread nD τ) arg6 fullShare x0 ∗ owns (c : Thread nD τ) arg7 fullShare x1 ∗ owns (c : Thread nD τ) arg8 fullShare x2 ∗ (∃ d, owns (c : Thread nD τ) arg9 fullShare d))
      ⊢ wp frame (wpE (defs₀ (F := F)) Variants.none (c : Thread nD τ) none) Set.univ
        (cc0_moe_grouped_experts i arg2 harg2 (Memref.whole main_arg1) (Memref.isWhole_whole _) (Memref.whole main_arg2) (Memref.isWhole_whole _) (Memref.whole main_arg3) (Memref.isWhole_whole _) arg6 harg6 arg7 harg7 arg8 harg8 arg9 harg9
          (Memref.whole cc0_scratch0) (Memref.isWhole_whole _) arg11 harg11 cc0_scratch2)
        (fun _ => iprop(slots c src H (nv (ix1 0) : BitVec 32).toNat ((i 0).val + 1) ∗ tAt c qt src ∗ nAt c qn nv ∗ (∃ g, owns (c : Thread nD τ) arg11 fullShare g) ∗ (∃ W, owes (c : Thread nD τ) 0 W)
          ∗ owns (c : Thread nD τ) arg6 fullShare x0 ∗ owns (c : Thread nD τ) arg7 fullShare x1 ∗ owns (c : Thread nD τ) arg8 fullShare x2
          ∗ owns (c : Thread nD τ) arg9 fullShare (outRows (nv (ix1 0) : BitVec 32).toNat (i 0).val (tileRows src H i) x0 x1 x2))) := by
  have hi : (i 0).val < 96 := (i 0).isLt
  generalize hv : (nv (ix1 0) : BitVec 32) = v0 at *
  rw [cc0_moe_grouped_experts_eq_skeleton]
  unfold cc0_moe_grouped_experts_skel smemLoad slots
  iintro ⟨⟨Hs, Hs2⟩, Ht, Hn, H11, Ho, H6, H7, H8, H9⟩
  rw [wp_bind]
  iapply (wp_smemLoadElt Variants.none (c : Thread nD τ) none Set.univ (m := Memref.whole main_arg1) (r := Rect.unit (s := S1) ![0] S1.size inb_S1_S1_0) (S := Finset.univ) (Finset.subset_univ _)) $$ Hn
  iintro Hn
  rw [wp_ret]
  imodintro
  rw [count_read nv, hv]
  rw [wp_bind]
  iapply (wp_assume Variants.none (c : Thread nD τ) none Set.univ (chk2_holds v0 hn i))
  rw [wp_ret]
  imodintro
  iapply (branch_seq c (R := iprop(tAt c qt src ∗ (if (i 0).val = 0 then free c H 0 else sent c src H v0.toNat (i 0).val))) (M := iprop(tAt c qt src ∗ sent c src H v0.toNat (i 0).val))
    (fun h1 => first_sent c qt src H hr v0 hn0 i arg2 harg2 _ (Memref.isWhole_whole main_arg1) arg6 harg6 arg7 harg7 arg8 harg8 arg9 harg9 arg11 harg11 h1) (fun h1 => by rw [if_neg (fun h => h1 ((cond1_iff i).2 h))]))
  isplitl [Ht Hs]
  · isplitl [Ht]; · iexact Ht
    iexact Hs
  iintro ⟨Ht, Hs⟩
  iapply (branch_seq c (R := iprop(tAt c qt src ∗ free c H (((i 0).val + 1) % 2))) (M := iprop(tAt c qt src ∗ sent c src H v0.toNat ((i 0).val + 1)))
    (fun h2 => next_sent c qt src H hr v0 hn i arg2 harg2 _ (Memref.isWhole_whole main_arg1) arg6 harg6 arg7 harg7 arg8 harg8 arg9 harg9 arg11 harg11 _ h2) (fun h2 => by unfold sent; rw [if_neg (fun h => h2 ((cond2_iff v0 hn i).2 h))]))
  isplitl [Ht Hs2]
  · isplitl [Ht]; · iexact Ht
    iexact Hs2
  iintro ⟨Ht, Hs2⟩
  rw [if_neg (Nat.succ_ne_zero _), show ((i 0).val + 1 + 1) % 2 = (i 0).val % 2 by omega]
  unfold outRows
  by_cases h3 : (i 0).val < v0.toNat
  · rw [if_pos h3]
    iapply (branch_pos c ((cond3_iff v0 hn i).2 h3))
    iapply (branch_pos c (cond4_true i))
    iapply (seq_step c)
    ihave Hs := (sent_pos c src H _ _ h3) $$ Hs
    icases Hs with ⟨Hd, HF⟩
    iapply (wand_step c)
    isplitl [Ht Hd HF Ho]
    · iapply (loop3 c (slotShare ((i 0).val % 2)) qt src H hr i arg2 harg2 _ (Memref.isWhole_whole main_arg1) arg6 harg6 arg7 harg7 arg8 harg8 arg9 harg9 arg11 harg11 v0 ((cond3_iff v0 hn i).2 h3) (cond4_true i))
      isplitl [Ht]; · iexact Ht
      isplitl [Hd]; · iexact Hd
      isplitl [HF]; · iexact HF
      iexact Ho
    iintro %_ ⟨Ht, Hh, Hx, Hsem, Ho⟩
    iapply (load_slot c i (gath src H (i 0).val))
    isplitl [Hx]; · iexact Hx
    iintro Hx
    icases H11 with ⟨%g, H11⟩
    iapply (load_step c)
    isplitl [H11]; · iexact H11
    iintro H11
    iapply (store_step c)
    isplitl [H11]; · iexists _; iexact H11
    iintro H11
    iapply (load_step c)
    isplitl [H11]; · iexact H11
    iintro H11
    iapply (load_step c)
    isplitl [H6]; · iexact H6
    iintro H6
    iapply (load_step c)
    isplitl [H7]; · iexact H7
    iintro H7
    iapply (load_step c)
    isplitl [H8]; · iexact H8
    iintro H8
    iapply (branch_pos c (cond5_true i))
    icases H9 with ⟨%d, H9⟩
    iapply (load_step c)
    isplitl [H9]; · iexact H9
    iintro H9
    iapply (store_step c)
    isplitl [H9]; · iexists _; iexact H9
    iintro H9
    iapply (branch_neg c (cond6_false i))
    iapply (branch_neg c (fun h => absurd ((cond7_iff v0 hn i).1 h) (by omega)))
    iapply (ret_step c)
    isplitl [Hs2 Hh Hx Hsem]
    · isplitl [Hs2]; · iexact Hs2
      unfold free
      isplitl [Hx]; · iexists _; iexact Hx
      isplitl [Hh]; · iexact Hh
      iexact Hsem
    isplitl [Ht]; · iexact Ht
    isplitl [Hn]; · iexact Hn
    isplitl [H11]; · iexists _; iexact H11
    isplitl [Ho]; · iexact Ho
    isplitl [H6]; · iexact H6
    isplitl [H7]; · iexact H7
    isplitl [H8]; · iexact H8
    iexact H9
  · rw [if_neg h3]
    iapply (branch_neg c (fun h => h3 ((cond3_iff v0 hn i).1 h)))
    iapply (branch_pos c ((cond7_iff v0 hn i).2 (by omega)))
    icases H9 with ⟨%d, H9⟩
    iapply (load_step c)
    isplitl [H9]; · iexact H9
    iintro H9
    iapply (store_step c)
    isplitl [H9]; · iexists _; iexact H9
    iintro H9
    iapply (ret_step c)
    isplitl [Hs2 Hs]
    · isplitl [Hs2]; · iexact Hs2
      iapply (sent_neg c src H _ _ h3)
      iexact Hs
    isplitl [Ht]; · iexact Ht
    isplitl [Hn]; · iexact Hn
    isplitl [H11]; · iexact H11
    isplitl [Ho]; · iexact Ho
    isplitl [H6]; · iexact H6
    isplitl [H7]; · iexact H7
    isplitl [H8]; · iexact H8
    iexact H9

end Cert.ExpertsIdeal.Hand
end
-- ==== Proof.ExpertsIdealHost.lean ====
/- What the experts kernel finds when it starts: the three tables of numbers, and that the blocks they name lie inside the weights. -/
module
public import proofs.«01_k».proof.Proof.ExpertsIdealBody
public import Idealize.ShloMosaic.Lib.Pipeline.FrameBody
public import Idealize.ShloMosaic.Lib.VecWindow
public import Idealize.ShloMosaic.Lib.Writes
@[expose] public section
set_option maxRecDepth 16384
noncomputable section
namespace Cert.ExpertsIdeal.Hand
open Cert.ExpertsIdeal Cert.ExpertsIdeal.Gen Idealize.ShloMosaic Idealize.ShloMosaic.TcCoe
open Idealize.SL Idealize.SL.RA Idealize.SL.BI
open scoped Idealize.SL.BI
open Idealize.SL.BI.BIBase Idealize.SL.Sem
open Idealize.ShloMosaic.Transfers

variable {F : FTy → Type} [FloatOps F]

variable (m : (ℓ : Loc nD τ sig) → Buf (Elt F) ℓ)

/-- The buffers of core `c` when the kernel starts, the host's operations done. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program up to the kernel is the host's operations. -/
theorem host_main (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub host_fresh main_chain

/-- The host writes none of the arguments. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The three tables, as the kernel finds them. -/
def tabs : pre0.Contents (Elt F) := fun
  | 0 => V m 0 main_v14
  | 1 => V m 0 main_arg1
  | 2 => V m 0 main_arg2
  | ⟨_ + 3, h⟩ => absurd h (Nat.not_lt.2 (Nat.le_add_left _ _))

/-- What is asked of the arguments: the experts' numbers, the count of tiles and the rows' numbers are in range. -/
structure Good : Prop where
  te : ∀ x, (V m 0 main_v14 x : BitVec 32).toNat < 64
  pos : 0 < (V m 0 main_arg1 (ix1 0) : BitVec 32).toNat
  le : (V m 0 main_arg1 (ix1 0) : BitVec 32).toNat ≤ 96
  src : InRange (V m 0 main_arg2)

theorem i1_zero (i : grid0.Coords) : (i 1).val = 0 := Nat.lt_one_iff.1 (lt_of_lt_of_eq (i 1).isLt (by rfl))

theorem off1_eq : ∀ i : grid0.Coords, k0_off1 i = ![(i 0).val] := by decide +kernel

/-- The word the index maps read. -/
theorem tab_at (i : grid0.Coords) (ho : ∀ a, k0_off1 i a + S1.size a ≤ S96.size a) (h1) :
    ((tabs m).at 0 (Rect.unit (s := S96) (k0_off1 i) S1.size ho) h1 : BitVec 32) = V m 0 main_v14 (ix1 (i 0)) := by
  refine congrArg (α := S96.Idx) (V m 0 main_v14) (funext fun a : Fin 1 => Fin.ext ?_)
  generalize Shape.Idx.first _ = x
  have hx : (x a).val = 0 := Nat.lt_one_iff.1 (lt_of_lt_of_eq (x a).isLt (by fin_cases a; rfl))
  refine (Rect.emb_apply (Rect.unit (s := S96) (k0_off1 i) S1.size ho) x a).trans ?_
  rw [hx]
  fin_cases a
  show k0_off1 i 0 + 1 * 0 = (i 0).val
  rw [off1_eq]
  rfl

theorem sel_zero (b : BitVec 1) (i : grid0.Coords) : (Scalar.select b (BitVec.ofNat 32 (i 1).val) (0#32) : BitVec 32).toNat = 0 := by
  rw [i1_zero i]
  unfold Scalar.select
  split <;> rfl

theorem zero_addi (v : BitVec 32) : Scalar.addi 0#32 v = v := by
  show 0#32 + v = v
  exact BitVec.zero_add v

/-- The index maps of the weights name the tile's expert. -/
theorem index1 (i : grid0.Coords) : cc0_transform_1 (F := F) inb_S1_S1_0 numel1_S1 k0_off1_inb (tabs m) i = ![(V m 0 main_v14 (ix1 (i 0)) : BitVec 32).toNat, 0, 0] := by
  have h := tab_at m i (k0_off1_inb i) numel1_S1
  unfold cc0_transform_1
  dsimp only
  rw [sel_zero]
  exact congrArg (fun v : BitVec 32 => ![v.toNat, 0, 0]) ((zero_addi _).trans h)
theorem index2 (i : grid0.Coords) : cc0_transform_2 (F := F) inb_S1_S1_0 numel1_S1 k0_off1_inb (tabs m) i = ![(V m 0 main_v14 (ix1 (i 0)) : BitVec 32).toNat, 0, 0] := by
  have h := tab_at m i (k0_off1_inb i) numel1_S1
  unfold cc0_transform_2
  dsimp only
  rw [sel_zero]
  exact congrArg (fun v : BitVec 32 => ![v.toNat, 0, 0]) ((zero_addi _).trans h)
theorem index3 (i : grid0.Coords) : cc0_transform_3 (F := F) inb_S1_S1_0 numel1_S1 k0_off1_inb (tabs m) i = ![(V m 0 main_v14 (ix1 (i 0)) : BitVec 32).toNat, 0, 0] := by
  have h := tab_at m i (k0_off1_inb i) numel1_S1
  unfold cc0_transform_3
  dsimp only
  rw [sel_zero]
  exact congrArg (fun v : BitVec 32 => ![v.toNat, 0, 0]) ((zero_addi _).trans h)

variable {m}

/-- The weight blocks the table names lie inside the weights. -/
theorem tabs_ok (g : Good m) : ok0 (tabs m) := by
  refine ⟨fun i => ⟨fun a => ?_, .inl rfl⟩, fun i => ⟨fun a => ?_, .inl rfl⟩, fun i => ⟨fun a => ?_, .inl rfl⟩⟩
  · have h := g.te (ix1 (i 0))
    rw [index1]
    fin_cases a
    · show ((V m 0 main_v14 (ix1 (i 0)) : BitVec 32).toNat + 1) * 1 ≤ 64
      omega
    · show (0 + 1) * 4096 ≤ 4096
      omega
    · show (0 + 1) * 512 ≤ 512
      omega
  · have h := g.te (ix1 (i 0))
    rw [index2]
    fin_cases a
    · show ((V m 0 main_v14 (ix1 (i 0)) : BitVec 32).toNat + 1) * 1 ≤ 64
      omega
    · show (0 + 1) * 4096 ≤ 4096
      omega
    · show (0 + 1) * 512 ≤ 512
      omega
  · have h := g.te (ix1 (i 0))
    rw [index3]
    fin_cases a
    · show ((V m 0 main_v14 (ix1 (i 0)) : BitVec 32).toNat + 1) * 1 ≤ 64
      omega
    · show (0 + 1) * 512 ≤ 512
      omega
    · show (0 + 1) * 4096 ≤ 4096
      omega

/-- The tables as admissible contents. -/
def adm (g : Good m) : (p : Fin 1) → (pcfgs (F := F) p).Adm := fun _ => ⟨tabs m, tabs_ok g⟩

end Cert.ExpertsIdeal.Hand
end
-- ==== Proof.ExpertsIdealRun.lean ====
/- The whole run of the experts kernel: every point of the grid, the launch, and what the memory holds at the end. -/
module
public import proofs.«01_k».proof.Proof.ExpertsIdealHost
public import Idealize.ShloMosaic.Lib.Pipeline.Frame
public import Idealize.ShloMosaic.Lib.Claim
public import Idealize.ShloMosaic.Lib.Tactic
public import Idealize.ShloMosaic.Lib.VecWindow
public import Idealize.ShloMosaic.Lib.Writes
@[expose] public section
set_option maxRecDepth 16384
set_option maxRecDepth 16384

noncomputable section
namespace Cert.ExpertsIdeal.Hand
open Cert.ExpertsIdeal Cert.ExpertsIdeal.Gen Idealize.ShloMosaic Idealize.ShloMosaic.TcCoe
open Idealize.SL Idealize.SL.RA Idealize.SL.BI
open scoped Idealize.SL.BI
open Idealize.SL.BI.BIBase Idealize.SL.Sem
open Idealize.ShloMosaic.Transfers

variable {F : FTy → Type} [FloatOps F]

open Idealize.ShloMosaic.Pipeline (Dat Cfg Window BodyObligation cellOf)

variable {m : (ℓ : Loc nD τ sig) → Buf (Elt F) ℓ} (g : Good m)

/-- How many tiles hold rows. -/
def cnt (m : (ℓ : Loc nD τ sig) → Buf (Elt F) ℓ) : ℕ := (V m 0 main_arg1 (ix1 0) : BitVec 32).toNat

/-- The call's grid and windows, at the tables the kernel finds. -/
abbrev cc : Cfg sig Λ₀ := cfg0 (adm g 0)

/-- Window `w`'s block at point `t`, read off its array as the kernel finds it. -/
def iblk (c : Dev nD) (w : Fin 4) (t : Fin (cc g).N) : (((cc g).win w).xblock ((cc g).grid.coords t)).Idx → Elt F ((cc g).win w).elt :=
  (((cc g).win w).blk t).view.read (Elt F) (V m c (Pipeline.arrRef spec0 w))

/-- A point's first coordinate is its number. -/
theorem point_val (t : Fin (cc g).N) : (grid0.coords t 0).val = t.val := by
  have h := Pipeline.Grid.coords_val (G := grid0) t 0 (S := 1) (B := 96) (by decide) (by rfl)
  have ht : t.val < 96 := lt_of_lt_of_eq t.isLt N_0
  rw [h]
  omega

/-- What the body leaves of the rows at point `t`. -/
def rowsAt (c : Dev nD) (t : Fin (cc g).N) : Vec F S256x4096 .f32 :=
  outRows (cnt m) (grid0.coords t 0).val (tileRows (V m c main_arg2) (V m c main_arg3) (grid0.coords t)) (iblk g c 0 t) (iblk g c 1 t) (iblk g c 2 t)

/-- What is held between the points: the two slots, the second scratch, the generator and the tables. -/
def held (c : Dev nD) (n : ℕ) : sProp (MM F) :=
  iprop(slots c (V m c main_arg2) (V m c main_arg3) (cnt m) n ∗ (∃ f, owns (c : Thread nD τ) (Memref.whole cc0_scratch1) fullShare f) ∗ (∃ r, prngReg c r)
    ∗ (((c : Thread nD τ).loc main_v14) ↦{fullShare.right} V m c main_v14) ∗ nAt c fullShare.right (V m c main_arg1) ∗ tAt c fullShare.right (V m c main_arg2))

/-- The proof data of the call on core `c`. -/
def dats (_ : Fin 1) (c : Dev nD) : Dat τ (Elt F) Unit ℕ (Pipeline.UD sig nD τ) ℕ (cc g) c where
  A w := V m c (Pipeline.arrRef spec0 w)
  after w t := match w with
    | ⟨0, _⟩ => iblk g c 0 t
    | ⟨1, _⟩ => iblk g c 1 t
    | ⟨2, _⟩ => iblk g c 2 t
    | ⟨3, _⟩ => rowsAt g c t
  Φ t := held (m := m) c t.val
  q _ := fullShare
  owed _ := 0

theorem A_eq (c : Dev nD) (w : Fin (cc g).W) : (dats g 0 c).A w = V m c (Pipeline.arrRef spec0 w) := by
  dsimp only [dats]
theorem after0 (c : Dev nD) (t : Fin (cc g).N) : (dats g 0 c).after (0 : Fin 4) t = iblk g c 0 t := by dsimp only [dats]
theorem after1 (c : Dev nD) (t : Fin (cc g).N) : (dats g 0 c).after (1 : Fin 4) t = iblk g c 1 t := by dsimp only [dats]
theorem after2 (c : Dev nD) (t : Fin (cc g).N) : (dats g 0 c).after (2 : Fin 4) t = iblk g c 2 t := by dsimp only [dats]
theorem after3 (c : Dev nD) (t : Fin (cc g).N) : (dats g 0 c).after (3 : Fin 4) t = rowsAt g c t := by dsimp only [dats]

/-- Each weight window's buffer holds its block at every point. -/
theorem before0 (c : Dev nD) (t : Fin (cc g).N) (d) : (dats g 0 c).before (0 : Fin 4) t d = iblk g c 0 t :=
  ((dats g 0 c).before_in_eq_fetched (0 : Fin 4) rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cc g).N) (d) : (dats g 0 c).before (1 : Fin 4) t d = iblk g c 1 t :=
  ((dats g 0 c).before_in_eq_fetched (1 : Fin 4) rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cc g).N) (d) : (dats g 0 c).before (2 : Fin 4) t d = iblk g c 2 t :=
  ((dats g 0 c).before_in_eq_fetched (2 : Fin 4) rfl (fun _ => rfl) (fun _ _ _ => rfl) (fun t => by rw [after2]; unfold Dat.blockOf iblk; rw [A_eq]; try rfl) t d).trans
    (by unfold Dat.fetched Dat.blockOf iblk; rw [A_eq]; try rfl)

/-- The count of tiles, as the output's stores read it. -/
theorem count_at : ((tabs m).atD 1 ![0] : BitVec 32) = V m 0 main_arg1 (ix1 0) := by
  have h : ∀ a : Fin 1, (![0] : Fin 1 → ℕ) a + 1 ≤ S1.size a := by decide
  refine (dif_pos h).trans ?_
  refine congrArg (α := S1.Idx) (V m 0 main_arg1) (funext fun a : Fin 1 => Fin.ext ?_)
  fin_cases a
  rfl

/-- The output's rows are written at every point. -/
theorem busy (pf : pre0.Contents (Elt F)) (h : (pf.atD 1 ![0] : BitVec 32).toNat ≤ 96) (i : grid0.Coords) : idle0 pf 3 i = false := by
  show (!(k0_cond3 i (pf.atD 1 ![0]) == 1#1 && k0_cond5 i == 1#1) && !(k0_cond3 i (pf.atD 1 ![0]) == 1#1 && k0_cond6 i == 1#1)
    && !(k0_cond7 i (pf.atD 1 ![0]) == 1#1)) = false
  generalize (pf.atD 1 ![0] : BitVec 32) = v at h
  rcases Nat.lt_or_ge (i 0).val v.toNat with h' | h'
  · rw [(cond3_iff _ h i).2 h', cond5_true i]
    rfl
  · rw [(cond7_iff _ h i).2 h']
    simp

theorem count_le (g : Good m) : (((adm g 0).1 : pre0.Contents (Elt F)).atD 1 ![0] : BitVec 32).toNat ≤ 96 :=
  le_of_eq_of_le (congrArg BitVec.toNat (count_at (m := m))) g.le

abbrev st0 (t : Fin (cc g).N) := ((cc g).win (0 : Fin 4)).stage ((cc g).slots t (0 : Fin 4))
abbrev st1 (t : Fin (cc g).N) := ((cc g).win (1 : Fin 4)).stage ((cc g).slots t (1 : Fin 4))
abbrev st2 (t : Fin (cc g).N) := ((cc g).win (2 : Fin 4)).stage ((cc g).slots t (2 : Fin 4))
abbrev st3 (t : Fin (cc g).N) := ((cc g).win (3 : Fin 4)).stage ((cc g).slots t (3 : Fin 4))

/-- The body at point `t`, on what it is called with. -/
abbrev bodyAt (t : Fin (cc g).N) : Prog (TpuEff nD τ sig (Elt F) Λ₀ .tc) PUnit :=
  cc0_moe_grouped_experts (grid0.coords t) (Memref.whole main_v14) (Memref.isWhole_whole _) (Memref.whole main_arg1) (Memref.isWhole_whole _) (Memref.whole main_arg2) (Memref.isWhole_whole _) (Memref.whole main_arg3) (Memref.isWhole_whole _)
    (spec0_0.stage ((cc g).slots t (0 : Fin 4))) (hstage0_0 (((cc g).slots t (0 : Fin 4)).cast nbuf0_0)) (spec0_1.stage ((cc g).slots t (1 : Fin 4))) (hstage0_1 (((cc g).slots t (1 : Fin 4)).cast nbuf0_1))
    (spec0_2.stage ((cc g).slots t (2 : Fin 4))) (hstage0_2 (((cc g).slots t (2 : Fin 4)).cast nbuf0_2)) (spec0_3.stage ((cc g).slots t (3 : Fin 4))) (hstage0_3 (((cc g).slots t (3 : Fin 4)).cast nbuf0_3))
    (Memref.whole cc0_scratch0) (Memref.isWhole_whole _) (Memref.whole cc0_scratch1) (Memref.isWhole_whole _) cc0_scratch2

def bodyPre (c : Dev nD) (t : Fin (cc g).N) : sProp (MM F) :=
  iprop((dats g 0 c).Φ t.castSucc ∗ (dats g 0 c).owesAt () t.castSucc
    ∗ (∃ d, owns (c : Thread nD τ) (st0 g t) fullShare ((dats g 0 c).before (0 : Fin 4) t d))
    ∗ (∃ d, owns (c : Thread nD τ) (st1 g t) fullShare ((dats g 0 c).before (1 : Fin 4) t d))
    ∗ (∃ d, owns (c : Thread nD τ) (st2 g t) fullShare ((dats g 0 c).before (2 : Fin 4) t d))
    ∗ (∃ d, owns (c : Thread nD τ) (st3 g t) fullShare ((dats g 0 c).before (3 : Fin 4) t d)))

def bodyPost (c : Dev nD) (t : Fin (cc g).N) : sProp (MM F) :=
  iprop((dats g 0 c).Φ t.succ ∗ (dats g 0 c).owesAt () t.succ
    ∗ owns (c : Thread nD τ) (st0 g t) fullShare ((dats g 0 c).after (0 : Fin 4) t)
    ∗ owns (c : Thread nD τ) (st1 g t) fullShare ((dats g 0 c).after (1 : Fin 4) t)
    ∗ owns (c : Thread nD τ) (st2 g t) fullShare ((dats g 0 c).after (2 : Fin 4) t)
    ∗ owns (c : Thread nD τ) (st3 g t) fullShare ((dats g 0 c).after (3 : Fin 4) t))

theorem held_start (c : Dev nD) (t : Fin (cc g).N) : (dats g 0 c).Φ t.castSucc = held (m := m) c (grid0.coords t 0).val := by
  rw [point_val]; rfl
theorem held_end (c : Dev nD) (t : Fin (cc g).N) : (dats g 0 c).Φ t.succ = held (m := m) c ((grid0.coords t 0).val + 1) := by
  rw [point_val]; rfl

/-- A triple under a weaker end. -/
theorem wand_of {c : Dev nD} {α : Type} {A : Prog (TpuEff nD τ sig (Elt F) Λ₀ .tc) α} {P : sProp (MM F)} {R R' : α → sProp (MM F)}
    (h : P ⊢ wp frame (wpE (defs₀ (F := F)) Variants.none (c : Thread nD τ) none) Set.univ A R) :
    iprop(P ∗ (∀ a, R a -∗ R' a)) ⊢ wp frame (wpE (defs₀ (F := F)) Variants.none (c : Thread nD τ) none) Set.univ A R' :=
  (BI.Laws.sep_mono_left h).trans (wp_wand_r _ _ _)

set_option maxHeartbeats 1000000 in
/-- The body at any point. -/
theorem sound_body (c : Dev nD) (t : Fin (cc g).N) :
    bodyPre g c t ⊢ wp frame (wpE (defs₀ (F := F)) Variants.none (c : Thread nD τ) none) Set.univ (bodyAt g t) (fun _ => bodyPost g c t) := by
  obtain rfl : c = 0 := Subsingleton.elim _ _
  unfold bodyPre bodyPost
  simp only [before0, before1, before2]
  rw [held_start, held_end, after0, after1, after2, after3]
  unfold Dat.owesAt Pipeline.owesWithin
  rw [show (dats g 0 0).owed t.castSucc = 0 from rfl, show (dats g 0 0).owed t.succ = 0 from rfl]
  unfold held rowsAt cnt
  iintro ⟨⟨Hs, Hx, Hp, Hv, Hn, Ht⟩, ⟨%W, -, HW⟩, ⟨%d0, H0⟩, ⟨%d1, H1⟩, ⟨%d2, H2⟩, ⟨%d3, H3⟩⟩
  iapply (wand_of (body_point (0 : Dev nD) fullShare.right fullShare.right (V m 0 main_arg2) (V m 0 main_arg3) g.src (V m 0 main_arg1) g.le g.pos (grid0.coords t) _ _ _ _ _ _ _ _ _ _ _ _ (iblk g 0 0 t) (iblk g 0 1 t) (iblk g 0 2 t)))
  isplitl [Hs Ht Hn Hx HW H0 H1 H2 H3]
  · isplitl [Hs]; · iexact Hs
    isplitl [Ht]; · iexact Ht
    isplitl [Hn]; · iexact Hn
    isplitl [Hx]; · iexact Hx
    isplitl [HW]; · iexists W; iexact HW
    isplitl [H0]; · iexact H0
    isplitl [H1]; · iexact H1
    isplitl [H2]; · iexact H2
    iexists _; iexact H3
  iintro %_ ⟨Hs, Ht, Hn, Hx, ⟨%W', HW⟩, H0, H1, H2, H3⟩
  isplitl [Hs Hx Hp Hv Hn Ht]
  · isplitl [Hs]; · iexact Hs
    isplitl [Hx]; · iexact Hx
    isplitl [Hp]; · iexact Hp
    isplitl [Hv]; · iexact Hv
    isplitl [Hn]; · iexact Hn
    iexact Ht
  isplitl [HW]
  · iexists W'; isplitr; · ipureintro; exact fun _ _ => Or.inl trivial
    iexact HW
  isplitl [H0]; · iexact H0
  isplitl [H1]; · iexact H1
  isplitl [H2]; · iexact H2
  iexact H3

theorem defs₀_row (t : Fin (cc g).N) : defs₀ (F := F) .tc (cc g).body ((cc g).bodyArgs t ((cc g).slots t)) = bodyAt g t := by
  unfold defs₀; rw [Defs.onTc_tc]

theorem idle_eq : (cc g).idle = idle0 (adm g 0).1 := rfl

/-- The body's obligation, at every point. -/
theorem body_obligation (c : Dev nD) : BodyObligation (dats g 0 c) (defs₀ (F := F)) Variants.none () Set.univ := fun t => by
  have hi : (cc g).idle (3 : Fin 4) ((cc g).grid.coords t) = false := by
    rw [idle_eq]
    exact busy (F := F) (adm g 0).1 (count_le g) _
  rw [bigSep_W0, bigSep_W0, defs₀_row]
  refine triple_restated (sound_body g c t) rfl .rfl fun _ => ?_
  rw [hi]
  exact .rfl

end Cert.ExpertsIdeal.Hand
end
-- ==== Proof.ExpertsIdealLaunch.lean ====
/- The launch of the experts kernel: what is handed over at the start, what comes back, and the memory at the end. -/
module
public import proofs.«01_k».proof.Proof.ExpertsIdealRun
public import Idealize.ShloMosaic.Lib.Pipeline.Frame
public import Idealize.ShloMosaic.Lib.Claim
public import Idealize.ShloMosaic.Lib.Tactic
public import Idealize.ShloMosaic.Lib.VecWindow
public import Idealize.ShloMosaic.Lib.Writes
@[expose] public section
set_option maxRecDepth 16384
set_option maxRecDepth 16384

noncomputable section
namespace Cert.ExpertsIdeal.Hand
open Cert.ExpertsIdeal Cert.ExpertsIdeal.Gen Idealize.ShloMosaic Idealize.ShloMosaic.TcCoe
open Idealize.SL Idealize.SL.RA Idealize.SL.BI
open scoped Idealize.SL.BI
open Idealize.SL.BI.BIBase Idealize.SL.Sem
open Idealize.ShloMosaic.Transfers

variable {F : FTy → Type} [FloatOps F]

open Idealize.ShloMosaic.Pipeline (Dat Cfg Window BodyObligation cellOf)

variable {m : (ℓ : Loc nD τ sig) → Buf (Elt F) ℓ} (g : Good m)

/-- The kernel's two transfer semaphores, one for each slot. -/
abbrev osem0 : Fin 2 → SemLoc sig := fun j => (![SemLoc.dma 5, SemLoc.dma 6] : Fin 2 → SemLoc sig) j
theorem osem_facts : Pipeline.OwnSemFacts spec0 osem0 := by decide
theorem osem_eq (c : Dev nD) :
    (Pipeline.ownSems0 (Ix := Unit) (Name := ℕ) (U := Pipeline.UD sig nD τ) (Lvl := ℕ) (Val := Elt F) (τ := τ) osem0 c : sProp (MM F))
      = iprop(semVal ((c : Thread nD τ), SemLoc.dma 5) 0 ∗ semVal ((c : Thread nD τ), SemLoc.dma 6) 0) := by
  rw [Pipeline.ownSems0_eq_of_list c osem0 [0, 1] (by decide) (by decide)]; rfl

/-- The one array the body's copies read. -/
def reads : Finset (Ref sig .tc) := {main_arg3}
theorem reads_sub : reads ⊆ Pipeline.restRefsP sig pre0 spec0 := by decide
theorem reads_eq (c : Dev nD) :
    (bigSep reads (fun b => ((c : Thread nD τ).loc b) ↦{fullShare} V m c b) : sProp (MM F)) = hAt c fullShare (V m c main_arg3) := by
  unfold reads
  rw [bigSep_singleton]

/-- The tables' halves, one by one. -/
theorem tables_eq (c : Dev nD) (v : pre0.Contents (Elt F)) :
    (Pipeline.ΦT pre0 v c : sProp (MM F))
      = iprop((((c : Thread nD τ).loc main_v14) ↦{fullShare.right} v 0) ∗ (((c : Thread nD τ).loc main_arg1) ↦{fullShare.right} v 1) ∗ (((c : Thread nD τ).loc main_arg2) ↦{fullShare.right} v 2)) := by
  unfold Pipeline.ΦT Pipeline.prefHeld
  exact bigSep_univ_eq_bigSepL [(0 : Fin 3), (1 : Fin 3), (2 : Fin 3)] (by decide) (by decide) _

/-- What the region hands over, one by one. -/
theorem start_eq (c : Dev nD) :
    (Pipeline.ΦD osem0 spec0 reads (V m) c : sProp (MM F))
      = iprop(((∃ f, xAt c Finset.univ f) ∗ (∃ f, ((c : Thread nD τ).loc cc0_scratch1) ↦{fullShare} f)) ∗ (∃ r, prngReg c r)
          ∗ (semVal ((c : Thread nD τ), SemLoc.dma 5) 0 ∗ semVal ((c : Thread nD τ), SemLoc.dma 6) 0) ∗ hAt c fullShare (V m c main_arg3)) := by
  rw [Pipeline.ΦD_eq, scopedRest0_eq, osem_eq, reads_eq]
  rfl

/-- Both slots free, from the whole scratch. -/
theorem slots_split (c : Dev nD) (src : Vec F S24576 .i32) (H : Vec F S8192x4096 .f32) (n : ℕ) :
    iprop((∃ f, xAt c Finset.univ f) ∗ semVal ((c : Thread nD τ), SemLoc.dma 5) 0 ∗ semVal ((c : Thread nD τ), SemLoc.dma 6) 0 ∗ hAt c fullShare H)
      ⊢ slots c src H n 0 := by
  have hx : ∀ f : Vec F S2x256x4096 .f32, xAt c Finset.univ f ⊢ iprop(xAt c (slotSet 0) f ∗ xAt c (slotSet 1) f) := fun f => by
    have h := (pointsTo_split_subset (Ix := Unit) (Name := ℕ) (U := Pipeline.UD sig nD τ) (Lvl := ℕ) (ℓ := (c : Thread nD τ).loc cc0_scratch0) (q := fullShare) (f := f) (Finset.subset_univ (slotSet 0))).1
    rw [slot_compl] at h
    exact h
  unfold slots
  rw [if_pos rfl]
  unfold free
  iintro ⟨⟨%f, Hx⟩, H5, H6, Hh⟩
  ihave Hx := (hx f) $$ Hx
  ihave Hh := (pointsTo_share (PosShare.mem_left_op_right fullShare)).1 $$ Hh
  icases Hx with ⟨Hx0, Hx1⟩
  icases Hh with ⟨Hh0, Hh1⟩
  isplitl [Hx0 H5 Hh0]
  · isplitl [Hx0]; · iexists f; iexact Hx0
    isplitl [Hh0]; · iexact Hh0
    iexact H5
  isplitl [Hx1]; · iexists f; iexact Hx1
  isplitl [Hh1]; · iexact Hh1
  iexact H6

/-- After the last point both slots are free, and the scratch is whole again. -/
theorem slots_join (c : Dev nD) (src : Vec F S24576 .i32) (H : Vec F S8192x4096 .f32) (n : ℕ) (hn : n ≤ 96) :
    slots c src H n 96
      ⊢ iprop((∃ f, xAt c Finset.univ f) ∗ semVal ((c : Thread nD τ), SemLoc.dma 5) 0 ∗ semVal ((c : Thread nD τ), SemLoc.dma 6) 0 ∗ hAt c fullShare H) := by
  have hx : ∀ f f' : Vec F S2x256x4096 .f32, iprop(xAt c (slotSet 0) f ∗ xAt c (slotSet 1) f') ⊢ iprop(∃ f, xAt c Finset.univ f) := fun f f' => by
    have h := pointsTo_join_subset (Ix := Unit) (Name := ℕ) (U := Pipeline.UD sig nD τ) (Lvl := ℕ) (ℓ := (c : Thread nD τ).loc cc0_scratch0) (q := fullShare) (g := f) (f := f') (Finset.subset_univ (slotSet 0))
    rw [slot_compl] at h
    iintro H
    iexists _
    iapply h
    iexact H
  unfold slots sent
  rw [if_neg (by decide : ¬ (96 = 0)), if_neg (by omega : ¬ 96 < n)]
  unfold free
  iintro ⟨⟨⟨%f, Hx0⟩, Hh0, H5⟩, ⟨%f', Hx1⟩, Hh1, H6⟩
  ihave Hx := (hx f f') $$ [Hx0 Hx1]
  · isplitl [Hx0]; · iexact Hx0
    iexact Hx1
  ihave Hh := (pointsTo_share (PosShare.mem_left_op_right fullShare)).2 $$ [Hh0 Hh1]
  · isplitl [Hh0]; · iexact Hh0
    iexact Hh1
  isplitl [Hx]; · iexact Hx
  isplitl [H5]; · iexact H5
  isplitl [H6]; · iexact H6
  iexact Hh

/-- The kernel's start. -/
theorem start (c : Dev nD) : iprop(Pipeline.ΦD osem0 spec0 reads (V m) c ∗ Pipeline.ΦT pre0 (tabs m) c) ⊢ held (m := m) c 0 := by
  obtain rfl : c = 0 := Subsingleton.elim _ _
  rw [start_eq, tables_eq]
  unfold held
  iintro ⟨⟨⟨Hx, ⟨%f, Hf⟩⟩, Hp, ⟨H5, H6⟩, Hh⟩, Hv, Hn, Ht⟩
  ihave Hs := (slots_split (0 : Dev nD) (V m 0 main_arg2) (V m 0 main_arg3) (cnt m)) $$ [Hx H5 H6 Hh]
  · isplitl [Hx]; · iexact Hx
    isplitl [H5]; · iexact H5
    isplitl [H6]; · iexact H6
    iexact Hh
  isplitl [Hs]; · iexact Hs
  isplitl [Hf]
  · iexists f
    rw [owns_whole]
    iexact Hf
  isplitl [Hp]; · iexact Hp
  isplitl [Hv]; · iexact Hv
  isplitl [Hn]; · iexact Hn
  iexact Ht

include g in
/-- The kernel's end. -/
theorem finish (c : Dev nD) : held (m := m) c 96 ⊢ Pipeline.ΦD osem0 spec0 reads (V m) c := by
  rw [start_eq]
  unfold held
  simp only [owns_whole]
  iintro ⟨Hs, Hf, Hp, -, -, -⟩
  ihave Hs := (slots_join c (V m c main_arg2) (V m c main_arg3) (cnt m) g.le) $$ Hs
  icases Hs with ⟨Hx, H5, H6, Hh⟩
  isplitl [Hx Hf]
  · isplitl [Hx]; · iexact Hx
    iexact Hf
  isplitl [Hp]; · iexact Hp
  isplitl [H5 H6]
  · isplitl [H5]; · iexact H5
    iexact H6
  iexact Hh

theorem tabs_eq (c : Dev nD) (k : Fin 3) : V m c (pre0.ref k) = tabs m k := by
  obtain rfl : c = 0 := Subsingleton.elim _ _
  fin_cases k <;> rfl

theorem last_eq (c : Dev nD) : (dats g 0 c).Φ (Fin.last (cc g).N) = held (m := m) c 96 := by
  show held (m := m) c (Fin.last (cc g).N).val = held (m := m) c 96
  exact congrArg (held (m := m) c) N_0

theorem first_eq (c : Dev nD) : (dats g 0 c).Φ 0 = held (m := m) c 0 := rfl

set_option backward.isDefEq.respectTransparency.types false in
set_option maxHeartbeats 1600000 in
/-- Every run ends, with the arrays as the proof data says and every semaphore at zero. -/
theorem run_main (ρ : Dev nD → PrngReg) : θ_run defs (onTc (τ := τ) (main (F := F))) (s₀ m ρ)
    (fun r => Pipeline.FramePost (Pipeline.pin pcfgs (adm g)) (dats g) 0 (V m) r ∧ r.2.sem = fun _ => 0) :=
  Pipeline.θ_run_frameP_dma (Q' := _) pcfgs (adm g) (dats g) (0 : Fin 1) launch0 osem0 defs₀ Variants.none osem_facts reads reads_sub m ρ main
    (hbody := fun c => (body_obligation g c).loose) (hshare := fun c => (dats g 0 c).share_full fun _ => rfl)
    (howed := fun _ _ => rfl) (V := V m) (hmain := host_main m Variants.none) (hA := A_eq g) (hpf := tabs_eq)
    (hin := fun c => by rw [first_eq]; exact start c) (hout := fun c => by rw [last_eq]; exact finish g c)

end Cert.ExpertsIdeal.Hand
end
-- ==== Proof.ExpertsIdealFrame.lean ====
/- The experts kernel as written: from tables in range every run ends, the arguments unchanged and every semaphore at zero. -/
module
public import proofs.«01_k».proof.Proof.ExpertsIdealLaunch
public import proofs.«01_k».proof.Proof.ExpertsPre
@[expose] public section
set_option maxRecDepth 16384
noncomputable section
namespace Cert.ExpertsIdeal.Hand
open Cert.ExpertsIdeal Cert.ExpertsIdeal.Gen Idealize.ShloMosaic Idealize.ShloMosaic.TcCoe Idealize.SL.Sem Cert.Pre_ranges.Val

variable {F : FTy → Type} [FloatOps F]
variable (m : (ℓ : Loc nD τ sig) → Buf (Elt F) ℓ)

/-- The number of the tile whose expert tile `i` is given: `i` itself, or the last tile that holds rows. -/
def tileWords (nt : IVec S1 32) : IVec S96 32 :=
  minsi (iotaInDim S96 32 0) (broadcastInDim S96 ![] bcast_S_S96 (subi (shapeCast S_ nt shapeCasts_S1_S_) (constantI S_ 32 1#32)))

/-- The experts' table as the kernel finds it. -/
theorem V_table (c : Dev nD) : (V m c main_v14 : IVec S96 32) = Host.gather gather_S96_S96x1_S96_n_0_n_n_0_1_1 (m ((c : Thread nD τ).loc main_arg0) : IVec S96 32)
    (broadcastInDim S96x1 ![0] bcast_S96_S96x1_0 (select (cmpi .slt (tileWords (m ((c : Thread nD τ).loc main_arg1))) (broadcastInDim S96 ![] bcast_S_S96 (constantI S_ 32 0#32)))
      (addi (tileWords (m ((c : Thread nD τ).loc main_arg1))) (broadcastInDim S96 ![] bcast_S_S96 (constantI S_ 32 96#32))) (tileWords (m ((c : Thread nD τ).loc main_arg1))))) := by
  unfold V
  simp only [hostOps0]
  after_results_simp <;> rfl

/-- The tile whose expert tile `i` is given, as a number. -/
theorem tileWords_apply (nt : IVec S1 32) (h0 : 1 ≤ (nt (ix1 0)).toNat) (h1 : (nt (ix1 0)).toNat < 97) (i : Fin 96) :
    tileWords nt (ix1 i) = BitVec.ofNat 32 (min i.val ((nt (ix1 0)).toNat - 1)) := by
  rw [← last_word (n := (nt (ix1 0)).toNat) (by omega) h0 (by omega), ← ofNat_toNat]
  have e : ∀ j : S1.Idx, nt j = nt (ix1 0) := fun j => congrArg nt (funext fun a => by fin_cases a; exact Subsingleton.elim (α := Fin 1) _ _)
  exact congrArg (fun v : BitVec 32 => IntOp.minsi (BitVec.ofNat 32 i.val) (v - 1#32)) (e _)

/-- The expert the kernel is given for tile `i`. -/
theorem table_apply (h : Ranges (m ((0 : Dev nD), main_arg0)) (m ((0 : Dev nD), main_arg1)) (m ((0 : Dev nD), main_arg2))) (i : Fin 96) :
    (V m 0 main_v14 : IVec S96 32) (ix1 i) = (m ((0 : Dev nD), main_arg0) : IVec S96 32) (ix1 ⟨min i.val (((m ((0 : Dev nD), main_arg1) : IVec S1 32) (ix1 0)).toNat - 1), by omega⟩) := by
  rw [V_table]
  refine Routing.gather_take1 _ rfl rfl rfl rfl _ _ i _ ?_ (by norm_num)
  have e := tileWords_apply (m ((0 : Dev nD), main_arg1) : IVec S1 32) h.pos h.le i
  refine Eq.trans ?_ (wrap_word (a := min i.val (((m ((0 : Dev nD), main_arg1) : IVec S1 32) (ix1 0)).toNat - 1)) (by omega) (IntOp.addi (tileWords (m ((0 : Dev nD), main_arg1)) (ix1 i)) 96#32))
  rw [← e]
  refine (Routing.bcCol _ _ i).trans ?_
  rfl

/-- From tables in range the kernel's blocks lie inside the weights. -/
theorem good (h : Ranges (m ((0 : Dev nD), main_arg0)) (m ((0 : Dev nD), main_arg1)) (m ((0 : Dev nD), main_arg2))) : Good m where
  te x := by
    obtain ⟨i, rfl⟩ : ∃ i : Fin 96, x = ix1 i := ⟨x 0, funext fun a => by fin_cases a; rfl⟩
    have e := table_apply m h i
    have := h.te ⟨min i.val (((m ((0 : Dev nD), main_arg1) : IVec S1 32) (ix1 0)).toNat - 1), by omega⟩
    rw [e]
    omega
  pos := by rw [V_arg1]; exact h.pos
  le := by rw [V_arg1]; exact Nat.lt_succ_iff.1 h.le
  src := fun x => by
    obtain ⟨i, rfl⟩ : ∃ i : Fin 24576, x = ix1 i := ⟨x 0, funext fun a => by fin_cases a; rfl⟩
    rw [V_arg2]
    exact h.src i

/-- A buffer that is no window's array ends as the kernel finds it. -/
theorem rest {r : PUnit × MemSt nD τ sig (Elt F)} {g : Good m} (h : Pipeline.FramePost (Pipeline.pin pcfgs (adm g)) (dats g) 0 (V m) r) (c : Dev nD) (b : Ref sig .tc)
    (hs : b.isScoped = false) (ha : ∀ w, (spec0 w).arr.view.ref ≠ b) : r.2.mem ((c.tc : Thread nD τ).loc b) = V m c b :=
  (h c).2 b (Pipeline.mem_restRefs_of b hs ha)

/-- From tables in range every run ends, with the arguments unchanged, the result as the proof data says and every semaphore at zero. -/
theorem run_kept (h : Ranges (m ((0 : Dev nD), main_arg0)) (m ((0 : Dev nD), main_arg1)) (m ((0 : Dev nD), main_arg2))) (ρ : Dev nD → PrngReg) :
    θ_run defs (onTc (τ := τ) (main (F := F))) ⟨m, fun _ => 0, ρ⟩ fun r => (∀ c : Dev nD,
      r.2.mem ((c.tc : Thread nD τ).loc main_v15) = (dats (good m h) 0 c).arrAt (3 : Fin 4) (cc (good m h)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0 :=
  (θ_run defs _ _).mono (fun r hr => ⟨fun c => ⟨(hr.1 c).1 (3 : Fin 4),
      (rest m hr.1 c main_arg0 rfl (by decide)).trans (V_arg0 m c), (rest m hr.1 c main_arg1 rfl (by decide)).trans (V_arg1 m c),
      (rest m hr.1 c main_arg2 rfl (by decide)).trans (V_arg2 m c), (rest m hr.1 c main_arg3 rfl (by decide)).trans (V_arg3 m c),
      (rest m hr.1 c main_arg4 rfl (by decide)).trans (V_arg4 m c), (rest m hr.1 c main_arg5 rfl (by decide)).trans (V_arg5 m c),
      (rest m hr.1 c main_arg6 rfl (by decide)).trans (V_arg6 m c)⟩, hr.2⟩) (run_main (good m h) ρ)
end Cert.ExpertsIdeal.Hand
end
-- ==== Proof.ExpertsIdealVal.lean ====
/- What the experts kernel leaves: every row of a tile that holds rows is its expert's answer to the row the table names, every other row is zero. -/
module
public import proofs.«01_k».proof.Proof.ExpertsIdealFrame
public import Idealize.ShloMosaic.Lib.Pipeline.ValueKit
public import Idealize.ShloMosaic.Lib.Pointwise
@[expose] public section
set_option maxRecDepth 16384
noncomputable section
namespace Cert.ExpertsIdeal.Hand
open Cert.ExpertsIdeal Cert.ExpertsIdeal.Gen Idealize.ShloMosaic Idealize.ShloMosaic.TcCoe Idealize.SL.Sem Cert.Pre_ranges.Val

/-- A number times the logistic function of it. -/
def silu (a : EReal) : EReal := a * Ideal.div 1 (1 + Ideal.exp (-a))

/-- An expert's answer to a row, at a column: the gated hidden layer times the last weights. -/
def answer (x : Fin 4096 → EReal) (wg wu : Fin 4096 → Fin 512 → EReal) (wd : Fin 512 → Fin 4096 → EReal) (d : Fin 4096) : EReal :=
  ∑ f : Fin 512, silu (∑ k : Fin 4096, x k * wg k f) * (∑ k : Fin 4096, x k * wu k f) * wd f d

/-- The row table entry `r` names. -/
def rowOf (src : IVec S24576 32) (H : Vec Ideal S8192x4096 .f32) (r : Fin 24576) (k : Fin 4096) : EReal :=
  H (ix2 (Fin.ofNat 8192 (src (ix1 r)).toNat) k)

/-- Expert `e` of the first layer's 32, of an array of experts in groups of eight. -/
def ofExpert {a b : ℕ} (w : (⟨5, ![2, 4, 8, a, b]⟩ : Shape).Idx → EReal) (e : ℕ) (k : Fin a) (f : Fin b) : EReal :=
  w (ix5 0 (Fin.ofNat 4 (e / 8)) (Fin.ofNat 8 e) k f)

/-- The whole result. -/
def routed (te : IVec S96 32) (nt : IVec S1 32) (src : IVec S24576 32) (H : Vec Ideal S8192x4096 .f32) (wg wu : Vec Ideal S2x4x8x4096x512 .f32)
    (wd : Vec Ideal S2x4x8x512x4096 .f32) : Vec Ideal S24576x4096 .f32 := fun i =>
  if (i 0).val / 256 < (nt (ix1 0)).toNat then
    answer (rowOf src H ⟨(i 0).val, (i 0).isLt⟩) (ofExpert wg (te (ix1 (Fin.ofNat 96 ((i 0).val / 256)))).toNat) (ofExpert wu (te (ix1 (Fin.ofNat 96 ((i 0).val / 256)))).toNat)
      (ofExpert wd (te (ix1 (Fin.ofNat 96 ((i 0).val / 256)))).toNat) ⟨(i 1).val, (i 1).isLt⟩
  else (0 : EReal)

/-- The experts of both layers on one axis, read at one of the first layer's. -/
theorem cast_expert {a b : ℕ} (w : (⟨5, ![2, 4, 8, a, b]⟩ : Shape).Idx → EReal) (h : (⟨5, ![2, 4, 8, a, b]⟩ : Shape).ShapeCasts ⟨3, ![64, a, b]⟩) (e : Fin 64) (he : e.val < 32) (k : Fin a) (f : Fin b) :
    shapeCast ⟨3, ![64, a, b]⟩ w h (ix3 e k f) = ofExpert w e.val k f := by
  refine shapeCast_apply w h _ _ ?_
  rw [Shape.rowMajor_val_five, Shape.rowMajor_val_three]
  show ((((0 * 4 + e.val / 8 % 4) * 8 + e.val % 8) * a + k.val) * b + f.val) = (e.val * a + k.val) * b + f.val
  have : (0 * 4 + e.val / 8 % 4) * 8 + e.val % 8 = e.val := by omega
  rw [this]

/-- One tile's rows, read at a row and a column. -/
theorem pay_apply (rows : Vec Ideal S1x256x4096 .f32) (x0 x1 : Vec Ideal S1x4096x512 .f32) (x2 : Vec Ideal S1x512x4096 .f32) (j : Fin 256) (d : Fin 4096) :
    (k0_pay2 (k0_pay1 rows) x0 x1 x2 (ix2 j d) : EReal) = answer (fun k => rows (ix3 0 j k)) (fun k f => x0 (ix3 0 k f)) (fun k f => x1 (ix3 0 k f)) (fun f d => x2 (ix3 0 f d)) d := by
  pointwise [k0_pay2, k0_pay1]
  unfold answer silu
  simp only [zero_sub]

/-- Outside the tiles that hold rows the kernel stores zeros. -/
theorem zero_apply (j : Fin 256) (d : Fin 4096) : (k0_pay4 (F := Ideal) (ix2 j d) : EReal) = 0 := by
  pointwise [k0_pay4]

/-- The rows gathered for a tile, read at a row and a column. -/
theorem rows_apply (src : IVec S24576 32) (H : Vec Ideal S8192x4096 .f32) (i : grid0.Coords) (j : Fin 256) (k : Fin 4096) (r : Fin 24576) (hr : r.val = 256 * (i 0).val + j.val) :
    (tileRows src H i (ix3 0 j k) : EReal) = rowOf src H r k := by
  unfold tileRows
  show gath src H (i 0).val ((Rect.unit (s := S2x256x4096) (k0_off15 i) S1x256x4096.size _).emb (ix3 0 j k)) = _
  unfold gath rowOf
  have e1 : ∀ ho, ((Rect.unit (s := S2x256x4096) (k0_off15 i) S1x256x4096.size ho).emb (ix3 0 j k) 1).val = j.val := fun ho => by
    rw [Rect.emb_apply]
    show k0_off15 i 1 + 1 * j.val = _
    rw [off15_eq]
    show 0 + 1 * j.val = _
    omega
  have e2 : ∀ ho, ((Rect.unit (s := S2x256x4096) (k0_off15 i) S1x256x4096.size ho).emb (ix3 0 j k) 2).val = k.val := fun ho => by
    rw [Rect.emb_apply]
    show k0_off15 i 2 + 1 * k.val = _
    rw [off15_eq]
    show 0 + 1 * k.val = _
    omega
  have hN : (Fin.ofNat 24576 (256 * (i 0).val + j.val)) = r := Fin.ext ((Nat.mod_eq_of_lt (hr ▸ r.isLt)).trans hr.symm)
  rw [e1, hN]
  exact congrArg (fun z => H (ix2 _ z)) (Fin.ext (e2 _))

variable {m : (ℓ : Loc nD τ sig) → Buf (Elt Ideal) ℓ} (g : Good m)

/-- The index of the block of the gate's weights. -/
theorem in_index0 (t : Fin (cc g).N) (n : Fin 64) (hn : (V m 0 main_v14 (ix1 (grid0.coords t 0)) : BitVec 32).toNat = n.val) :
    ((cc g).win (0 : Fin 4)).index t = ![n.val, 0, 0] :=
  (index1 m (grid0.coords t)).trans (congrArg (fun z : ℕ => ![z, 0, 0]) hn)

/-- Where the block of the gate's weights lies. -/
theorem in_emb0 (t : Fin (cc g).N) (n : Fin 64) (hi : ((cc g).win (0 : Fin 4)).index t = ![n.val, 0, 0]) (k : Fin 4096) (f : Fin 512) :
    (((cc g).win (0 : Fin 4)).rect t).emb (ix3 0 k f) = ix3 n k f := by
  refine funext fun a => Fin.ext ?_
  refine (Pipeline.Window.rect_emb_val ((cc g).win (0 : Fin 4)) t (ix3 0 k f) a).trans ?_
  rw [hi]
  match a with
  | 0 => show n.val * 1 + 0 = n.val; omega
  | 1 => show 0 * 4096 + k.val = k.val; omega
  | 2 => show 0 * 512 + f.val = f.val; omega

/-- The block of the gate's weights, read. -/
theorem read0 (t : Fin (cc g).N) (n : Fin 64) (hn : (V m 0 main_v14 (ix1 (grid0.coords t 0)) : BitVec 32).toNat = n.val) (k : Fin 4096) (f : Fin 512) :
    iblk g 0 0 t (ix3 0 k f) = (V m 0 main_v0 : Vec Ideal S64x4096x512 .f32) (ix3 n k f) :=
  congrArg (α := S64x4096x512.Idx) (V m 0 main_v0) (in_emb0 g t n (in_index0 g t n hn) k f)

/-- The index of the block of the second weights. -/
theorem in_index1 (t : Fin (cc g).N) (n : Fin 64) (hn : (V m 0 main_v14 (ix1 (grid0.coords t 0)) : BitVec 32).toNat = n.val) :
    ((cc g).win (1 : Fin 4)).index t = ![n.val, 0, 0] :=
  (index2 m (grid0.coords t)).trans (congrArg (fun z : ℕ => ![z, 0, 0]) hn)

/-- Where the block of the second weights lies. -/
theorem in_emb1 (t : Fin (cc g).N) (n : Fin 64) (hi : ((cc g).win (1 : Fin 4)).index t = ![n.val, 0, 0]) (k : Fin 4096) (f : Fin 512) :
    (((cc g).win (1 : Fin 4)).rect t).emb (ix3 0 k f) = ix3 n k f := by
  refine funext fun a => Fin.ext ?_
  refine (Pipeline.Window.rect_emb_val ((cc g).win (1 : Fin 4)) t (ix3 0 k f) a).trans ?_
  rw [hi]
  match a with
  | 0 => show n.val * 1 + 0 = n.val; omega
  | 1 => show 0 * 4096 + k.val = k.val; omega
  | 2 => show 0 * 512 + f.val = f.val; omega

/-- The block of the second weights, read. -/
theorem read1 (t : Fin (cc g).N) (n : Fin 64) (hn : (V m 0 main_v14 (ix1 (grid0.coords t 0)) : BitVec 32).toNat = n.val) (k : Fin 4096) (f : Fin 512) :
    iblk g 0 1 t (ix3 0 k f) = (V m 0 main_v1 : Vec Ideal S64x4096x512 .f32) (ix3 n k f) :=
  congrArg (α := S64x4096x512.Idx) (V m 0 main_v1) (in_emb1 g t n (in_index1 g t n hn) k f)

/-- The index of the block of the last weights. -/
theorem in_index2 (t : Fin (cc g).N) (n : Fin 64) (hn : (V m 0 main_v14 (ix1 (grid0.coords t 0)) : BitVec 32).toNat = n.val) :
    ((cc g).win (2 : Fin 4)).index t = ![n.val, 0, 0] :=
  (index3 m (grid0.coords t)).trans (congrArg (fun z : ℕ => ![z, 0, 0]) hn)

/-- Where the block of the last weights lies. -/
theorem in_emb2 (t : Fin (cc g).N) (n : Fin 64) (hi : ((cc g).win (2 : Fin 4)).index t = ![n.val, 0, 0]) (k : Fin 512) (f : Fin 4096) :
    (((cc g).win (2 : Fin 4)).rect t).emb (ix3 0 k f) = ix3 n k f := by
  refine funext fun a => Fin.ext ?_
  refine (Pipeline.Window.rect_emb_val ((cc g).win (2 : Fin 4)) t (ix3 0 k f) a).trans ?_
  rw [hi]
  match a with
  | 0 => show n.val * 1 + 0 = n.val; omega
  | 1 => show 0 * 512 + k.val = k.val; omega
  | 2 => show 0 * 4096 + f.val = f.val; omega

/-- The block of the last weights, read. -/
theorem read2 (t : Fin (cc g).N) (n : Fin 64) (hn : (V m 0 main_v14 (ix1 (grid0.coords t 0)) : BitVec 32).toNat = n.val) (k : Fin 512) (f : Fin 4096) :
    iblk g 0 2 t (ix3 0 k f) = (V m 0 main_v2 : Vec Ideal S64x512x4096 .f32) (ix3 n k f) :=
  congrArg (α := S64x512x4096.Idx) (V m 0 main_v2) (in_emb2 g t n (in_index2 g t n hn) k f)

/-- The output window's index at a point. -/
theorem out_index (t : Fin (cc g).N) : ((cc g).win (3 : Fin 4)).index t = ![t.val, 0] := by
  have ht : t.val < 96 := lt_of_lt_of_eq t.isLt N_0
  show ![(BitVec.ofNat 32 (grid0.coords t 0).val).toNat, 0] = _
  rw [point_val, BitVec.toNat_ofNat, Nat.mod_eq_of_lt (by omega)]

/-- The blocks written back fill the result. -/
theorem covers : ((cc g).win (3 : Fin 4)).Covers := by
  refine ⟨fun a => ?_, fun β => ?_⟩
  · fin_cases a
    · exact Nat.lt_of_lt_of_eq (by decide : 0 < 256) rfl
    · exact Nat.lt_of_lt_of_eq (by decide : 0 < 4096) rfl
  · have hN96 : (cc g).N = 96 := N_0
    have b0 : (β (0 : Fin 2)).val < (24576 + 256 - 1) / 256 := (β (0 : Fin 2)).isLt
    have b1 : (β (1 : Fin 2)).val < (4096 + 4096 - 1) / 4096 := (β (1 : Fin 2)).isLt
    have hN : (β (0 : Fin 2)).val < (cc g).N := by rw [hN96]; omega
    refine ⟨⟨(β (0 : Fin 2)).val, hN⟩, ?_, fun a => ⟨?_, Or.inl rfl⟩⟩
    · unfold Pipeline.Window.flush
      refine Bool.and_eq_true_iff.2 ⟨rfl, ?_⟩
      by_cases h : (β (0 : Fin 2)).val + 1 = (cc g).N
      · simp [h]
      · refine Bool.or_eq_true_iff.2 (Or.inr ?_)
        have hlt : (β (0 : Fin 2)).val + 1 < (cc g).N := by omega
        refine decide_eq_true ⟨hlt, fun e => ?_⟩
        rw [out_index g, out_index g] at e
        have e0 : (β (0 : Fin 2)).val + 1 = (β (0 : Fin 2)).val := congrFun e 0
        omega
    · rw [out_index g]
      fin_cases a
      · rfl
      · show 0 = (β (1 : Fin 2)).val
        omega

/-- Where the block of the result lies. -/
theorem out_emb (t : Fin (cc g).N) (j : Fin 256) (d : Fin 4096) (r : Fin 24576) (hr : r.val = 256 * t.val + j.val) :
    (((cc g).win (3 : Fin 4)).rect t).emb (ix2 j d) = ix2 r d := by
  refine funext fun a => Fin.ext ?_
  refine (Pipeline.Window.rect_emb_val ((cc g).win (3 : Fin 4)) t (ix2 j d) a).trans ?_
  rw [out_index]
  match a with
  | 0 => show t.val * 256 + j.val = r.val; omega
  | 1 => show 0 * 4096 + d.val = d.val; omega

/-- The arrays as the kernel finds them. -/
theorem V_v0 : (V m 0 main_v0 : Vec Ideal S64x4096x512 .f32) = shapeCast S64x4096x512 (m ((0 : Dev nD), main_arg4) : Vec Ideal S2x4x8x4096x512 .f32) shapeCasts_S2x4x8x4096x512_S64x4096x512 := rfl
theorem V_v1 : (V m 0 main_v1 : Vec Ideal S64x4096x512 .f32) = shapeCast S64x4096x512 (m ((0 : Dev nD), main_arg5) : Vec Ideal S2x4x8x4096x512 .f32) shapeCasts_S2x4x8x4096x512_S64x4096x512 := rfl
theorem V_v2 : (V m 0 main_v2 : Vec Ideal S64x512x4096 .f32) = shapeCast S64x512x4096 (m ((0 : Dev nD), main_arg6) : Vec Ideal S2x4x8x512x4096 .f32) shapeCasts_S2x4x8x512x4096_S64x512x4096 := rfl
theorem V_src : (V m 0 main_arg2 : IVec S24576 32) = m ((0 : Dev nD), main_arg2) := rfl
theorem V_rows : (V m 0 main_arg3 : Vec Ideal S8192x4096 .f32) = m ((0 : Dev nD), main_arg3) := rfl
theorem V_nt : (V m 0 main_arg1 : IVec S1 32) = m ((0 : Dev nD), main_arg1) := rfl

variable (m) in
/-- The whole result of what the memory holds. -/
def result : Vec Ideal S24576x4096 .f32 :=
  routed (m ((0 : Dev nD), main_arg0)) (m ((0 : Dev nD), main_arg1)) (m ((0 : Dev nD), main_arg2)) (m ((0 : Dev nD), main_arg3))
    (m ((0 : Dev nD), main_arg4)) (m ((0 : Dev nD), main_arg5)) (m ((0 : Dev nD), main_arg6))

/-- What the body leaves at a point, read at a row and a column. -/
theorem rowsAt_apply (h : Ranges (m ((0 : Dev nD), main_arg0)) (m ((0 : Dev nD), main_arg1)) (m ((0 : Dev nD), main_arg2))) (t : Fin (cc g).N) (j : Fin 256) (d : Fin 4096) (r : Fin 24576) (hr : r.val = 256 * t.val + j.val) :
    (rowsAt g 0 t (ix2 j d) : EReal) = result m (ix2 r d) := by
  have ht : t.val < 96 := lt_of_lt_of_eq t.isLt N_0
  have hp : (grid0.coords t 0).val = t.val := point_val g t
  have hq : r.val / 256 = t.val := by omega
  unfold rowsAt result routed outRows
  show _ = if r.val / 256 < _ then _ else _
  by_cases hn : t.val < (m ((0 : Dev nD), main_arg1) (ix1 0) : BitVec 32).toNat
  · rw [if_pos (show (grid0.coords t 0).val < cnt m by rw [hp]; exact hn), if_pos (by rw [hq]; exact hn), pay_apply]
    have hw : (V m 0 main_v14 (ix1 (grid0.coords t 0)) : BitVec 32) = m ((0 : Dev nD), main_arg0) (ix1 (Fin.ofNat 96 (r.val / 256))) := by
      refine (table_apply m h (grid0.coords t 0)).trans (congrArg (fun z => m ((0 : Dev nD), main_arg0) (ix1 z)) (Fin.ext ?_))
      show min (grid0.coords t 0).val _ = r.val / 256 % 96
      omega
    have hlt := h.te (Fin.ofNat 96 (r.val / 256))
    generalize hx : (m ((0 : Dev nD), main_arg0) (ix1 (Fin.ofNat 96 (r.val / 256))) : BitVec 32).toNat = x at hlt
    have hw' : (V m 0 main_v14 (ix1 (grid0.coords t 0)) : BitVec 32).toNat = x := (congrArg BitVec.toNat hw).trans hx
    have f0 : (fun k f => iblk g 0 0 t (ix3 0 k f)) = ofExpert (m ((0 : Dev nD), main_arg4)) x := by
      funext k f
      rw [read0 g t ⟨x, by omega⟩ hw', V_v0]
      exact cast_expert _ _ ⟨x, by omega⟩ hlt k f
    have f1 : (fun k f => iblk g 0 1 t (ix3 0 k f)) = ofExpert (m ((0 : Dev nD), main_arg5)) x := by
      funext k f
      rw [read1 g t ⟨x, by omega⟩ hw', V_v1]
      exact cast_expert _ _ ⟨x, by omega⟩ hlt k f
    have f2 : (fun k f => iblk g 0 2 t (ix3 0 k f)) = ofExpert (m ((0 : Dev nD), main_arg6)) x := by
      funext k f
      rw [read2 g t ⟨x, by omega⟩ hw', V_v2]
      exact cast_expert _ _ ⟨x, by omega⟩ hlt k f
    have f3 : (fun k => tileRows (V m 0 main_arg2) (V m 0 main_arg3) (grid0.coords t) (ix3 0 j k)) = rowOf (m ((0 : Dev nD), main_arg2)) (m ((0 : Dev nD), main_arg3)) r := by
      funext k
      exact rows_apply _ _ _ j k r (by rw [hp]; exact hr)
    rw [f0, f1, f2, f3, ← hx]
    rfl
  · rw [if_neg (show ¬(grid0.coords t 0).val < cnt m by rw [hp]; exact hn), if_neg (by rw [hq]; exact hn), zero_apply]

/-- The result's array when the kernel has run. -/
theorem final (h : Ranges (m ((0 : Dev nD), main_arg0)) (m ((0 : Dev nD), main_arg1)) (m ((0 : Dev nD), main_arg2))) : (dats g 0 0).arrAt (3 : Fin 4) (cc g).N = result m := by
  refine Pipeline.Dat.arrAt_eq_of_covers (dats g 0 0) (3 : Fin 4) _ (covers g) fun t hf y => ?_
  have ht : t.val < 96 := lt_of_lt_of_eq t.isLt N_0
  obtain ⟨j, d, rfl⟩ : ∃ (j : Fin 256) (d : Fin 4096), y = ix2 j d :=
    ⟨⟨(y (0 : Fin 2)).val, (y (0 : Fin 2)).isLt⟩, ⟨(y (1 : Fin 2)).val, (y (1 : Fin 2)).isLt⟩, funext fun a => by match a with | 0 => rfl | 1 => rfl⟩
  have hr : 256 * t.val + j.val < 24576 := by omega
  refine ((congrFun (after3 g 0 t) (ix2 j d)).trans (rowsAt_apply g h t j d ⟨_, hr⟩ rfl)).trans ?_
  exact (congrArg (α := S24576x4096.Idx) (result m) (out_emb g t j d ⟨_, hr⟩ rfl)).symm
end Cert.ExpertsIdeal.Hand
end
-- ==== Proof.ExpertsRefVal.lean ====
/- What the plain routed experts leave: every expert of every group answers every row and the one-hot row of a used tile keeps one of the answers. -/
module
public import proofs.«01_k».proof.Proof.ExpertsIdealVal
public import proofs.«01_k».proof.Proof.Gen.ExpertsRefIdeal.Run
@[expose] public section
set_option maxRecDepth 16384
noncomputable section
namespace Cert.ExpertsRefIdeal.Hand
open Cert.ExpertsRefIdeal Cert.ExpertsRefIdeal.Gen Idealize.ShloMosaic Idealize.ShloMosaic.TcCoe Idealize.SL.Sem Cert.Pre_ranges.Val
open Cert.ExpertsIdeal.Hand (silu answer rowOf ofExpert routed)

/-- The rows the table names. -/
def rows (src : IVec S24576 32) (H : FVec Ideal S8192x4096 .f32) : FVec Ideal S24576x4096 .f32 :=
  Host.gather gather_S8192x4096_S24576x1_S24576x4096_1_0_n_n_0_1_14096 H (broadcastInDim S24576x1 ![0] bcast_S24576_S24576x1_0 (select (cmpi .slt src (broadcastInDim S24576 ![] bcast_S_S24576 (constantI S_ 32 0#32))) (addi src (broadcastInDim S24576 ![] bcast_S_S24576 (constantI S_ 32 8192#32))) src))

/-- Each row's tile. -/
def tiles : IVec S24576 32 := Routing.pyDiv bcast_S_S24576 (iotaInDim S24576 32 0) (constantI S_ 32 256#32)

/-- The one-hot rows over the experts, zero outside the used tiles. -/
def hot (te : IVec S96 32) (nt : IVec S1 32) : FVec Ideal S24576x32 .f32 :=
  mulf (uitofp .f32 (cmpi .eq (broadcastInDim S24576x32 ![0, 1] bcast_S24576x1_S24576x32_0_1 (broadcastInDim S24576x1 ![0] bcast_S24576_S24576x1_0 (shapeCast _ (broadcastInDim S96x256 ![0] bcast_S96_S96x256_0 te) shapeCasts_S96x256_S24576))) (broadcastInDim S24576x32 ![0, 1] bcast_S1x32_S24576x32_0_1 (iotaInDim S1x32 32 1))))
    (broadcastInDim S24576x32 ![0, 1] bcast_S24576x1_S24576x32_0_1 (uitofp .f32 (broadcastInDim S24576x1 ![0] bcast_S24576_S24576x1_0 (cmpi .slt tiles (broadcastInDim S24576 ![] bcast_S_S24576 (shapeCast _ nt shapeCasts_S1_S_))))))

/-- A group of eight experts' answers to every row, weighted. -/
def group (T : FVec Ideal S24576x4096 .f32) (wg wu : FVec Ideal S8x4096x512 .f32) (wd : FVec Ideal S8x512x4096 .f32) (cb : FVec Ideal S24576x8 .f32) : FVec Ideal S24576x4096 .f32 :=
  Host.dotGeneral dot_S24576x8x512_S8x512x4096_S24576x4096_12_01_0_2_n_n none
    (mulf (mulf (mulf (Host.dotGeneral dot_S24576x4096_S8x4096x512_S24576x8x512_1_1_0_02_n_n none T wg)
        (Host.divf (broadcastInDim S24576x8x512 ![] bcast_S_S24576x8x512 (constant S_ .f32 0x3F800000#32)) (addf (broadcastInDim S24576x8x512 ![] bcast_S_S24576x8x512 (constant S_ .f32 0x3F800000#32)) (Host.exp (Host.negf (Host.dotGeneral dot_S24576x4096_S8x4096x512_S24576x8x512_1_1_0_02_n_n none T wg))))))
        (Host.dotGeneral dot_S24576x4096_S8x4096x512_S24576x8x512_1_1_0_02_n_n none T wu))
      (broadcastInDim S24576x8x512 ![0, 1, 2] bcast_S24576x8x1_S24576x8x512_0_1_2 (broadcastInDim S24576x8x1 ![0, 1] bcast_S24576x8_S24576x8x1_0_1 cb))) wd

/-- One group's column of the one-hot rows. -/
def col (g : ℕ) (h : S24576x4x8.Slices ![0, g, 0] S24576x1x8) (x : FVec Ideal S24576x4x8 .f32) : FVec Ideal S24576x8 .f32 :=
  shapeCast _ (extractStridedSlice S24576x1x8 ![0, g, 0] x h) shapeCasts_S24576x1x8_S24576x8

/-- One group's weights of the first layer. -/
def first (g : ℕ) (h : S2x4x8x4096x512.Slices ![0, g, 0, 0, 0] S1x1x8x4096x512) (w : FVec Ideal S2x4x8x4096x512 .f32) : FVec Ideal S8x4096x512 .f32 :=
  shapeCast _ (extractStridedSlice S1x1x8x4096x512 ![0, g, 0, 0, 0] w h) shapeCasts_S1x1x8x4096x512_S8x4096x512

/-- One group's last weights of the first layer. -/
def last (g : ℕ) (h : S2x4x8x512x4096.Slices ![0, g, 0, 0, 0] S1x1x8x512x4096) (w : FVec Ideal S2x4x8x512x4096 .f32) : FVec Ideal S8x512x4096 .f32 :=
  shapeCast _ (extractStridedSlice S1x1x8x512x4096 ![0, g, 0, 0, 0] w h) shapeCasts_S1x1x8x512x4096_S8x512x4096

/-- A group's answers, read at a row and a column. -/
theorem group_apply (T : FVec Ideal S24576x4096 .f32) (wg wu : FVec Ideal S8x4096x512 .f32) (wd : FVec Ideal S8x512x4096 .f32) (cb : FVec Ideal S24576x8 .f32) (r : Fin 24576) (d : Fin 4096) :
    (group T wg wu wd cb (ix2 r d) : EReal) = ∑ e : Fin 8, ∑ f : Fin 512, (silu (∑ k : Fin 4096, T (ix2 r k) * wg (ix3 e k f)) * (∑ k : Fin 4096, T (ix2 r k) * wu (ix3 e k f)) * cb (ix2 r e)) * wd (ix3 e f d) := by
  pointwise [group]
  unfold silu
  rfl

/-- A bit as a number. -/
theorem bit_apply (b : Bool) : (FloatOps.uitofp (F := Ideal) .f32 (BitVec.ofBool b) : EReal) = if b = true then 1 else 0 := by
  cases b
  · show (((BitVec.ofBool false).toNat : ℝ) : EReal) = _
    simp
  · show (((BitVec.ofBool true).toNat : ℝ) : EReal) = _
    simp

/-- A row's tile is its number by the tile's length. -/
theorem tiles_apply (r : Fin 24576) : tiles (ix1 r) = BitVec.ofNat 32 (r.val / 256) :=
  Routing.pyDiv_ap bcast_S_S24576 _ _ (ix1 r) (a := r.val) (b := 256) rfl rfl (by omega) (by norm_num) (by norm_num)

/-- The one-hot rows, read at a row and an expert. -/
theorem hot_apply (te : IVec S96 32) (nt : IVec S1 32) (src : IVec S24576 32) (h : Ranges te nt src) (r : Fin 24576) (e : Fin 32) :
    (hot te nt (ix2 r e) : EReal) = if (te (ix1 (Fin.ofNat 96 (r.val / 256)))).toNat = e.val ∧ r.val / 256 < (nt (ix1 0)).toNat then 1 else 0 := by
  pointwise [hot]
  rw [tiles_apply]
  have hi : ∀ hh, (⟨r.val / 256, hh⟩ : Fin 96) = Fin.ofNat 96 (r.val / 256) := fun hh => Fin.ext (Nat.mod_eq_of_lt hh).symm
  rw [hi]
  have hn := h.le
  have e1 : IntOp.cmpi .slt (BitVec.ofNat 32 (r.val / 256)) (nt (ix1 0)) = BitVec.ofBool (decide (r.val / 256 < (nt (ix1 0)).toNat)) := by
    conv_lhs => rw [ofNat_toNat (nt (ix1 0))]
    exact congrArg BitVec.ofBool (Routing.slt_ofNat32 (by omega) (by omega))
  have e2 : IntOp.cmpi .eq (te (ix1 (Fin.ofNat 96 (r.val / 256)))) (BitVec.ofNat 32 e.val) = BitVec.ofBool (decide ((te (ix1 (Fin.ofNat 96 (r.val / 256)))).toNat = e.val)) := by
    refine congrArg BitVec.ofBool ?_
    have ht := h.te (Fin.ofNat 96 (r.val / 256))
    refine Bool.eq_iff_iff.2 ?_
    rw [beq_iff_eq, decide_eq_true_iff]
    conv_lhs => rw [ofNat_toNat (te (ix1 (Fin.ofNat 96 (r.val / 256))))]
    exact WordCmp.ofNat_eq_ofNat_iff (by omega) (by omega)
  rw [e1, e2, bit_apply, bit_apply]
  simp only [decide_eq_true_iff]
  by_cases a : (te (ix1 (Fin.ofNat 96 (r.val / 256)))).toNat = e.val <;> by_cases b : r.val / 256 < (nt (ix1 0)).toNat <;> simp [a, b]

/-- The rows the table names, read at a row and a column. -/
theorem rows_apply (te : IVec S96 32) (nt : IVec S1 32) (src : IVec S24576 32) (h : Ranges te nt src) (H : FVec Ideal S8192x4096 .f32) (r : Fin 24576) (k : Fin 4096) :
    (rows src H (ix2 r k) : EReal) = rowOf src H r k := by
  have hr := h.src r
  refine Routing.gather_row _ rfl rfl rfl rfl rfl H _ r k (Fin.ofNat 8192 (src (ix1 r)).toNat) ?_ (by norm_num)
  pointwise []
  rw [ofNat_toNat (src (ix1 r)), wrap_word (by omega)]
  simp [Nat.mod_eq_of_lt hr]

/-- One group's column, read. -/
theorem col_apply (g : ℕ) (hg : g < 4) (h : S24576x4x8.Slices ![0, g, 0] S24576x1x8) (x : FVec Ideal S24576x32 .f32) (r : Fin 24576) (e : Fin 8) :
    col g h (shapeCast _ x shapeCasts_S24576x32_S24576x4x8) (ix2 r e) = x (ix2 r ⟨8 * g + e.val, by omega⟩) := by
  unfold col
  refine (shapeCast_apply _ _ (ix2 r e) (ix3 r 0 e) ?_).trans ?_
  · rw [Shape.rowMajor_val_three, Shape.rowMajor_val_two]
    show (r.val * 1 + 0) * 8 + e.val = r.val * 8 + e.val
    omega
  refine (extractStridedSlice_apply _ _ h (ix3 r 0 e) (ix3 r ⟨g, hg⟩ e) fun a => ?_).trans ?_
  · match a with
    | 0 => show r.val = 0 + r.val; omega
    | 1 => show g = g + 0; omega
    | 2 => show e.val = 0 + e.val; omega
  refine shapeCast_apply _ _ _ _ ?_
  rw [Shape.rowMajor_val_three, Shape.rowMajor_val_two]
  show r.val * 32 + (8 * g + e.val) = (r.val * 4 + g) * 8 + e.val
  omega

/-- One group's weights, read. -/
theorem slice_apply {a b : ℕ} (g : ℕ) (hg : g < 4) (w : (⟨5, ![2, 4, 8, a, b]⟩ : Shape).Idx → EReal) (h : (⟨5, ![2, 4, 8, a, b]⟩ : Shape).Slices ![0, g, 0, 0, 0] ⟨5, ![1, 1, 8, a, b]⟩)
    (h' : (⟨5, ![1, 1, 8, a, b]⟩ : Shape).ShapeCasts ⟨3, ![8, a, b]⟩) (e : Fin 8) (k : Fin a) (f : Fin b) :
    shapeCast ⟨3, ![8, a, b]⟩ (extractStridedSlice ⟨5, ![1, 1, 8, a, b]⟩ ![0, g, 0, 0, 0] w h) h' (ix3 e k f) = ofExpert w (8 * g + e.val) k f := by
  refine (shapeCast_apply _ _ (ix3 e k f) (ix5 0 0 e k f) ?_).trans ?_
  · rw [Shape.rowMajor_val_five, Shape.rowMajor_val_three]
    show ((((0 * 1 + 0) * 8 + e.val) * a + k.val) * b + f.val) = (e.val * a + k.val) * b + f.val
    rw [show (0 * 1 + 0) * 8 + e.val = e.val by omega]
  refine extractStridedSlice_apply _ _ h (ix5 0 0 e k f) _ fun c => ?_
  match c with
  | 0 => rfl
  | 1 => show (8 * g + e.val) / 8 % 4 = g + 0; omega
  | 2 => show (8 * g + e.val) % 8 = 0 + e.val; omega
  | 3 => show k.val = 0 + k.val; omega
  | 4 => show f.val = 0 + f.val; omega

/-- A group none of whose experts is the row's adds nothing to the row. -/
theorem group_miss (T : FVec Ideal S24576x4096 .f32) (wg wu : FVec Ideal S8x4096x512 .f32) (wd : FVec Ideal S8x512x4096 .f32) (cb : FVec Ideal S24576x8 .f32) (r : Fin 24576) (d : Fin 4096)
    (hc : ∀ e, (cb (ix2 r e) : EReal) = 0) : (group T wg wu wd cb (ix2 r d) : EReal) = 0 := by
  rw [group_apply]
  refine Finset.sum_eq_zero fun e _ => Finset.sum_eq_zero fun f _ => ?_
  rw [hc, mul_zero, zero_mul]

/-- The group of the row's expert gives that expert's answer to the row. -/
theorem group_hit (T : FVec Ideal S24576x4096 .f32) (wg wu : FVec Ideal S8x4096x512 .f32) (wd : FVec Ideal S8x512x4096 .f32) (cb : FVec Ideal S24576x8 .f32) (r : Fin 24576) (d : Fin 4096)
    (e₀ : Fin 8) (hc : ∀ e, (cb (ix2 r e) : EReal) = if e = e₀ then 1 else 0) :
    (group T wg wu wd cb (ix2 r d) : EReal) = answer (fun k => T (ix2 r k)) (fun k f => wg (ix3 e₀ k f)) (fun k f => wu (ix3 e₀ k f)) (fun f d => wd (ix3 e₀ f d)) d := by
  rw [group_apply, Finset.sum_eq_single e₀]
  · unfold answer
    refine Finset.sum_congr rfl fun f _ => ?_
    rw [hc, if_pos rfl, mul_one]
  · intro e _ he
    refine Finset.sum_eq_zero fun f _ => ?_
    rw [hc, if_neg he, mul_zero, zero_mul]
  · intro h
    exact absurd (Finset.mem_univ _) h

/-- A group's part of a row: its expert's answer where the row's expert is of the group and the tile is used, else nothing. -/
theorem part (te : IVec S96 32) (nt : IVec S1 32) (src : IVec S24576 32) (h : Ranges te nt src) (H : FVec Ideal S8192x4096 .f32) (wg wu : FVec Ideal S2x4x8x4096x512 .f32) (wd : FVec Ideal S2x4x8x512x4096 .f32)
    (g : ℕ) (hg : g < 4) (s1 s2 s3 s4) (r : Fin 24576) (d : Fin 4096) (x : ℕ) (hx : (te (ix1 (Fin.ofNat 96 (r.val / 256)))).toNat = x) :
    (group (rows src H) (first g s1 wg) (first g s2 wu) (last g s3 wd) (col g s4 (shapeCast _ (hot te nt) shapeCasts_S24576x32_S24576x4x8)) (ix2 r d) : EReal)
      = if x / 8 = g ∧ r.val / 256 < (nt (ix1 0)).toNat then answer (rowOf src H r) (ofExpert wg x) (ofExpert wu x) (ofExpert wd x) d else 0 := by
  have hc : ∀ e : Fin 8, (col g s4 (shapeCast _ (hot te nt) shapeCasts_S24576x32_S24576x4x8) (ix2 r e) : EReal) = if x = 8 * g + e.val ∧ r.val / 256 < (nt (ix1 0)).toNat then 1 else 0 := fun e => by
    rw [col_apply g hg, hot_apply te nt src h, hx]
  by_cases hh : x / 8 = g ∧ r.val / 256 < (nt (ix1 0)).toNat
  · rw [if_pos hh]
    have hm : x % 8 < 8 := Nat.mod_lt _ (by norm_num)
    refine (group_hit _ _ _ _ _ r d ⟨x % 8, hm⟩ fun e => (hc e).trans ?_).trans ?_
    · refine if_congr ⟨fun q => Fin.ext ?_, fun q => ⟨?_, hh.2⟩⟩ rfl rfl
      · show e.val = x % 8
        omega
      · have : e.val = x % 8 := congrArg Fin.val q
        omega
    · have ex : 8 * g + x % 8 = x := by omega
      have f0 : (fun k => rows src H (ix2 r k)) = rowOf src H r := funext fun k => rows_apply te nt src h H r k
      have f1 : (fun k f => first g s1 wg (ix3 ⟨x % 8, hm⟩ k f)) = ofExpert wg x := by
        funext k f
        exact (slice_apply g hg wg _ _ ⟨x % 8, hm⟩ k f).trans (congrArg (fun z => ofExpert wg z k f) ex)
      have f2 : (fun k f => first g s2 wu (ix3 ⟨x % 8, hm⟩ k f)) = ofExpert wu x := by
        funext k f
        exact (slice_apply g hg wu _ _ ⟨x % 8, hm⟩ k f).trans (congrArg (fun z => ofExpert wu z k f) ex)
      have f3 : (fun k f => last g s3 wd (ix3 ⟨x % 8, hm⟩ k f)) = ofExpert wd x := by
        funext k f
        exact (slice_apply g hg wd _ _ ⟨x % 8, hm⟩ k f).trans (congrArg (fun z => ofExpert wd z k f) ex)
      rw [f0, f1, f2, f3]
  · rw [if_neg hh]
    refine group_miss _ _ _ _ _ r d fun e => (hc e).trans (if_neg fun q => hh ⟨?_, q.2⟩)
    have := e.isLt
    omega

/-- The composed term, by its parts. -/
theorem res_eq (m : (ℓ : Loc nD τ sig) → Buf (Elt Ideal) ℓ) :
    Value.res_main_v88 m 0 = addf (F := Ideal) (addf (addf (addf (broadcastInDim S24576x4096 ![] bcast_S_S24576x4096 (constant S_ .f32 0x00000000#32))
      (group (rows (m ((0 : Dev nD), main_arg2)) (m ((0 : Dev nD), main_arg3))) (first 0 slices_S2x4x8x4096x512_S1x1x8x4096x512_0_0_0_0_0 (m ((0 : Dev nD), main_arg4))) (first 0 slices_S2x4x8x4096x512_S1x1x8x4096x512_0_0_0_0_0 (m ((0 : Dev nD), main_arg5)))
        (last 0 slices_S2x4x8x512x4096_S1x1x8x512x4096_0_0_0_0_0 (m ((0 : Dev nD), main_arg6))) (col 0 slices_S24576x4x8_S24576x1x8_0_0_0 (shapeCast _ (hot (m ((0 : Dev nD), main_arg0)) (m ((0 : Dev nD), main_arg1))) shapeCasts_S24576x32_S24576x4x8))))
      (group (rows (m ((0 : Dev nD), main_arg2)) (m ((0 : Dev nD), main_arg3))) (first 1 slices_S2x4x8x4096x512_S1x1x8x4096x512_0_1_0_0_0 (m ((0 : Dev nD), main_arg4))) (first 1 slices_S2x4x8x4096x512_S1x1x8x4096x512_0_1_0_0_0 (m ((0 : Dev nD), main_arg5)))
        (last 1 slices_S2x4x8x512x4096_S1x1x8x512x4096_0_1_0_0_0 (m ((0 : Dev nD), main_arg6))) (col 1 slices_S24576x4x8_S24576x1x8_0_1_0 (shapeCast _ (hot (m ((0 : Dev nD), main_arg0)) (m ((0 : Dev nD), main_arg1))) shapeCasts_S24576x32_S24576x4x8))))
      (group (rows (m ((0 : Dev nD), main_arg2)) (m ((0 : Dev nD), main_arg3))) (first 2 slices_S2x4x8x4096x512_S1x1x8x4096x512_0_2_0_0_0 (m ((0 : Dev nD), main_arg4))) (first 2 slices_S2x4x8x4096x512_S1x1x8x4096x512_0_2_0_0_0 (m ((0 : Dev nD), main_arg5)))
        (last 2 slices_S2x4x8x512x4096_S1x1x8x512x4096_0_2_0_0_0 (m ((0 : Dev nD), main_arg6))) (col 2 slices_S24576x4x8_S24576x1x8_0_2_0 (shapeCast _ (hot (m ((0 : Dev nD), main_arg0)) (m ((0 : Dev nD), main_arg1))) shapeCasts_S24576x32_S24576x4x8))))
      (group (rows (m ((0 : Dev nD), main_arg2)) (m ((0 : Dev nD), main_arg3))) (first 3 slices_S2x4x8x4096x512_S1x1x8x4096x512_0_3_0_0_0 (m ((0 : Dev nD), main_arg4))) (first 3 slices_S2x4x8x4096x512_S1x1x8x4096x512_0_3_0_0_0 (m ((0 : Dev nD), main_arg5)))
        (last 3 slices_S2x4x8x512x4096_S1x1x8x512x4096_0_3_0_0_0 (m ((0 : Dev nD), main_arg6))) (col 3 slices_S24576x4x8_S24576x1x8_0_3_0 (shapeCast _ (hot (m ((0 : Dev nD), main_arg0)) (m ((0 : Dev nD), main_arg1))) shapeCasts_S24576x32_S24576x4x8))) := by
  unfold Value.res_main_v88
  rfl

/-- The composed term is the routed experts' answers. -/
theorem value (m : (ℓ : Loc nD τ sig) → Buf (Elt Ideal) ℓ) (h : Ranges (m ((0 : Dev nD), main_arg0)) (m ((0 : Dev nD), main_arg1)) (m ((0 : Dev nD), main_arg2))) :
    Value.res_main_v88 m 0 = routed (m ((0 : Dev nD), main_arg0)) (m ((0 : Dev nD), main_arg1)) (m ((0 : Dev nD), main_arg2)) (m ((0 : Dev nD), main_arg3))
      (m ((0 : Dev nD), main_arg4)) (m ((0 : Dev nD), main_arg5)) (m ((0 : Dev nD), main_arg6)) := by
  rw [res_eq]
  generalize (m ((0 : Dev nD), main_arg0) : IVec S96 32) = te at h ⊢
  generalize (m ((0 : Dev nD), main_arg1) : IVec S1 32) = nt at h ⊢
  generalize (m ((0 : Dev nD), main_arg2) : IVec S24576 32) = src at h ⊢
  generalize (m ((0 : Dev nD), main_arg3) : FVec Ideal S8192x4096 .f32) = H
  generalize (m ((0 : Dev nD), main_arg4) : FVec Ideal S2x4x8x4096x512 .f32) = wg
  generalize (m ((0 : Dev nD), main_arg5) : FVec Ideal S2x4x8x4096x512 .f32) = wu
  generalize (m ((0 : Dev nD), main_arg6) : FVec Ideal S2x4x8x512x4096 .f32) = wd
  clear m
  funext i
  obtain ⟨r, d, rfl⟩ : ∃ (r : Fin 24576) (d : Fin 4096), i = ix2 r d :=
    ⟨⟨(i (0 : Fin 2)).val, (i (0 : Fin 2)).isLt⟩, ⟨(i (1 : Fin 2)).val, (i (1 : Fin 2)).isLt⟩, funext fun a => by match a with | 0 => rfl | 1 => rfl⟩
  have hlt := h.te (Fin.ofNat 96 (r.val / 256))
  obtain ⟨x, hx⟩ : ∃ x, (te (ix1 (Fin.ofNat 96 (r.val / 256)))).toNat = x := ⟨_, rfl⟩
  have hz : (broadcastInDim S24576x4096 ![] bcast_S_S24576x4096 (constant (F := Ideal) S_ .f32 0x00000000#32) (ix2 r d) : EReal) = 0 := by
    pointwise []
  rw [addf_apply, addf_apply, addf_apply, addf_apply, hz, part te nt src h H wg wu wd 0 (by norm_num) _ _ _ _ r d x hx, part te nt src h H wg wu wd 1 (by norm_num) _ _ _ _ r d x hx,
    part te nt src h H wg wu wd 2 (by norm_num) _ _ _ _ r d x hx, part te nt src h H wg wu wd 3 (by norm_num) _ _ _ _ r d x hx]
  have hR : (routed te nt src H wg wu wd (ix2 r d) : EReal) = if r.val / 256 < (nt (ix1 0)).toNat then answer (rowOf src H r) (ofExpert wg x) (ofExpert wu x) (ofExpert wd x) d else 0 := by
    subst hx
    rfl
  refine Eq.trans ?_ hR.symm
  rw [hx] at hlt
  generalize answer (rowOf src H r) (ofExpert wg x) (ofExpert wu x) (ofExpert wd x) d = A
  show (0 : EReal) + _ + _ + _ + _ = _
  by_cases b : r.val / 256 < (nt (ix1 0)).toNat
  · have : x / 8 = 0 ∨ x / 8 = 1 ∨ x / 8 = 2 ∨ x / 8 = 3 := by omega
    rcases this with e | e | e | e <;> simp [e, b]
  · simp [b]
end Cert.ExpertsRefIdeal.Hand
end
-- ==== Proof.ClaimExperts.lean ====
/- The experts call's claims. -/
module
public import proofs.«01_k».proof.Defs
public import proofs.«01_k».proof.Proof.ExpertsFrame
public import proofs.«01_k».proof.Proof.ExpertsIdealVal
public import proofs.«01_k».proof.Proof.ExpertsRefVal
@[expose] public section
noncomputable section
namespace Cert.Proof
open Idealize.ShloMosaic Idealize.ShloMosaic.TcCoe Idealize.SL.Sem

/-- The experts kernel ends with its arguments as they were and nothing in flight. -/
theorem experts_frame : quiescent_Experts (hExperts := Cert.Experts.Gen.facts) (hPre_ranges := Cert.Pre_ranges.Gen.facts) := fun m ρ hp =>
  (θ_run _ _ _).mono (fun _ h => ⟨fun c => (h.1 c).2, h.2⟩) (Cert.Experts.Hand.run_kept m (Cert.Pre_ranges.Val.decode _ _ _ _ _ _ _ (hp 0)) ρ)

/-- So does the experts kernel over exact numbers. -/
theorem experts_frame_ideal : quiescent_ExpertsIdeal (hExpertsIdeal := Cert.ExpertsIdeal.Gen.facts) (hPre_ranges := Cert.Pre_ranges.Gen.facts) := fun m ρ hp =>
  (θ_run _ _ _).mono (fun _ h => ⟨fun c => (h.1 c).2, h.2⟩) (Cert.ExpertsIdeal.Hand.run_kept m (Cert.Pre_ranges.Val.decode _ _ _ _ _ _ _ (hp 0)) ρ)

/-- So does its reference. -/
theorem experts_frame_ref : quiescent_ExpertsRefIdeal (hExpertsRefIdeal := Cert.ExpertsRefIdeal.Gen.facts) (hPre_ranges := Cert.Pre_ranges.Gen.facts) := fun m ρ _ =>
  (θ_run (Cert.ExpertsRefIdeal.defs (F := Ideal)) _ _).mono
    (fun r h => ⟨fun c => (h c).2, sem_eq_zero_of_no_sems (by decide) r.2⟩) (Cert.ExpertsRefIdeal.Value.run m ρ)

/-- From arguments that agree and tables in range, the experts kernel and its reference end with the same array. -/
theorem experts_algebraic : algebraic_ExpertsIdeal_ExpertsRefIdeal (hExpertsIdeal := Cert.ExpertsIdeal.Gen.facts)
    (hExpertsRefIdeal := Cert.ExpertsRefIdeal.Gen.facts) (hPre_ranges := Cert.Pre_ranges.Gen.facts) := by
  intro m ρ m' ρ' hp hagree
  have hr := Cert.Pre_ranges.Val.decode _ _ _ _ _ _ _ (hp 0)
  refine ⟨fun _ => Cert.ExpertsIdeal.Hand.result m, ?_, ?_⟩
  · refine (θ_run (Cert.ExpertsIdeal.defs (F := Ideal)) _ _).mono (fun _ h c => ⟨(h.1 c).1.trans ?_, (h.1 c).2⟩) (Cert.ExpertsIdeal.Hand.run_kept m hr ρ)
    obtain rfl : c = 0 := Subsingleton.elim _ _
    exact Cert.ExpertsIdeal.Hand.final _ hr
  · refine (θ_run (Cert.ExpertsRefIdeal.defs (F := Ideal)) _ _).mono (fun _ h c => ⟨(h c).1.trans ?_, (h c).2⟩) (Cert.ExpertsRefIdeal.Value.run m' ρ')
    obtain rfl : c = 0 := Subsingleton.elim _ _
    obtain ⟨h0, h1, h2, h3, h4, h5, h6⟩ := hagree 0
    have hr' : Cert.Pre_ranges.Val.Ranges (m' ((0 : Dev Cert.ExpertsRefIdeal.nD), Cert.ExpertsRefIdeal.main_arg0)) (m' ((0 : Dev Cert.ExpertsRefIdeal.nD), Cert.ExpertsRefIdeal.main_arg1)) (m' ((0 : Dev Cert.ExpertsRefIdeal.nD), Cert.ExpertsRefIdeal.main_arg2)) := by
      have e0 : m' ((0 : Dev Cert.ExpertsRefIdeal.nD), Cert.ExpertsRefIdeal.main_arg0) = _ := h0
      have e1 : m' ((0 : Dev Cert.ExpertsRefIdeal.nD), Cert.ExpertsRefIdeal.main_arg1) = _ := h1
      have e2 : m' ((0 : Dev Cert.ExpertsRefIdeal.nD), Cert.ExpertsRefIdeal.main_arg2) = _ := h2
      rw [e0, e1, e2]
      exact hr
    refine (Cert.ExpertsRefIdeal.Hand.value m' hr').trans ?_
    unfold Cert.ExpertsIdeal.Hand.result
    have e0 : m' ((0 : Dev Cert.ExpertsRefIdeal.nD), Cert.ExpertsRefIdeal.main_arg0) = _ := h0
    have e1 : m' ((0 : Dev Cert.ExpertsRefIdeal.nD), Cert.ExpertsRefIdeal.main_arg1) = _ := h1
    have e2 : m' ((0 : Dev Cert.ExpertsRefIdeal.nD), Cert.ExpertsRefIdeal.main_arg2) = _ := h2
    have e3 : m' ((0 : Dev Cert.ExpertsRefIdeal.nD), Cert.ExpertsRefIdeal.main_arg3) = _ := h3
    have e4 : m' ((0 : Dev Cert.ExpertsRefIdeal.nD), Cert.ExpertsRefIdeal.main_arg4) = _ := h4
    have e5 : m' ((0 : Dev Cert.ExpertsRefIdeal.nD), Cert.ExpertsRefIdeal.main_arg5) = _ := h5
    have e6 : m' ((0 : Dev Cert.ExpertsRefIdeal.nD), Cert.ExpertsRefIdeal.main_arg6) = _ := h6
    rw [e0, e1, e2, e3, e4, e5, e6]
end Cert.Proof
end
-- ==== Proof.lean ====
/- The certificate of the decoder trunk's calls: every claim of `Cert.Claim`, each proved in its own module. -/
module

public import proofs.«01_k».proof.Defs
public import proofs.«01_k».proof.Proof.ClaimMla
public import proofs.«01_k».proof.Proof.Merge
public import proofs.«01_k».proof.Proof.InProj
public import proofs.«01_k».proof.Proof.OutProj
public import proofs.«01_k».proof.Proof.QUp
public import proofs.«01_k».proof.Proof.KvUp
public import proofs.«01_k».proof.Proof.ClaimExperts
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.QUp
public import proofs.«01_k».proof.Proof.Gen.QUp.Frame
public import proofs.«01_k».proof.Proof.Gen.QUpIdeal
public import proofs.«01_k».proof.Proof.Gen.QUpIdeal.Value
public import proofs.«01_k».proof.Proof.Gen.QUpRefIdeal
public import proofs.«01_k».proof.Proof.Gen.QUpRefIdeal.Run
public import proofs.«01_k».proof.Proof.Gen.KvUp
public import proofs.«01_k».proof.Proof.Gen.KvUp.Frame
public import proofs.«01_k».proof.Proof.Gen.KvUpIdeal
public import proofs.«01_k».proof.Proof.Gen.KvUpIdeal.Value
public import proofs.«01_k».proof.Proof.Gen.KvUpRefIdeal
public import proofs.«01_k».proof.Proof.Gen.KvUpRefIdeal.Run
public import proofs.«01_k».proof.Proof.Gen.Experts
public import proofs.«01_k».proof.Proof.Gen.ExpertsIdeal
public import proofs.«01_k».proof.Proof.Gen.ExpertsRefIdeal
public import proofs.«01_k».proof.Proof.Gen.ExpertsRefIdeal.Run
public import proofs.«01_k».proof.Proof.Gen.Pre_ranges

@[expose] public section

noncomputable section

namespace Cert.Proof

/-- Every stated claim holds. -/
theorem claim : Cert.Claim := ⟨Cert.Mla.Gen.facts, Cert.MlaIdeal.Gen.facts, Cert.MlaRefIdeal.Gen.facts,
  Cert.Merge.Gen.facts, Cert.MergeIdeal.Gen.facts, Cert.MergeRefIdeal.Gen.facts,
  Cert.InProj.Gen.facts, Cert.InProjIdeal.Gen.facts, Cert.InProjRefIdeal.Gen.facts,
  Cert.OutProj.Gen.facts, Cert.OutProjIdeal.Gen.facts, Cert.OutProjRefIdeal.Gen.facts,
  Cert.QUp.Gen.facts, Cert.QUpIdeal.Gen.facts, Cert.QUpRefIdeal.Gen.facts,
  Cert.KvUp.Gen.facts, Cert.KvUpIdeal.Gen.facts, Cert.KvUpRefIdeal.Gen.facts,
  Cert.Experts.Gen.facts, Cert.ExpertsIdeal.Gen.facts, Cert.ExpertsRefIdeal.Gen.facts,
  Cert.Pre_finite.Gen.facts, Cert.Pre_ranges.Gen.facts,
  mla_frame, mla_frame_ideal, mla_frame_pre, mla_frame_ref, mla_frame_ref_pre,
  merge_frame, merge_frame_ideal, merge_frame_ref,
  inproj_frame, inproj_frame_ideal, inproj_frame_ref,
  outproj_frame, outproj_frame_ideal, outproj_frame_ref,
  qup_frame, qup_frame_ideal, qup_frame_ref,
  kvup_frame, kvup_frame_ideal, kvup_frame_ref,
  experts_frame, experts_frame_ideal, experts_frame_ref,
  mla_preserves, mla_algebraic,
  trivial, merge_algebraic,
  trivial, inproj_algebraic,
  trivial, outproj_algebraic,
  trivial, qup_algebraic,
  trivial, kvup_algebraic,
  trivial, experts_algebraic⟩

end Cert.Proof

end
